-- ==== Defs.lean ====
def Pre_Kernel [hPre_finite_sorted_ids : Cert.Pre_finite_sorted_ids.Facts] (m : (ℓ : Loc Cert.Kernel.nD Cert.Kernel.τ Cert.Kernel.sig) → Buf (Elt Bits) ℓ) : Prop :=
  ∀ c : Dev Cert.Kernel.nD,
    (Cert.Pre_finite_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_finite_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_finite_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.1 = (fun _ => 1#1)
    ∧ (Cert.Pre_finite_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2 = (fun _ => 1#1)

def Pre_KernelIdeal [hPre_finite_sorted_ids : Cert.Pre_finite_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_finite_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_sorted_ids [hPre_finite_sorted_ids : Cert.Pre_finite_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] [hPre_finite_sorted_ids : Cert.Pre_finite_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_finite_sorted_ids : Cert.Pre_finite_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_sorted_ids [hReferenceIdeal : Cert.ReferenceIdeal.Facts] [hPre_finite_sorted_ids : Cert.Pre_finite_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_sorted_ids : Cert.Pre_finite_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_sorted_ids : Cert.Pre_finite_sorted_ids.Facts),
    quiescent_Kernel (hKernel := hKernel) (hPre_finite_sorted_ids := hPre_finite_sorted_ids)
    ∧ quiescent_KernelIdeal (hKernelIdeal := hKernelIdeal) (hPre_finite_sorted_ids := hPre_finite_sorted_ids)
    ∧ quiescent_ReferenceIdeal (hReferenceIdeal := hReferenceIdeal)
    ∧ quiescent_ReferenceIdeal_pre_finite_sorted_ids (hReferenceIdeal := hReferenceIdeal) (hPre_finite_sorted_ids := hPre_finite_sorted_ids)
    ∧ preserves_Kernel_KernelIdeal
    ∧ algebraic_KernelIdeal_ReferenceIdeal (hKernelIdeal := hKernelIdeal) (hReferenceIdeal := hReferenceIdeal) (hPre_finite_sorted_ids := hPre_finite_sorted_ids)
-- ==== Pre_finite_sorted_ids.lean ====
abbrev S32768x32 : Shape := ⟨2, ![32768, 32]⟩
abbrev S32768 : Shape := ⟨1, ![32768]⟩
abbrev S1x32 : Shape := ⟨2, ![1, 32]⟩
abbrev S_ : Shape := ⟨0, ![]⟩
abbrev S32767 : Shape := ⟨1, ![32767]⟩

class Facts : Prop where
  bcast_S_S32768 : S_.BroadcastsInDim S32768 (![] : Fin 0 → Fin S32768.rank)
  slices_S32768_S32767_0 : S32768.Slices ![0] S32767
  slices_S32768_S32767_1 : S32768.Slices ![1] S32767
  reducesTo_S32767_S_d0 : S32767.ReducesTo [0] S_
  h_S_ : 0 < S_.numel
  bcast_S_S32768x32 : S_.BroadcastsInDim S32768x32 (![] : Fin 0 → Fin S32768x32.rank)
  reducesTo_S32768x32_S_d0_1 : S32768x32.ReducesTo [0, 1] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S32768x32 .f32) (main_arg1 : IVec S32768 32) (main_arg2 : FVec F S1x32 .f32) : IVec S32768 1 × IVec S_ 1 × IVec S_ 1 × IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 16#32
  let main_v2 : IVec S32768 32 := broadcastInDim S32768 ![] bcast_S_S32768 main_c_0
  let main_v3 : IVec S32768 1 := cmpi .slt main_arg1 main_v2
  let main_v4 : IVec S32768 1 := andi main_v1 main_v3
  let main_v5 : IVec S32767 32 := (extractStridedSlice S32767 ![0] · slices_S32768_S32767_0) main_arg1
  let main_v6 : IVec S32767 32 := (extractStridedSlice S32767 ![1] · slices_S32768_S32767_1) main_arg1
  let main_v7 : IVec S32767 1 := cmpi .sle main_v5 main_v6
  let main_c_1 : IVec S_ 1 := constantI S_ 1 1#1
  let main_v8 : IVec S_ 1 := (fun x v => Host.reduce IntOp.andi x v reducesTo_S32767_S_d0 h_S_) main_v7 main_c_1
  let main_v9 : FVec F S32768x32 .f32 := Host.absf main_arg0
  let main_cst : FVec F S_ .f32 := constant S_ .f32 0x7F800000#32
  let main_v10 : FVec F S32768x32 .f32 := broadcastInDim S32768x32 ![] bcast_S_S32768x32 main_cst
  let main_v11 : IVec S32768x32 1 := cmpf .olt main_v9 main_v10
  let main_c_2 : IVec S_ 1 := constantI S_ 1 1#1
  let main_v12 : IVec S_ 1 := (fun x v => Host.reduce IntOp.andi x v reducesTo_S32768x32_S_d0_1 h_S_) main_v11 main_c_2
  let main_v13 : FVec F S1x32 .f32 := Host.absf main_arg2
  let main_cst_3 : FVec F S_ .f32 := constant S_ .f32 0x7F800000#32
  let main_v14 : FVec F S1x32 .f32 := broadcastInDim S1x32 ![] bcast_S_S1x32 main_cst_3
  let main_v15 : IVec S1x32 1 := cmpf .olt main_v13 main_v14
  let main_c_4 : IVec S_ 1 := constantI S_ 1 1#1
  let main_v16 : IVec S_ 1 := (fun x v => Host.reduce IntOp.andi x v reducesTo_S1x32_S_d0_1 h_S_) main_v15 main_c_4
  (main_v4, main_v8, main_v12, main_v16)
-- ==== Kernel.lean ====
abbrev S32768x32 : Shape := ⟨2, ![32768, 32]⟩
abbrev S32768 : Shape := ⟨1, ![32768]⟩
abbrev S1x32 : Shape := ⟨2, ![1, 32]⟩
abbrev S32x32768 : Shape := ⟨2, ![32, 32768]⟩
abbrev S32x16384 : Shape := ⟨2, ![32, 16384]⟩
abbrev S16384 : Shape := ⟨1, ![16384]⟩
abbrev S32x1 : Shape := ⟨2, ![32, 1]⟩
abbrev S2048 : Shape := ⟨1, ![2048]⟩
abbrev S2064 : Shape := ⟨1, ![2064]⟩
abbrev S16 : Shape := ⟨1, ![16]⟩
abbrev S256 : Shape := ⟨1, ![256]⟩
abbrev S128 : Shape := ⟨1, ![128]⟩
abbrev S_ : Shape := ⟨0, ![]⟩
abbrev S1 : Shape := ⟨1, ![1]⟩
abbrev S32768x1 : Shape := ⟨2, ![32768, 1]⟩

abbrev nBuf : Table → Nat
  | .hbm => 7
  | .local .tc .vmem => 5
  | .shared => 2
  | .local .scVector .vmem => 9
  | _ => 0

abbrev bufTy : (tb : Table) → Fin (nBuf tb) → BufTy
  | .hbm, ⟨0, _⟩ => ⟨S32768x32, .f32⟩
  | .hbm, ⟨1, _⟩ => ⟨S32768, .i32⟩
  | .hbm, ⟨2, _⟩ => ⟨S1x32, .f32⟩
  | .hbm, ⟨3, _⟩ => ⟨S32x32768, .f32⟩
  | .hbm, ⟨4, _⟩ => ⟨S32768, .f32⟩
  | .hbm, ⟨5, _⟩ => ⟨S32768, .f32⟩
  | .hbm, ⟨6, _⟩ => ⟨S32768x1, .f32⟩
  | .local .tc .vmem, ⟨0, _⟩ => ⟨S32x16384, .f32⟩
  | .local .tc .vmem, ⟨1, _⟩ => ⟨S32x16384, .f32⟩
  | .local .tc .vmem, ⟨2, _⟩ => ⟨S1x32, .f32⟩
  | .local .tc .vmem, ⟨3, _⟩ => ⟨S16384, .f32⟩
  | .local .tc .vmem, ⟨4, _⟩ => ⟨S16384, .f32⟩
  | .shared, ⟨0, _⟩ => ⟨S256, .f32⟩
  | .shared, ⟨1, _⟩ => ⟨S256, .f32⟩
  | .local .scVector .vmem, ⟨0, _⟩ => ⟨S2048, .f32⟩
  | .local .scVector .vmem, ⟨1, _⟩ => ⟨S2064, .i32⟩
  | .local .scVector .vmem, ⟨2, _⟩ => ⟨S16, .f32⟩
  | .local .scVector .vmem, ⟨3, _⟩ => ⟨S256, .f32⟩
  | .local .scVector .vmem, ⟨4, _⟩ => ⟨S16, .f32⟩
  | .local .scVector .vmem, ⟨5, _⟩ => ⟨S2048, .f32⟩
  | .local .scVector .vmem, ⟨6, _⟩ => ⟨S16, .f32⟩
  | .local .scVector .vmem, ⟨7, _⟩ => ⟨S128, .f32⟩
  | .local .scVector .vmem, ⟨8, _⟩ => ⟨S128, .f32⟩
  | _, _ => ⟨S32768x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 5 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v1_scv : Ref sig .scVector := ⟨.hbm, 4, rfl⟩
abbrev main_arg1_scv : Ref sig .scVector := ⟨.hbm, 1, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch9 : Ref sig .scVector := ⟨.shared, 0, rfl⟩
abbrev cc1_scratch10 : Ref sig .scVector := ⟨.shared, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 16], ![false, false]⟩

def k1_off1 (i : grid1.Coords) : Fin 1 → Nat :=
  let arg1 : BitVec 32 := BitVec.ofNat 32 (i 1).val
  let c2048_i32 : BitVec 32 := 2048#32
  let v0 : BitVec 32 := Scalar.muli arg1 c2048_i32
  ![v0.toNat]
@[reducible] def k1_t1_loop (v12 : BitVec 32) (v19 : BitVec 32) : Scf.Loop 32 :=
  let c1_i32 : BitVec 32 := 1#32
  let v20 : BitVec 32 := Scalar.addi v19 c1_i32
  let v21 : BitVec 32 := Scalar.subi v20 v12
  let c1_i32_3 : BitVec 32 := 1#32
  let v23 : BitVec 32 := Scalar.divsi v21 c1_i32_3
  let v24 : BitVec 32 := Scalar.muli v23 c1_i32_3
  let v25 : BitVec 32 := Scalar.addi v12 v24
  let c1_i32_4 : BitVec 32 := 1#32
  ⟨v12, v25, c1_i32_4⟩

@[reducible] def k1_t2_loop : Scf.Loop 32 :=
  let c0_i32_76 : BitVec 32 := 0#32
  let c32_i32 : BitVec 32 := 32#32
  let v246 : BitVec 32 := Scalar.addi c0_i32_76 c32_i32
  let c1_i32_77 : BitVec 32 := 1#32
  ⟨c0_i32_76, v246, c1_i32_77⟩
def k1_off2 (k1_t2 : Fin k1_t2_loop.trips) (c0_i32_81 : BitVec 32) : Fin 1 → Nat :=
  let c4_i32_80 : BitVec 32 := 4#32
  let c0_i32_76 : BitVec 32 := 0#32
  let c1_i32_77 : BitVec 32 := 1#32
  let arg17 : BitVec 32 := Scf.iv c0_i32_76 c1_i32_77 k1_t2
  let v302 : BitVec 32 := Scalar.muli c4_i32_80 arg17
  let v303 : BitVec 32 := Scalar.addi v302 c0_i32_81
  let c16_i32_82 : BitVec 32 := 16#32
  let v304 : BitVec 32 := Scalar.muli v303 c16_i32_82
  let v305 : Index := Scalar.indexCast v304
  ![v305.toNat]
def k1_off3 (k1_t2 : Fin k1_t2_loop.trips) (c0_i32_81 : BitVec 32) : Fin 1 → Nat :=
  let c4_i32_80 : BitVec 32 := 4#32
  let c0_i32_76 : BitVec 32 := 0#32
  let c1_i32_77 : BitVec 32 := 1#32
  let arg17 : BitVec 32 := Scf.iv c0_i32_76 c1_i32_77 k1_t2
  let v302 : BitVec 32 := Scalar.muli c4_i32_80 arg17
  let v303 : BitVec 32 := Scalar.addi v302 c0_i32_81
  let c16_i32_82 : BitVec 32 := 16#32
  let v304 : BitVec 32 := Scalar.muli v303 c16_i32_82
  let v309 : Index := Scalar.indexCast v304
  ![v309.toNat]

def k1_chk2 (v298 : IVec S16 32) : Prop :=
  (∀ a x, ((![v298] : Fin 1 → IVec S16 32) a x).toNat < S16.size a)
theorem k1_idx1_inb : ∀ (v298 : IVec S16 32) (k1_hw2 : k1_chk2 v298), ∀ a x, ((![v298] : Fin 1 → IVec S16 32) a x).toNat < S16.size a := fun v298 k1_hw2 => k1_hw2
@[reducible] def k1_t3_loop (v12 : BitVec 32) (v19 : BitVec 32) : Scf.Loop 32 :=
  let c1_i32 : BitVec 32 := 1#32
  let v20 : BitVec 32 := Scalar.addi v19 c1_i32
  let v21 : BitVec 32 := Scalar.subi v20 v12
  let c1_i32_3 : BitVec 32 := 1#32
  let v23 : BitVec 32 := Scalar.divsi v21 c1_i32_3
  let v24 : BitVec 32 := Scalar.muli v23 c1_i32_3
  let v25 : BitVec 32 := Scalar.addi v12 v24
  let v22 : BitVec 32 := Scalar.addi v12 v21
  let c1_i32_5 : BitVec 32 := 1#32
  ⟨v25, v22, c1_i32_5⟩

def k1_chk1 (v12 : BitVec 32) (v19 : BitVec 32) : Prop :=
  ((k1_t1_loop v12 v19).OK) ∧
  ((k1_t3_loop v12 v19).OK)
theorem k1_t1_ok : ∀ (v12 : BitVec 32) (v19 : BitVec 32) (k1_hw1 : k1_chk1 v12 v19), (k1_t1_loop v12 v19).OK := fun v12 v19 k1_hw1 => k1_hw1.1
theorem k1_t3_ok : ∀ (v12 : BitVec 32) (v19 : BitVec 32) (k1_hw1 : k1_chk1 v12 v19), (k1_t3_loop v12 v19).OK := fun v12 v19 k1_hw1 => k1_hw1.2

@[reducible] def k1_t4_loop : Scf.Loop 32 :=
  let c0_i32_76 : BitVec 32 := 0#32
  let c32_i32 : BitVec 32 := 32#32
  let v246 : BitVec 32 := Scalar.addi c0_i32_76 c32_i32
  let c1_i32_77 : BitVec 32 := 1#32
  ⟨c0_i32_76, v246, c1_i32_77⟩
def k1_off4 (k1_t4 : Fin k1_t4_loop.trips) (c0_i32_81 : BitVec 32) : Fin 1 → Nat :=
  let c4_i32_80 : BitVec 32 := 4#32
  let c0_i32_76 : BitVec 32 := 0#32
  let c1_i32_77 : BitVec 32 := 1#32
  let arg17 : BitVec 32 := Scf.iv c0_i32_76 c1_i32_77 k1_t4
  let v302 : BitVec 32 := Scalar.muli c4_i32_80 arg17
  let v303 : BitVec 32 := Scalar.addi v302 c0_i32_81
  let c16_i32_82 : BitVec 32 := 16#32
  let v304 : BitVec 32 := Scalar.muli v303 c16_i32_82
  let v305 : Index := Scalar.indexCast v304
  ![v305.toNat]
def k1_off5 (k1_t4 : Fin k1_t4_loop.trips) (c0_i32_81 : BitVec 32) : Fin 1 → Nat :=
  let c4_i32_80 : BitVec 32 := 4#32
  let c0_i32_76 : BitVec 32 := 0#32
  let c1_i32_77 : BitVec 32 := 1#32
  let arg17 : BitVec 32 := Scf.iv c0_i32_76 c1_i32_77 k1_t4
  let v302 : BitVec 32 := Scalar.muli c4_i32_80 arg17
  let v303 : BitVec 32 := Scalar.addi v302 c0_i32_81
  let c16_i32_82 : BitVec 32 := 16#32
  let v304 : BitVec 32 := Scalar.muli v303 c16_i32_82
  let v309 : Index := Scalar.indexCast v304
  ![v309.toNat]

def k1_chk3 (v298 : IVec S16 32) : Prop :=
  (∀ a x, ((![v298] : Fin 1 → IVec S16 32) a x).toNat < S16.size a)
theorem k1_idx2_inb : ∀ (v298 : IVec S16 32) (k1_hw3 : k1_chk3 v298), ∀ a x, ((![v298] : Fin 1 → IVec S16 32) a x).toNat < S16.size a := fun v298 k1_hw3 => k1_hw3
def k1_off6 (i : grid1.Coords) : Fin 1 → Nat :=
  let arg1 : BitVec 32 := BitVec.ofNat 32 (i 1).val
  let c16_i32 : BitVec 32 := 16#32
  let v26 : BitVec 32 := Scalar.muli arg1 c16_i32
  ![v26.toNat]
@[reducible] def k1_t5_loop : Scf.Loop 32 :=
  let c0_i32_11 : BitVec 32 := 0#32
  let c128_i32 : BitVec 32 := 128#32
  let v61 : BitVec 32 := Scalar.addi c0_i32_11 c128_i32
  let c1_i32_12 : BitVec 32 := 1#32
  ⟨c0_i32_11, v61, c1_i32_12⟩
def k1_off7 (k1_t5 : Fin k1_t5_loop.trips) : Fin 1 → Nat :=
  let c0_i32_73 : BitVec 32 := 0#32
  let c0_i32_11 : BitVec 32 := 0#32
  let c1_i32_12 : BitVec 32 := 1#32
  let arg16 : BitVec 32 := Scf.iv c0_i32_11 c1_i32_12 k1_t5
  let c1_i32_72 : BitVec 32 := 1#32
  let v242 : BitVec 32 := Scalar.muli arg16 c1_i32_72
  let v243 : BitVec 32 := Scalar.addi c0_i32_73 v242
  let c16_i32_74 : BitVec 32 := 16#32
  let v244 : BitVec 32 := Scalar.muli v243 c16_i32_74
  let v245 : Index := Scalar.indexCast v244
  ![v245.toNat]

def k1_chk4 (v246 : IVec S16 32) : Prop :=
  (∀ a x, ((![v246] : Fin 1 → IVec S16 32) a x).toNat < S16.size a)
theorem k1_idx3_inb : ∀ (v246 : IVec S16 32) (k1_hw4 : k1_chk4 v246), ∀ a x, ((![v246] : Fin 1 → IVec S16 32) a x).toNat < S16.size a := fun v246 k1_hw4 => k1_hw4
def k1_off8 (k1_t5 : Fin k1_t5_loop.trips) : Fin 1 → Nat :=
  let c0_i32_73 : BitVec 32 := 0#32
  let c0_i32_11 : BitVec 32 := 0#32
  let c1_i32_12 : BitVec 32 := 1#32
  let arg16 : BitVec 32 := Scf.iv c0_i32_11 c1_i32_12 k1_t5
  let c1_i32_72 : BitVec 32 := 1#32
  let v242 : BitVec 32 := Scalar.muli arg16 c1_i32_72
  let v243 : BitVec 32 := Scalar.addi c0_i32_73 v242
  let c16_i32_74 : BitVec 32 := 16#32
  let v244 : BitVec 32 := Scalar.muli v243 c16_i32_74
  let v248 : Index := Scalar.indexCast v244
  ![v248.toNat]

def k1_chk5 (v254 : IVec S16 32) : Prop :=
  (∀ a x, ((![v254] : Fin 1 → IVec S16 32) a x).toNat < S128.size a)
theorem k1_idx4_inb : ∀ (v254 : IVec S16 32) (k1_hw5 : k1_chk5 v254), ∀ a x, ((![v254] : Fin 1 → IVec S16 32) a x).toNat < S128.size a := fun v254 k1_hw5 => k1_hw5
@[reducible] def k1_t6_loop : Scf.Loop 32 :=
  let c0_i32_15 : BitVec 32 := 0#32
  let c8_i32 : BitVec 32 := 8#32
  let v63 : BitVec 32 := Scalar.addi c0_i32_15 c8_i32
  let c1_i32_16 : BitVec 32 := 1#32
  ⟨c0_i32_15, v63, c1_i32_16⟩
def k1_off9 (k1_t6 : Fin k1_t6_loop.trips) : Fin 1 → Nat :=
  let c0_i32_15 : BitVec 32 := 0#32
  let c1_i32_16 : BitVec 32 := 1#32
  let arg16 : BitVec 32 := Scf.iv c0_i32_15 c1_i32_16 k1_t6
  let c16_i32_72 : BitVec 32 := 16#32
  let v242 : BitVec 32 := Scalar.muli arg16 c16_i32_72
  let v243 : Index := Scalar.indexCast v242
  ![v243.toNat]

def k1_chk6 (v372 : IVec S16 32) : Prop :=
  (∀ a x, ((![v372] : Fin 1 → IVec S16 32) a x).toNat < S16.size a)
theorem k1_idx5_inb : ∀ (v372 : IVec S16 32) (k1_hw6 : k1_chk6 v372), ∀ a x, ((![v372] : Fin 1 → IVec S16 32) a x).toNat < S16.size a := fun v372 k1_hw6 => k1_hw6
def k1_off10 (k1_t6 : Fin k1_t6_loop.trips) : Fin 1 → Nat :=
  let c0_i32_15 : BitVec 32 := 0#32
  let c1_i32_16 : BitVec 32 := 1#32
  let arg16 : BitVec 32 := Scf.iv c0_i32_15 c1_i32_16 k1_t6
  let c16_i32_72 : BitVec 32 := 16#32
  let v242 : BitVec 32 := Scalar.muli arg16 c16_i32_72
  let v379 : Index := Scalar.indexCast v242
  ![v379.toNat]
@[reducible] def k1_t7_loop : Scf.Loop 32 :=
  let c0_i32_18 : BitVec 32 := 0#32
  let c128_i32_19 : BitVec 32 := 128#32
  let v65 : BitVec 32 := Scalar.addi c0_i32_18 c128_i32_19
  let c1_i32_20 : BitVec 32 := 1#32
  ⟨c0_i32_18, v65, c1_i32_20⟩
def k1_off11 (k1_t7 : Fin k1_t7_loop.trips) : Fin 1 → Nat :=
  let c0_i32_73 : BitVec 32 := 0#32
  let c0_i32_18 : BitVec 32 := 0#32
  let c1_i32_20 : BitVec 32 := 1#32
  let arg16 : BitVec 32 := Scf.iv c0_i32_18 c1_i32_20 k1_t7
  let c1_i32_72 : BitVec 32 := 1#32
  let v242 : BitVec 32 := Scalar.muli arg16 c1_i32_72
  let v243 : BitVec 32 := Scalar.addi c0_i32_73 v242
  let c16_i32_74 : BitVec 32 := 16#32
  let v244 : BitVec 32 := Scalar.muli v243 c16_i32_74
  let v245 : Index := Scalar.indexCast v244
  ![v245.toNat]
def k1_off12 (k1_t7 : Fin k1_t7_loop.trips) : Fin 1 → Nat :=
  let c0_i32_73 : BitVec 32 := 0#32
  let c0_i32_18 : BitVec 32 := 0#32
  let c1_i32_20 : BitVec 32 := 1#32
  let arg16 : BitVec 32 := Scf.iv c0_i32_18 c1_i32_20 k1_t7
  let c1_i32_72 : BitVec 32 := 1#32
  let v242 : BitVec 32 := Scalar.muli arg16 c1_i32_72
  let v243 : BitVec 32 := Scalar.addi c0_i32_73 v242
  let c16_i32_74 : BitVec 32 := 16#32
  let v244 : BitVec 32 := Scalar.muli v243 c16_i32_74
  let v247 : Index := Scalar.indexCast v244
  ![v247.toNat]

def k1_chk7 (v372 : IVec S16 32) : Prop :=
  (∀ a x, ((![v372] : Fin 1 → IVec S16 32) a x).toNat < S128.size a)
theorem k1_idx6_inb : ∀ (v372 : IVec S16 32) (k1_hw7 : k1_chk7 v372), ∀ a x, ((![v372] : Fin 1 → IVec S16 32) a x).toNat < S128.size a := fun v372 k1_hw7 => k1_hw7
def k1_off13 (k1_t7 : Fin k1_t7_loop.trips) : Fin 1 → Nat :=
  let c0_i32_73 : BitVec 32 := 0#32
  let c0_i32_18 : BitVec 32 := 0#32
  let c1_i32_20 : BitVec 32 := 1#32
  let arg16 : BitVec 32 := Scf.iv c0_i32_18 c1_i32_20 k1_t7
  let c1_i32_72 : BitVec 32 := 1#32
  let v242 : BitVec 32 := Scalar.muli arg16 c1_i32_72
  let v243 : BitVec 32 := Scalar.addi c0_i32_73 v242
  let c16_i32_105 : BitVec 32 := 16#32
  let v375 : BitVec 32 := Scalar.muli v243 c16_i32_105
  let c1_i32_106 : BitVec 32 := 1#32
  let v376 : BitVec 32 := Scalar.addi v375 c1_i32_106
  let v377 : Index := Scalar.indexCast v376
  ![v377.toNat]

def k1_chk8 (v246 : IVec S16 32) : Prop :=
  (∀ a x, ((![v246] : Fin 1 → IVec S16 32) a x).toNat < S16.size a)
theorem k1_idx7_inb : ∀ (v246 : IVec S16 32) (k1_hw8 : k1_chk8 v246), ∀ a x, ((![v246] : Fin 1 → IVec S16 32) a x).toNat < S16.size a := fun v246 k1_hw8 => k1_hw8

def k1_chk9 (v194 : IVec S16 32) : Prop :=
  (∀ a x, ((![v194] : Fin 1 → IVec S16 32) a x).toNat < S16.size a)
theorem k1_idx8_inb : ∀ (v194 : IVec S16 32) (k1_hw9 : k1_chk9 v194), ∀ a x, ((![v194] : Fin 1 → IVec S16 32) a x).toNat < S16.size a := fun v194 k1_hw9 => k1_hw9
def k1_off14 (i : grid1.Coords) : Fin 1 → Nat :=
  let arg1 : BitVec 32 := BitVec.ofNat 32 (i 1).val
  let c16_i32_48 : BitVec 32 := 16#32
  let v206 : BitVec 32 := Scalar.muli arg1 c16_i32_48
  ![v206.toNat]
@[reducible] def k1_t8_loop : Scf.Loop 32 :=
  let c0_i32_68 : BitVec 32 := 0#32
  let c128_i32_69 : BitVec 32 := 128#32
  let v241 : BitVec 32 := Scalar.addi c0_i32_68 c128_i32_69
  let c1_i32_70 : BitVec 32 := 1#32
  ⟨c0_i32_68, v241, c1_i32_70⟩
def k1_off15 (k1_t8 : Fin k1_t8_loop.trips) : Fin 1 → Nat :=
  let c0_i32_73 : BitVec 32 := 0#32
  let c0_i32_68 : BitVec 32 := 0#32
  let c1_i32_70 : BitVec 32 := 1#32
  let arg16 : BitVec 32 := Scf.iv c0_i32_68 c1_i32_70 k1_t8
  let c1_i32_72 : BitVec 32 := 1#32
  let v242 : BitVec 32 := Scalar.muli arg16 c1_i32_72
  let v243 : BitVec 32 := Scalar.addi c0_i32_73 v242
  let c16_i32_74 : BitVec 32 := 16#32
  let v244 : BitVec 32 := Scalar.muli v243 c16_i32_74
  let v245 : Index := Scalar.indexCast v244
  ![v245.toNat]

def k1_chk10 (v246 : IVec S16 32) : Prop :=
  (∀ a x, ((![v246] : Fin 1 → IVec S16 32) a x).toNat < S16.size a)
theorem k1_idx9_inb : ∀ (v246 : IVec S16 32) (k1_hw10 : k1_chk10 v246), ∀ a x, ((![v246] : Fin 1 → IVec S16 32) a x).toNat < S16.size a := fun v246 k1_hw10 => k1_hw10
def k1_off16 (k1_t8 : Fin k1_t8_loop.trips) : Fin 1 → Nat :=
  let c0_i32_73 : BitVec 32 := 0#32
  let c0_i32_68 : BitVec 32 := 0#32
  let c1_i32_70 : BitVec 32 := 1#32
  let arg16 : BitVec 32 := Scf.iv c0_i32_68 c1_i32_70 k1_t8
  let c1_i32_72 : BitVec 32 := 1#32
  let v242 : BitVec 32 := Scalar.muli arg16 c1_i32_72
  let v243 : BitVec 32 := Scalar.addi c0_i32_73 v242
  let c16_i32_74 : BitVec 32 := 16#32
  let v244 : BitVec 32 := Scalar.muli v243 c16_i32_74
  let v248 : Index := Scalar.indexCast v244
  ![v248.toNat]
def k1_off17 (i : grid1.Coords) : Fin 1 → Nat :=
  let arg1 : BitVec 32 := BitVec.ofNat 32 (i 1).val
  let c2048_i32 : BitVec 32 := 2048#32
  let v0 : BitVec 32 := Scalar.muli arg1 c2048_i32
  ![v0.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x32 : Shape := ⟨2, ![32768, 32]⟩
abbrev S32768 : Shape := ⟨1, ![32768]⟩
abbrev S1x32 : Shape := ⟨2, ![1, 32]⟩
abbrev S32x1 : Shape := ⟨2, ![32, 1]⟩
abbrev S32768x1 : Shape := ⟨2, ![32768, 1]⟩
abbrev S_ : Shape := ⟨0, ![]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩

abbrev nBuf : Space → Nat
  | .hbm => 49
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S32768, .i32⟩
  | .hbm, ⟨2, _⟩ => ⟨S1x32, .f32⟩
  | .hbm, ⟨3, _⟩ => ⟨S32x1, .f32⟩
  | .hbm, ⟨4, _⟩ => ⟨S32768x1, .f32⟩
  | .hbm, ⟨5, _⟩ => ⟨S_, .f32⟩
  | .hbm, ⟨6, _⟩ => ⟨S32768x1, .f32⟩
  | .hbm, ⟨7, _⟩ => ⟨S32768x1, .f32⟩
  | .hbm, ⟨8, _⟩ => ⟨S32768, .f32⟩
  | .hbm, ⟨9, _⟩ => ⟨S1x32768, .i32⟩
  | .hbm, ⟨10, _⟩ => ⟨S16, .i32⟩
  | .hbm, ⟨11, _⟩ => ⟨S16x1, .i32⟩
  | .hbm, ⟨12, _⟩ => ⟨S16x32768, .i32⟩
  | .hbm, ⟨13, _⟩ => ⟨S16x32768, .i32⟩
  | .hbm, ⟨14, _⟩ => ⟨S16x32768, .i1⟩
  | .hbm, ⟨15, _⟩ => ⟨S1x32768, .f32⟩
  | .hbm, ⟨16, _⟩ => ⟨S_, .f32⟩
  | .hbm, ⟨17, _⟩ => ⟨S_, .f32⟩
  | .hbm, ⟨18, _⟩ => ⟨S16x32768, .f32⟩
  | .hbm, ⟨19, _⟩ => ⟨S16x32768, .f32⟩
  | .hbm, ⟨20, _⟩ => ⟨S16x32768, .f32⟩
  | .hbm, ⟨21, _⟩ => ⟨S_, .f32⟩
  | .hbm, ⟨22, _⟩ => ⟨S16, .f32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S32768, .f32⟩
  | .hbm, ⟨32, _⟩ => ⟨S32768, .f32⟩
  | .hbm, ⟨33, _⟩ => ⟨S32768, .f32⟩
  | .hbm, ⟨34, _⟩ => ⟨S_, .f32⟩
  | .hbm, ⟨35, _⟩ => ⟨S16, .f32⟩
  | .hbm, ⟨36, _⟩ => ⟨S32768x1, .i32⟩
  | .hbm, ⟨37, _⟩ => ⟨S16, .f32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S_, .i32⟩
  | .hbm, ⟨42, _⟩ => ⟨S32768, .i32⟩
  | .hbm, ⟨43, _⟩ => ⟨S32768, .i32⟩
  | .hbm, ⟨44, _⟩ => ⟨S32768, .i32⟩
  | .hbm, ⟨45, _⟩ => ⟨S32768x1, .i32⟩
  | .hbm, ⟨46, _⟩ => ⟨S32768, .f32⟩
  | .hbm, ⟨47, _⟩ => ⟨S32768, .f32⟩
  | .hbm, ⟨48, _⟩ => ⟨S32768x1, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.Setup.lean ====
/-
  The setting of the SparseCore run: the program as the launch theorem sees it, the two stages of its one call, the
  resource algebra (the handshakes' rounds, the barrier cells' rounds, the shared rows' boxes, the TensorCore
  pipeline's rounds, the transfers' counters), and the arrays and scratch buffers by name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The call's two stages: the first barrier and the second -/

/-- The one call owns both stages. -/
@[reducible] def stages : Blocks 1 2 where
  first := fun _ => 0
  last := fun _ => 1
  fst := fun k => if k = 0 then 0 else 2
  blk := fun _ ι => ∃ j, ι = some j
  first_le_last := fun _ => by decide
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.le_def.mpr (Nat.zero_le _), Fin.le_def.mpr (Nat.le_of_lt_succ j.isLt), h⟩, fun ⟨j, _, _, h⟩ => ⟨j, h⟩⟩

attribute [local instance] stages

/-! ## The resource algebra -/

/-- A box: one for each phase, row of the shared array and receiving tile. -/
abbrev MKey : Type := Dev nD × Fin 2 × Fin 16 × Fin 16

abbrev UH : Type := URounds (GSem nD τ sig) ℕ
abbrev UB : Type := URounds (GSem nD τ sig) ℕ
abbrev UM : Type := URounds MKey ℕ
abbrev UP : Type := URounds (GSem nD τ sig) Unit
abbrev UU : Type := UH × (UB × (UM × (UP × Counters)))

local notation "𝕄" => MT nD τ sig (HIx 2) (Elt F) ℕ UU ℕ

abbrev EH : Emb UH (MT nD τ sig (HIx 2) (Elt F) ℕ UU ℕ) := embL
/-- The barrier cells' rounds. -/
def EB : Emb UB (MT nD τ sig (HIx 2) (Elt F) ℕ UU ℕ) :=
  ((Emb.inl : Emb UB (UB × (UM × (UP × Counters)))).trans (Emb.inr : Emb (UB × (UM × (UP × Counters))) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance
/-- The boxes' rounds. -/
def EM : Emb UM (MT nD τ sig (HIx 2) (Elt F) ℕ UU ℕ) :=
  (((Emb.inl : Emb UM (UM × (UP × Counters))).trans (Emb.inr : Emb (UM × (UP × Counters)) (UB × (UM × (UP × Counters))))).trans
    (Emb.inr : Emb (UB × (UM × (UP × Counters))) UU)).trans
    (uEmb (nD := nD) (sig := sig) (Ix := HIx 2) (Val := Elt F) (Name := ℕ) (U := UU) (Lvl := ℕ)).toEmb
instance EM_landsIn : (EM : Emb UM 𝕄).LandsIn (upEmb : UEmb _ 𝕄) := by unfold EM; infer_instance
/-- The TensorCore pipeline's rounds. -/
def EP : Emb UP (MT nD τ sig (HIx 2) (Elt F) ℕ UU ℕ) :=
  ((((Emb.inl : Emb UP (UP × Counters)).trans (Emb.inr : Emb (UP × Counters) (UM × (UP × Counters)))).trans
    (Emb.inr : Emb (UM × (UP × Counters)) (UB × (UM × (UP × Counters))))).trans
    (Emb.inr : Emb (UB × (UM × (UP × Counters))) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

/-! ## The arrays and the scratch buffers -/

/-- The utilities, as the TensorCore call leaves them. -/
abbrev uLoc (d : Dev nD) : Loc nD τ sig := (SparseCore.T d).loc main_v1
/-- The segment numbers. -/
abbrev iLoc (d : Dev nD) : Loc nD τ sig := (SparseCore.T d).loc main_arg1
/-- The result of the SparseCore call. -/
abbrev oLoc (d : Dev nD) : Loc nD τ sig := (SparseCore.T d).loc main_v2

abbrev uV : Memref sig .scVector .hbm S32768 .f32 := Memref.whole main_v1_scv
abbrev iV : Memref sig .scVector .hbm S32768 .i32 := Memref.whole main_arg1_scv
abbrev oV : Memref sig .scVector .hbm S32768 .f32 := Memref.whole main_v2_scv
abbrev ub : Memref sig .scVector .vmem S2048 .f32 := Memref.whole cc1_scratch0
abbrev idb : Memref sig .scVector .vmem S2064 .i32 := Memref.whole cc1_scratch1
abbrev lrb : Memref sig .scVector .vmem S16 .f32 := Memref.whole cc1_scratch2
abbrev allb : Memref sig .scVector .vmem S256 .f32 := Memref.whole cc1_scratch3
abbrev gb : Memref sig .scVector .vmem S16 .f32 := Memref.whole cc1_scratch4
abbrev ob : Memref sig .scVector .vmem S2048 .f32 := Memref.whole cc1_scratch5
abbrev tb : Memref sig .scVector .vmem S16 .f32 := Memref.whole cc1_scratch6
abbrev totb : Memref sig .scVector .vmem S128 .f32 := Memref.whole cc1_scratch7
abbrev offb : Memref sig .scVector .vmem S128 .f32 := Memref.whole cc1_scratch8
abbrev shA : Memref sig .scVector .shared S256 .f32 := Memref.whole cc1_scratch9
abbrev shB : Memref sig .scVector .shared S256 .f32 := Memref.whole cc1_scratch10

abbrev cV (L : grid1.Coords) : Fin τ.nSC := (L 0).castLE hcore1
abbrev jV (L : grid1.Coords) : Fin τ.nSub := (L 1).castLE hsub1
theorem bound_one : grid1.bound 1 = 16 := rfl
abbrev jL (L : grid1.Coords) : Fin 16 := Fin.cast bound_one (L 1)

end Cert.Proof.Sc

end
-- ==== Proof.Boxes.lean ====
module

public import proofs.«01_k».proof.Proof.Setup

@[expose] public section

/-! # The boxes and the barrier cells of the tiles -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

/-! ## Big separating conjunctions -/

theorem bigSep_nothing {I : Type} (s : Finset I) : (bigSep s fun _ => iprop(emp)) = (iprop(emp) : sProp 𝕄) := bigSep_emp_const s

theorem bigSep_beside {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, Ha, Hs⟩
    isplitl [Ha]
    · iapply (h a (Finset.mem_insert_self a s))
      isplitr; · iexact HR
      iexact Ha
    iapply (ih fun i hi => h i (Finset.mem_insert_of_mem hi))
    isplitr; · iexact HR
    iexact Hs

/-- A persistent resource makes every conjunct. -/
theorem bigSep_of_persistent {I : Type} [DecidableEq I] {R : sProp 𝕄} [BI.Persistent R] {s : Finset I} {Ψ : I → sProp 𝕄}
    (h : ∀ i ∈ s, R ⊢ Ψ i) : R ⊢ bigSep s Ψ := by
  have := bigSep_beside (R := R) (s := s) (Φ := fun _ => iprop(emp)) (Ψ := Ψ) fun i hi => sep_elim_left.trans (h i hi)
  rw [bigSep_nothing] at this
  iintro #H
  iapply this
  isplitl
  · iexact H
  · iempintro

theorem bigSep_beside_fupd {I : Type} [DecidableEq I] {R : sProp 𝕄} [BI.Persistent R] {s : Finset I} {Φ Ψ : I → sProp 𝕄}
    (h : ∀ i ∈ s, iprop(R ∗ Φ i) ⊢ |={Set.univ}=> Ψ i) : iprop(R ∗ bigSep s Φ) ⊢ |={Set.univ}=> bigSep s Ψ :=
  (bigSep_beside h).trans (bigSep_fupd s Ψ)

/-! ## Boxes

A tile leaves a share of its row of the shared array in a box for each of the tiles; the tile that a box is for takes the
share out once it knows that the box has been filled. -/

variable (sh : MKey → sProp (MT nD τ sig (HIx 2) (Elt F) ℕ UU ℕ))

/-- A box: still to be filled, or filled and holding its share or the mark of the tile that took it. -/
def box (x : MKey) : sProp 𝕄 :=
  iprop(roundAuth EM x 0 ∅ 0 ∨ (roundAuth EM x 1 ∅ 0 ∗ (sh x ∨ dutyTok EM x 0 0)))

instance box_storable [∀ x, BI.Storable (upEmb : UEmb _ 𝕄) (sh x)] (x : MKey) : BI.Storable (upEmb : UEmb _ 𝕄) (box sh x) := by
  unfold box roundAuth dutyTok; infer_instance

/-- Filling a box. -/
theorem box_fill (κ : ℕ) (x : MKey) :
    iprop(inv κ (box sh x) ∗ atPos EM x 0 ∅ 0 ∗ sh x) ⊢ |={Set.univ}=> (reached EM x 1 : sProp 𝕄) := by
  iintro ⟨#Hi, Hat, Hsh⟩
  imod (inv_acc (Set.mem_univ κ)) $$ Hi with ⟨Hb, Hclose⟩
  unfold box
  icases Hb with (Ha | ⟨Ha, Hb⟩)
  · imod (roundAuth_atPos_move EM 1 ∅ 0 (Nat.zero_le 1)) $$ [Ha Hat] with ⟨Ha, -⟩
    · isplitl [Ha] <;> iassumption
    imod (roundAuth_witness EM) $$ Ha with ⟨Ha, #Hr⟩
    imod Hclose $$ [Ha Hsh] with -
    · iright
      isplitl [Ha]; · iexact Ha
      ileft; iexact Hsh
    imodintro; iexact Hr
  · ihave H := (roundAuth_atPos_agree EM) $$ [Ha Hat]
    · isplitl [Ha] <;> iassumption
    icases H with %h
    exact absurd h.1 (by decide)

/-- Emptying a box. -/
theorem box_take (κ : ℕ) (x : MKey) :
    iprop(inv κ (box sh x) ∗ reached EM x 1 ∗ dutyTok EM x 0 0) ⊢ |={Set.univ}=> (sh x : sProp 𝕄) := by
  iintro ⟨#Hi, #Hr, Htok⟩
  imod (inv_acc (Set.mem_univ κ)) $$ Hi with ⟨Hb, Hclose⟩
  unfold box
  icases Hb with (Ha | ⟨Ha, (Hsh | Ht)⟩)
  · ihave H := (roundAuth_reached_le EM) $$ [Ha]
    · isplitl [Ha]
      · iexact Ha
      · iexact Hr
    icases H with %h
    exact absurd h (by decide)
  · imod Hclose $$ [Ha Htok] with -
    · iright
      isplitl [Ha]; · iexact Ha
      iright; iexact Htok
    imodintro; iexact Hsh
  · iexfalso
    iapply (dutyTok_dutyTok_false EM)
    isplitl [Ht] <;> iassumption

/-- Every box, under its name. -/
def boxes (κ : MKey → ℕ) : sProp 𝕄 := bigSep Finset.univ fun x : MKey => inv (κ x) (box sh x)

instance boxes_persistent (κ : MKey → ℕ) : BI.Persistent (boxes (F := F) sh κ) := by unfold boxes; infer_instance

/-- Tile `k`'s boxes of stage `p` are filled. -/
def dep (d : Dev nD) (p : Fin 2) (k : Fin 16) : sProp 𝕄 := bigSep Finset.univ fun j : Fin 16 => reached EM (d, p, k, j) 1

instance dep_persistent (d : Dev nD) (p : Fin 2) (k : Fin 16) : BI.Persistent (dep (F := F) d p k) := by unfold dep; infer_instance
instance dep_storable (d : Dev nD) (p : Fin 2) (k : Fin 16) : BI.Storable (upEmb : UEmb _ 𝕄) (dep (F := F) d p k) := by
  unfold dep reached; infer_instance

/-- Every tile's boxes of stage `p` are filled. -/
def depAll (d : Dev nD) (p : Fin 2) : sProp 𝕄 := bigSep Finset.univ fun k : Fin 16 => dep (F := F) d p k

instance depAll_persistent (d : Dev nD) (p : Fin 2) : BI.Persistent (depAll (F := F) d p) := by unfold depAll; infer_instance
instance depAll_storable (d : Dev nD) (p : Fin 2) : BI.Storable (upEmb : UEmb _ 𝕄) (depAll (F := F) d p) := by
  unfold depAll; infer_instance

theorem fill_all (κ : MKey → ℕ) (d : Dev nD) (p : Fin 2) (k : Fin 16) :
    iprop(boxes sh κ ∗ (bigSep Finset.univ fun j : Fin 16 => iprop(atPos EM (d, p, k, j) 0 ∅ 0 ∗ sh (d, p, k, j))))
      ⊢ |={Set.univ}=> (dep (F := F) d p k : sProp 𝕄) := by
  unfold dep
  refine bigSep_beside_fupd fun j _ => ?_
  iintro ⟨#Hb, Hat, Hsh⟩
  iapply (box_fill (F := F) sh (κ (d, p, k, j)) (d, p, k, j))
  isplitr
  · unfold boxes
    iapply (SparseCore.ent (bigSep_elim (Φ := fun x : MKey => (inv (κ x) (box sh x) : sProp 𝕄)) (Finset.mem_univ (d, p, k, j)))); iexact Hb
  isplitl [Hat] <;> iassumption

theorem take_all (κ : MKey → ℕ) (d : Dev nD) (p : Fin 2) (j : Fin 16) :
    iprop((boxes sh κ ∗ depAll d p) ∗ (bigSep Finset.univ fun k : Fin 16 => dutyTok EM (d, p, k, j) 0 0))
      ⊢ |={Set.univ}=> (bigSep Finset.univ fun k : Fin 16 => sh (d, p, k, j) : sProp 𝕄) := by
  refine bigSep_beside_fupd fun k _ => ?_
  iintro ⟨⟨#Hb, #Hd⟩, Htok⟩
  iapply (box_take (F := F) sh (κ (d, p, k, j)) (d, p, k, j))
  isplitr
  · unfold boxes
    iapply (SparseCore.ent (bigSep_elim (Φ := fun x : MKey => (inv (κ x) (box sh x) : sProp 𝕄)) (Finset.mem_univ (d, p, k, j)))); iexact Hb
  isplitr
  · unfold depAll dep
    iapply (SparseCore.ent ((bigSep_elim (Φ := fun k : Fin 16 => (bigSep Finset.univ fun j : Fin 16 => reached EM (d, p, k, j) 1 : sProp 𝕄)) (Finset.mem_univ k)).trans
      (bigSep_elim (Φ := fun j : Fin 16 => (reached EM (d, p, k, j) 1 : sProp 𝕄)) (Finset.mem_univ j)))); iexact Hd
  iexact Htok

/-! ## The barrier cells

One round on each tile's cell, of thirty-two units: duty `k` is tile `k`'s arrival at the first barrier and duty `16 + k` its
arrival at the second. -/

/-- Tile `(c, j)`'s barrier semaphore of device `d`. -/
abbrev bcell (d : Dev nD) (c : Fin τ.nSC) (j : Fin τ.nSub) : GSem nD τ sig := (V d c j, .reg sc_bar0)

theorem bar_ne_go : (sc_bar0 : Sem sig) ≠ sc_go := by decide

/-- Whether a cell is a barrier cell. -/
def isBar (g : GSem nD τ sig) : Bool :=
  match g with
  | ((_, .scVector _ _), sm) => decide (sm = .reg sc_bar0)
  | _ => false

theorem isBar_bcell (d : Dev nD) (c : Fin τ.nSC) (j : Fin τ.nSub) : isBar (bcell d c j) = true := by simp [isBar]

/-- What an arrival tells: at the first barrier that the tile's first boxes are filled, at the second that every tile's first
    boxes are and the tile's second ones. -/
def told (d : Dev nD) (n : ℕ) : sProp 𝕄 :=
  if n < 16 then dep d 0 (Fin.ofNat 16 n) else iprop(depAll d 0 ∗ dep d 1 (Fin.ofNat 16 n))

instance told_persistent (d : Dev nD) (n : ℕ) : BI.Persistent (told (F := F) d n) := by unfold told; split <;> infer_instance
instance told_storable (d : Dev nD) (n : ℕ) : BI.Storable (upEmb : UEmb _ 𝕄) (told (F := F) d n) := by
  unfold told; split <;> infer_instance

/-- The cells' schedule. -/
def bRd : Rounds.Schedule (GSem nD τ sig) ℕ (MT nD τ sig (HIx 2) (Elt F) ℕ UU ℕ) where
  duties g r := if isBar g ∧ r = 0 then Finset.range 32 else ∅
  amount _ _ _ := 1
  payload g _ n := told g.1.1 n
  amount_pos _ _ _ _ := Nat.one_pos

instance bRd_payload_storable (g : GSem nD τ sig) (r n : ℕ) : BI.Storable (upEmb : UEmb _ 𝕄) ((bRd (F := F)).payload g r n) := by
  show BI.Storable upEmb (told g.1.1 n)
  infer_instance

theorem bRd_duties (d : Dev nD) (c : Fin τ.nSC) (j : Fin τ.nSub) : (bRd (F := F)).duties (bcell d c j) 0 = Finset.range 32 := by
  show (if isBar (bcell d c j) ∧ (0 : ℕ) = 0 then Finset.range 32 else ∅) = _
  exact if_pos ⟨isBar_bcell d c j, rfl⟩
theorem bRd_duties_succ (g : GSem nD τ sig) (r : ℕ) (hr : 1 ≤ r) : (bRd (F := F)).duties g r = ∅ :=
  if_neg fun h => absurd h.2 (Nat.ne_of_gt hr)
theorem bRd_expect (d : Dev nD) (c : Fin τ.nSC) (j : Fin τ.nSub) : (bRd (F := F)).expect (bcell d c j) 0 = 32 := by
  unfold Rounds.Schedule.expect
  rw [bRd_duties]
  change ∑ _ ∈ Finset.range 32, 1 = 32
  rw [Finset.sum_const, Finset.card_range]; rfl
theorem bRd_payload (d : Dev nD) (c : Fin τ.nSC) (j : Fin τ.nSub) (n : ℕ) : (bRd (F := F)).payload (bcell d c j) 0 n = told d n := rfl

/-- Sixteen arrivals tell that every tile's first boxes are filled. -/
theorem told_first (d : Dev nD) (S : Finset ℕ) (hS : S ⊆ Finset.range 32) (hc : 16 ≤ S.card) :
    (bigSep S fun n => told (F := F) d n : sProp 𝕄) ⊢ depAll d 0 := by
  by_cases h : ∃ n ∈ S, 16 ≤ n
  · obtain ⟨n, hn, h16⟩ := h
    refine (bigSep_elim (Φ := fun n => (told (F := F) d n : sProp 𝕄)) hn).trans ?_
    unfold told
    rw [if_neg (by omega)]
    exact (show iprop(depAll d 0 ∗ dep d 1 (Fin.ofNat 16 n)) ⊢ (depAll (F := F) d 0 : sProp 𝕄) from sep_elim_left)
  · have hsub : S ⊆ Finset.range 16 := fun n hn => Finset.mem_range.mpr (by
      by_contra hh
      exact h ⟨n, hn, by omega⟩)
    have hS16 : S = Finset.range 16 := Finset.eq_of_subset_of_card_le hsub (by rw [Finset.card_range]; exact hc)
    subst hS16
    unfold depAll
    refine bigSep_of_persistent fun k _ => ?_
    refine (bigSep_elim (Φ := fun n => (told (F := F) d n : sProp 𝕄)) (Finset.mem_range.mpr k.isLt)).trans ?_
    unfold told
    rw [if_pos k.isLt, show Fin.ofNat 16 k.val = k from Fin.ext (Nat.mod_eq_of_lt k.isLt)]
    exact Entails.refl _

/-- All thirty-two tell that every tile's second boxes are filled. -/
theorem told_second (d : Dev nD) : (bigSep (Finset.range 32) fun n => told (F := F) d n : sProp 𝕄) ⊢ depAll d 1 := by
  unfold depAll
  refine bigSep_of_persistent fun k _ => ?_
  refine (bigSep_elim (Φ := fun n => (told (F := F) d n : sProp 𝕄)) (i := 16 + k.val) (Finset.mem_range.mpr (by omega))).trans ?_
  unfold told
  rw [if_neg (by omega), show Fin.ofNat 16 (16 + k.val) = k from Fin.ext (by change (16 + k.val) % 16 = k.val; omega)]
  exact (show iprop(depAll d 0 ∗ dep d 1 k) ⊢ (dep (F := F) d 1 k : sProp 𝕄) from sep_elim_right)

end Cert.Proof.Sc

end
-- ==== Proof.Rows.lean ====
module

public import proofs.«01_k».proof.Proof.Boxes

@[expose] public section

/-! # The rows of the arrays, and the shares of the shared ones -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

/-! ## The rows -/

/-- Row `j` of the sixteen rows of the long arrays. -/
def rowU (j : Fin 16) : Finset S32768.Idx := Finset.univ.filter fun i => (i 0).val / 2048 = j.val
/-- Row `j` of the sixteen rows of the shared arrays. -/
def rowS (j : Fin 16) : Finset S256.Idx := Finset.univ.filter fun i => (i 0).val / 16 = j.val

theorem mem_rowU {j : Fin 16} {i : S32768.Idx} : i ∈ rowU j ↔ (i 0).val / 2048 = j.val := by simp [rowU]
theorem mem_rowS {j : Fin 16} {i : S256.Idx} : i ∈ rowS j ↔ (i 0).val / 16 = j.val := by simp [rowS]

theorem rowU_disjoint : ∀ t ∈ (Finset.univ : Finset (Fin 16)), ∀ t' ∈ (Finset.univ : Finset (Fin 16)), t ≠ t' → Disjoint (rowU t) (rowU t') :=
  fun t _ t' _ h => Finset.disjoint_left.mpr fun i hi hi' => h (Fin.ext ((mem_rowU.mp hi).symm.trans (mem_rowU.mp hi')))
theorem rowS_disjoint : ∀ t ∈ (Finset.univ : Finset (Fin 16)), ∀ t' ∈ (Finset.univ : Finset (Fin 16)), t ≠ t' → Disjoint (rowS t) (rowS t') :=
  fun t _ t' _ h => Finset.disjoint_left.mpr fun i hi hi' => h (Fin.ext ((mem_rowS.mp hi).symm.trans (mem_rowS.mp hi')))
theorem rowU_cover : (Finset.univ : Finset (Fin 16)).biUnion rowU = Finset.univ := by
  refine Finset.eq_univ_iff_forall.mpr fun i => Finset.mem_biUnion.mpr ?_
  have hi : (i 0).val < 32768 := (i 0).isLt
  exact ⟨⟨(i 0).val / 2048, by omega⟩, Finset.mem_univ _, mem_rowU.mpr rfl⟩
theorem rowS_cover : (Finset.univ : Finset (Fin 16)).biUnion rowS = Finset.univ := by
  refine Finset.eq_univ_iff_forall.mpr fun i => Finset.mem_biUnion.mpr ?_
  have hi : (i 0).val < 256 := (i 0).isLt
  exact ⟨⟨(i 0).val / 16, by omega⟩, Finset.mem_univ _, mem_rowS.mpr rfl⟩

/-! ## The shared arrays -/

abbrev shARef (c : Fin τ.nSC) : DevRef τ sig := ⟨.shared, ⟨0, by decide⟩, c⟩
abbrev shBRef (c : Fin τ.nSC) : DevRef τ sig := ⟨.shared, ⟨1, by decide⟩, c⟩
abbrev shALoc (d : Dev nD) (c : Fin τ.nSC) : Loc nD τ sig := (d, shARef c)
abbrev shBLoc (d : Dev nD) (c : Fin τ.nSC) : Loc nD τ sig := (d, shBRef c)

/-- One sixteenth of the full share. -/
def part16 (j : Fin 16) : PosShare TreeShare := pieceOf fullShare 16 (by decide) j

/-- The full share is its sixteen sixteenths. -/
theorem pieces16 {ℓ : Loc nD τ sig} (I : Finset (Idx ℓ)) (f : Buf (Elt F) ℓ) :
    (ℓ ↦[I]{fullShare} f : sProp 𝕄) = bigSep Finset.univ fun j : Fin 16 => ℓ ↦[I]{part16 j} f := pointsTo_piecesOf I f (by decide) fullShare

/-- What is in a box: one sixteenth of a row of a shared array. -/
def shr (A B : Dev nD → ℕ → F .f32) (c : Fin τ.nSC) (x : MKey) : sProp 𝕄 :=
  if x.2.1 = 0 then shALoc x.1 c ↦[rowS x.2.2.1]{part16 x.2.2.2} fun i => A x.1 (i 0).val
  else shBLoc x.1 c ↦[rowS x.2.2.1]{part16 x.2.2.2} fun i => B x.1 (i 0).val

instance shr_storable (A B : Dev nD → ℕ → F .f32) (c : Fin τ.nSC) (x : MKey) : BI.Storable (upEmb : UEmb _ 𝕄) (shr A B c x) := by
  unfold shr; split <;> infer_instance

variable (A B : Dev nD → ℕ → F .f32) (d : Dev nD) (c : Fin τ.nSC)

theorem shr_A (k j : Fin 16) : shr A B c (d, 0, k, j) = (shALoc d c ↦[rowS k]{part16 j} (fun i => A d (i 0).val) : sProp 𝕄) := if_pos rfl
theorem shr_B (k j : Fin 16) : shr A B c (d, 1, k, j) = (shBLoc d c ↦[rowS k]{part16 j} (fun i => B d (i 0).val) : sProp 𝕄) := if_neg (show ¬ ((1 : Fin 2) = 0) by decide)

theorem shr_A_row (k : Fin 16) :
    (shALoc d c ↦[rowS k]{fullShare} (fun i => A d (i 0).val) : sProp 𝕄) = bigSep Finset.univ fun j : Fin 16 => shr A B c (d, 0, k, j) := by
  rw [pieces16 (ℓ := shALoc d c) (rowS k)]
  exact bigSep_congr fun j _ => (shr_A A B d c k j).symm
theorem shr_B_row (k : Fin 16) :
    (shBLoc d c ↦[rowS k]{fullShare} (fun i => B d (i 0).val) : sProp 𝕄) = bigSep Finset.univ fun j : Fin 16 => shr A B c (d, 1, k, j) := by
  rw [pieces16 (ℓ := shBLoc d c) (rowS k)]
  exact bigSep_congr fun j _ => (shr_B A B d c k j).symm
theorem shr_A_all (j : Fin 16) :
    (bigSep Finset.univ fun k : Fin 16 => shr A B c (d, 0, k, j)) = (shALoc d c ↦{part16 j} (fun i => A d (i 0).val) : sProp 𝕄) := by
  rw [bigSep_congr (fun k _ => shr_A A B d c k j), ← pointsTo_biUnion Finset.univ (ℓ := shALoc d c) rowS rowS_disjoint, rowS_cover]; try rfl
theorem shr_B_all (j : Fin 16) :
    (bigSep Finset.univ fun k : Fin 16 => shr A B c (d, 1, k, j)) = (shBLoc d c ↦{part16 j} (fun i => B d (i 0).val) : sProp 𝕄) := by
  rw [bigSep_congr (fun k _ => shr_B A B d c k j), ← pointsTo_biUnion Finset.univ (ℓ := shBLoc d c) rowS rowS_disjoint, rowS_cover]; try rfl

/-! ## The rows as the kernel addresses them -/

variable (L : grid1.Coords)

abbrev uRow : Memref sig .scVector .hbm S2048 .f32 := uV.slice (Rect.unit (s := S32768) (k1_off1 L) S2048.size (k1_off1_inb L)) (fun _ => rfl)
abbrev iRow : Memref sig .scVector .hbm S2048 .i32 := iV.slice (Rect.unit (s := S32768) (k1_off1 L) S2048.size (k1_off1_inb L)) (fun _ => rfl)
abbrev oRow : Memref sig .scVector .hbm S2048 .f32 := oV.slice (Rect.unit (s := S32768) (k1_off17 L) S2048.size (k1_off17_inb L)) (fun _ => rfl)
abbrev shARow : Memref sig .scVector .shared S16 .f32 := shA.slice (Rect.unit (s := S256) (k1_off6 L) S16.size (k1_off6_inb L)) (fun _ => rfl)
abbrev shBRow : Memref sig .scVector .shared S16 .f32 := shB.slice (Rect.unit (s := S256) (k1_off14 L) S16.size (k1_off14_inb L)) (fun _ => rfl)

theorem set_row2048 {off : Fin 1 → ℕ} (h) (ho : off = ![2048 * (L 1).val]) : (Rect.unit (s := S32768) off S2048.size h).set = rowU (jL L) := by
  subst ho
  refine Finset.ext fun i => Rect.mem_set_unit.trans (Iff.trans ?_ mem_rowU.symm)
  have hj : (jL L).val = (L 1).val := rfl
  constructor
  · intro hh
    have h0 : 2048 * (L 1).val ≤ (i 0).val ∧ (i 0).val < 2048 * (L 1).val + 2048 := hh 0
    omega
  · intro hh a
    obtain rfl : a = 0 := Subsingleton.elim _ _
    change 2048 * (L 1).val ≤ (i 0).val ∧ (i 0).val < 2048 * (L 1).val + 2048
    omega

theorem set_row16 {off : Fin 1 → ℕ} (h) (ho : off = ![16 * (L 1).val]) : (Rect.unit (s := S256) off S16.size h).set = rowS (jL L) := by
  subst ho
  refine Finset.ext fun i => Rect.mem_set_unit.trans (Iff.trans ?_ mem_rowS.symm)
  have hj : (jL L).val = (L 1).val := rfl
  constructor
  · intro hh
    have h0 : 16 * (L 1).val ≤ (i 0).val ∧ (i 0).val < 16 * (L 1).val + 16 := hh 0
    omega
  · intro hh a
    obtain rfl : a = 0 := Subsingleton.elim _ _
    change 16 * (L 1).val ≤ (i 0).val ∧ (i 0).val < 16 * (L 1).val + 16
    omega

theorem set_uRow : (uRow L).view.set = rowU (jL L) := (View.set_slice_whole _ _).trans (set_row2048 L _ (k1_off1_eq L))
theorem set_iRow : (iRow L).view.set = rowU (jL L) := (View.set_slice_whole _ _).trans (set_row2048 L _ (k1_off1_eq L))
theorem set_oRow : (oRow L).view.set = rowU (jL L) := (View.set_slice_whole _ _).trans (set_row2048 L _ (k1_off17_eq L))
theorem set_shARow : (shARow L).view.set = rowS (jL L) := (View.set_slice_whole _ _).trans (set_row16 L _ (k1_off6_eq L))
theorem set_shBRow : (shBRow L).view.set = rowS (jL L) := (View.set_slice_whole _ _).trans (set_row16 L _ (k1_off14_eq L))

theorem emb_row2048 {off : Fin 1 → ℕ} (h) (ho : off = ![2048 * (L 1).val]) (x : S2048.Idx) :
    ((Rect.unit (s := S32768) off S2048.size h).emb x 0).val = 2048 * (jL L).val + (x 0).val := by
  subst ho
  change 2048 * (L 1).val + 1 * (x 0).val = 2048 * (L 1).val + (x 0).val
  omega
theorem emb_row16 {off : Fin 1 → ℕ} (h) (ho : off = ![16 * (L 1).val]) (x : S16.Idx) :
    ((Rect.unit (s := S256) off S16.size h).emb x 0).val = 16 * (jL L).val + (x 0).val := by
  subst ho
  change 16 * (L 1).val + 1 * (x 0).val = 16 * (L 1).val + (x 0).val
  omega

theorem pts_uRow (f : Buf (Elt F) (uLoc d)) :
    ((uRow L).view.loc (V d (cV L) (jV L)) ↦[(uRow L).view.set]{fullShare} f : sProp 𝕄) = uLoc d ↦[rowU (jL L)]{fullShare} f := by
  rw [set_uRow]
theorem pts_iRow (f : Buf (Elt F) (iLoc d)) :
    ((iRow L).view.loc (V d (cV L) (jV L)) ↦[(iRow L).view.set]{fullShare} f : sProp 𝕄) = iLoc d ↦[rowU (jL L)]{fullShare} f := by
  rw [set_iRow]
theorem pts_oRow (f : Buf (Elt F) (oLoc d)) :
    ((oRow L).view.loc (V d (cV L) (jV L)) ↦[(oRow L).view.set]{fullShare} f : sProp 𝕄) = oLoc d ↦[rowU (jL L)]{fullShare} f := by
  rw [set_oRow]
theorem pts_shARow (f : Buf (Elt F) (shALoc d (cV L))) :
    ((shARow L).view.loc (V d (cV L) (jV L)) ↦[(shARow L).view.set]{fullShare} f : sProp 𝕄) = shALoc d (cV L) ↦[rowS (jL L)]{fullShare} f := by
  rw [set_shARow]; rfl
theorem pts_shBRow (f : Buf (Elt F) (shBLoc d (cV L))) :
    ((shBRow L).view.loc (V d (cV L) (jV L)) ↦[(shBRow L).view.set]{fullShare} f : sProp 𝕄) = shBLoc d (cV L) ↦[rowS (jL L)]{fullShare} f := by
  rw [set_shBRow]; rfl

end Cert.Proof.Sc

end
-- ==== Proof.Vec.lean ====
module

public import proofs.«01_k».proof.Proof.Setup

@[expose] public section

/-! # Rank-one buffers as functions of the position

Every buffer of the kernel has rank one, so its contents are a function of a natural number. This module
says what a load of sixteen lanes reads of such contents and what a store of sixteen lanes leaves, and it
names the gather and the scatter that the tiles use. -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

/-- Lane `k` (taken modulo sixteen). -/
def lane (k : ℕ) : S16.Idx := fun a => ⟨k % 16, by
  obtain rfl : a = 0 := Subsingleton.elim _ _
  exact Nat.mod_lt _ (by decide)⟩

theorem lane_val (k : ℕ) : (lane k 0).val = k % 16 := rfl

theorem lane_self (x : S16.Idx) : lane (x 0).val = x := funext fun a => by
  obtain rfl : a = 0 := Subsingleton.elim _ _
  exact Fin.ext (Nat.mod_eq_of_lt (x 0).isLt)

theorem lane_lt (x : S16.Idx) : (x 0).val < 16 := (x 0).isLt

theorem lane_ext {x y : S16.Idx} (h : (x 0).val = (y 0).val) : x = y := by
  rw [← lane_self x, ← lane_self y, h]

/-- Sixteen consecutive values from position `o` on. -/
def vec {α : Type} (g : ℕ → α) (o : ℕ) : S16.Idx → α := fun x => g (o + (x 0).val)

/-- Contents whose first `t` groups of sixteen are the rows `p 0`, …, `p (t - 1)`, and that are `f` further on. -/
def rowsUpTo {α : Type} (p : ℕ → S16.Idx → α) (f : ℕ → α) (t : ℕ) : ℕ → α :=
  fun k => if k < 16 * t then p (k / 16) (lane k) else f k

theorem vec_rowsUpTo_ge {α : Type} (p : ℕ → S16.Idx → α) (f : ℕ → α) {t o : ℕ} (h : 16 * t ≤ o) :
    vec (rowsUpTo p f t) o = vec f o := funext fun x => by
  simp only [vec, rowsUpTo]; rw [if_neg (by omega)]

theorem vec_rowsUpTo_lt {α : Type} (p : ℕ → S16.Idx → α) (f : ℕ → α) {t i : ℕ} (h : i < t) :
    vec (rowsUpTo p f t) (16 * i) = p i := funext fun x => by
  have hx := lane_lt x
  simp only [vec, rowsUpTo]; rw [if_pos (by omega)]
  have h1 : (16 * i + (x 0).val) / 16 = i := by omega
  have h2 : lane (16 * i + (x 0).val) = x := lane_ext (by rw [lane_val]; omega)
  rw [h1, h2]

theorem rowsUpTo_zero {α : Type} (p : ℕ → S16.Idx → α) (f : ℕ → α) : rowsUpTo p f 0 = f := funext fun k => by
  simp [rowsUpTo]

/-- A gather: lane `x` is the value at the position that the index vector names for it. -/
def gat {α : Type} (g : ℕ → α) (idx : IVec S16 32) : S16.Idx → α := fun x => g (idx x).toNat

/-- Values on sixteen lanes, as a function of the position. -/
def onLanes {α : Type} (f : S16.Idx → α) : ℕ → α := fun k => f (lane k)

theorem onLanes_val {α : Type} (f : S16.Idx → α) (i : S16.Idx) : onLanes f (i 0).val = f i := congrArg f (lane_self i)

/-- A scatter into sixteen lanes; it does nothing if some index is out of range. -/
def sca (f : Vec F S16 .f32) (idx : IVec S16 32) (v : Vec F S16 .f32) (mask : IVec S16 1) : Vec F S16 .f32 :=
  if h : ∀ a x, ((![idx] : Fin 1 → IVec S16 32) a x).toNat < S16.size a then storeIdx f ![idx] v mask false h else f

theorem sca_of (f : Vec F S16 .f32) (idx : IVec S16 32) (v : Vec F S16 .f32) (mask : IVec S16 1)
    (h : ∀ a x, ((![idx] : Fin 1 → IVec S16 32) a x).toNat < S16.size a) : storeIdx f ![idx] v mask false h = sca f idx v mask := by
  rw [sca, dif_pos h]

theorem idx_lt {n : ℕ} {idx : IVec S16 32} (h : ∀ x, (idx x).toNat < n) :
    ∀ a x, ((![idx] : Fin 1 → IVec S16 32) a x).toNat < (⟨1, ![n]⟩ : Shape).size a := fun a x => by
  obtain rfl : a = 0 := Subsingleton.elim _ _
  exact h x

theorem loadIdx_seq {n : ℕ} {e : EltTy} (g : ℕ → Elt F e) (idx : IVec S16 32) (h) :
    loadIdx (F := F) (s := ⟨1, ![n]⟩) (e := e) (fun i => g (i 0).val) ![idx] h = gat g idx := rfl

theorem loadIdx_lanes (f : Vec F S16 .f32) (idx : IVec S16 32) (h) : loadIdx f ![idx] h = gat (onLanes f) idx := funext fun x =>
  (onLanes_val f _).symm

/-! ## Loads -/

theorem unit_val {n : ℕ} (off : Fin 1 → ℕ) (h) (x : S16.Idx) :
    ((Rect.unit (s := ⟨1, ![n]⟩) off S16.size h).toLoadRect.idx x 0).val = off 0 + (x 0).val := by
  change off 0 + 1 * (x 0).val = _
  omega

theorem read_ub (off : Fin 1 → ℕ) (h) (g : ℕ → Elt F .f32) :
    View.readAt (Elt F) ub.view (Rect.unit (s := S2048) off S16.size h).toLoadRect (fun i => g (i 0).val) = vec g (off 0) :=
  funext fun x => congrArg g (unit_val off h x)

theorem read_idb (off : Fin 1 → ℕ) (h) (g : ℕ → Elt F .i32) :
    View.readAt (Elt F) idb.view (Rect.unit (s := S2064) off S16.size h).toLoadRect (fun i => g (i 0).val) = vec g (off 0) :=
  funext fun x => congrArg g (unit_val off h x)

theorem read_allb (off : Fin 1 → ℕ) (h) (g : ℕ → Elt F .f32) :
    View.readAt (Elt F) allb.view (Rect.unit (s := S256) off S16.size h).toLoadRect (fun i => g (i 0).val) = vec g (off 0) :=
  funext fun x => congrArg g (unit_val off h x)

theorem read_totb (off : Fin 1 → ℕ) (h) (g : ℕ → Elt F .f32) :
    View.readAt (Elt F) totb.view (Rect.unit (s := S128) off S16.size h).toLoadRect (fun i => g (i 0).val) = vec g (off 0) :=
  funext fun x => congrArg g (unit_val off h x)

theorem read_offb (off : Fin 1 → ℕ) (h) (g : ℕ → Elt F .f32) :
    View.readAt (Elt F) offb.view (Rect.unit (s := S128) off S16.size h).toLoadRect (fun i => g (i 0).val) = vec g (off 0) :=
  funext fun x => congrArg g (unit_val off h x)

theorem read_ob (off : Fin 1 → ℕ) (h) (g : ℕ → Elt F .f32) :
    View.readAt (Elt F) ob.view (Rect.unit (s := S2048) off S16.size h).toLoadRect (fun i => g (i 0).val) = vec g (off 0) :=
  funext fun x => congrArg g (unit_val off h x)

/-! ## Stores of sixteen lanes -/

theorem write_ub (off : Fin 1 → ℕ) (h) (f : ℕ → Elt F .f32) (p : S16.Idx → Elt F .f32) :
    ub.view.writes (Elt F) (fun i => f (i 0).val) [⟨Rect.unit (s := S2048) off S16.size h, p⟩]
      = fun i => (fun k => if off 0 ≤ k ∧ k < off 0 + 16 then p (lane (k - off 0)) else f k) (i 0).val := by
  funext i
  refine (congrFun (View.read_whole (Val := Elt F) cc1_scratch0 _) i).symm.trans ?_
  beta_reduce
  split
  · refine View.read_writes_cons_hit_of_coords ub.view _ (Rect.unit (s := S2048) off S16.size h) p [] _ i fun a => ?_
    obtain rfl : a = 0 := Subsingleton.elim _ _
    change _ = off 0 + 1 * (((i 0).val - off 0) % 16)
    omega
  · exact View.read_writes_cons_miss_of_axis ub.view _ _ [] i 0 (off 0) 16 rfl rfl rfl (by omega)

theorem write_idb (off : Fin 1 → ℕ) (h) (f : ℕ → Elt F .i32) (p : S16.Idx → Elt F .i32) :
    idb.view.writes (Elt F) (fun i => f (i 0).val) [⟨Rect.unit (s := S2064) off S16.size h, p⟩]
      = fun i => (fun k => if off 0 ≤ k ∧ k < off 0 + 16 then p (lane (k - off 0)) else f k) (i 0).val := by
  funext i
  refine (congrFun (View.read_whole (Val := Elt F) cc1_scratch1 _) i).symm.trans ?_
  beta_reduce
  split
  · refine View.read_writes_cons_hit_of_coords idb.view _ (Rect.unit (s := S2064) off S16.size h) p [] _ i fun a => ?_
    obtain rfl : a = 0 := Subsingleton.elim _ _
    change _ = off 0 + 1 * (((i 0).val - off 0) % 16)
    omega
  · exact View.read_writes_cons_miss_of_axis idb.view _ _ [] i 0 (off 0) 16 rfl rfl rfl (by omega)

theorem write_ob (off : Fin 1 → ℕ) (h) (f : ℕ → Elt F .f32) (p : S16.Idx → Elt F .f32) :
    ob.view.writes (Elt F) (fun i => f (i 0).val) [⟨Rect.unit (s := S2048) off S16.size h, p⟩]
      = fun i => (fun k => if off 0 ≤ k ∧ k < off 0 + 16 then p (lane (k - off 0)) else f k) (i 0).val := by
  funext i
  refine (congrFun (View.read_whole (Val := Elt F) cc1_scratch5 _) i).symm.trans ?_
  beta_reduce
  split
  · refine View.read_writes_cons_hit_of_coords ob.view _ (Rect.unit (s := S2048) off S16.size h) p [] _ i fun a => ?_
    obtain rfl : a = 0 := Subsingleton.elim _ _
    change _ = off 0 + 1 * (((i 0).val - off 0) % 16)
    omega
  · exact View.read_writes_cons_miss_of_axis ob.view _ _ [] i 0 (off 0) 16 rfl rfl rfl (by omega)

theorem write_offb (off : Fin 1 → ℕ) (h) (f : ℕ → Elt F .f32) (p : S16.Idx → Elt F .f32) :
    offb.view.writes (Elt F) (fun i => f (i 0).val) [⟨Rect.unit (s := S128) off S16.size h, p⟩]
      = fun i => (fun k => if off 0 ≤ k ∧ k < off 0 + 16 then p (lane (k - off 0)) else f k) (i 0).val := by
  funext i
  refine (congrFun (View.read_whole (Val := Elt F) cc1_scratch8 _) i).symm.trans ?_
  beta_reduce
  split
  · refine View.read_writes_cons_hit_of_coords offb.view _ (Rect.unit (s := S128) off S16.size h) p [] _ i fun a => ?_
    obtain rfl : a = 0 := Subsingleton.elim _ _
    change _ = off 0 + 1 * (((i 0).val - off 0) % 16)
    omega
  · exact View.read_writes_cons_miss_of_axis offb.view _ _ [] i 0 (off 0) 16 rfl rfl rfl (by omega)

theorem rowsUpTo_succ {α : Type} (p : ℕ → S16.Idx → α) (f : ℕ → α) (t o : ℕ) (ho : o = 16 * t) :
    (fun k => if o ≤ k ∧ k < o + 16 then p t (lane (k - o)) else rowsUpTo p f t k) = rowsUpTo p f (t + 1) := funext fun k => by
  subst ho
  simp only [rowsUpTo]
  split
  · rw [if_pos (by omega)]
    have h1 : k / 16 = t := by omega
    have h2 : lane (k - 16 * t) = lane k := lane_ext (by rw [lane_val, lane_val]; omega)
    rw [h1, h2]
  · split
    · rw [if_pos (by omega)]
    · rw [if_neg (by omega)]

/-! ## Whole buffers of sixteen lanes -/

theorem off_eq_zero {off : Fin 1 → ℕ} (h : ∀ a, off a + S16.size a ≤ S16.size a) : off = fun _ => 0 := funext fun a => by
  have := h a
  omega

theorem read_lrb (off : Fin 1 → ℕ) (h) (f : S16.Idx → F .f32) :
    View.readAt (Elt F) lrb.view (Rect.unit (s := S16) off S16.size h).toLoadRect f = f :=
  Memref.readAt_unit_zero (Elt F) cc1_scratch2 (off_eq_zero h) _ f

theorem write_lrb (off : Fin 1 → ℕ) (h) (f p : S16.Idx → F .f32) :
    lrb.view.writes (Elt F) f [⟨Rect.unit (s := S16) off S16.size h, p⟩] = p := by
  rw [View.writes_singleton]
  exact Memref.write_access_unit_zero_univ (Elt F) cc1_scratch2 (off_eq_zero h) _ f p

theorem read_lrb_whole (f : S16.Idx → F .f32) : (lrb.access (.whole S16)).read (Elt F) f = f := Memref.read_access_whole _ _ _

theorem write_lrb_whole (f p : S16.Idx → F .f32) : (lrb.access (.whole S16)).write (Elt F) f p Finset.univ = p :=
  Memref.write_access_whole_univ _ _ _ _

theorem read_gb (off : Fin 1 → ℕ) (h) (f : S16.Idx → F .f32) :
    View.readAt (Elt F) gb.view (Rect.unit (s := S16) off S16.size h).toLoadRect f = f :=
  Memref.readAt_unit_zero (Elt F) cc1_scratch4 (off_eq_zero h) _ f

theorem write_gb (off : Fin 1 → ℕ) (h) (f p : S16.Idx → F .f32) :
    gb.view.writes (Elt F) f [⟨Rect.unit (s := S16) off S16.size h, p⟩] = p := by
  rw [View.writes_singleton]
  exact Memref.write_access_unit_zero_univ (Elt F) cc1_scratch4 (off_eq_zero h) _ f p

theorem read_gb_whole (f : S16.Idx → F .f32) : (gb.access (.whole S16)).read (Elt F) f = f := Memref.read_access_whole _ _ _

theorem write_gb_whole (f p : S16.Idx → F .f32) : (gb.access (.whole S16)).write (Elt F) f p Finset.univ = p :=
  Memref.write_access_whole_univ _ _ _ _

theorem read_tb (off : Fin 1 → ℕ) (h) (f : S16.Idx → F .f32) :
    View.readAt (Elt F) tb.view (Rect.unit (s := S16) off S16.size h).toLoadRect f = f :=
  Memref.readAt_unit_zero (Elt F) cc1_scratch6 (off_eq_zero h) _ f

theorem write_tb (off : Fin 1 → ℕ) (h) (f p : S16.Idx → F .f32) :
    tb.view.writes (Elt F) f [⟨Rect.unit (s := S16) off S16.size h, p⟩] = p := by
  rw [View.writes_singleton]
  exact Memref.write_access_unit_zero_univ (Elt F) cc1_scratch6 (off_eq_zero h) _ f p

theorem read_tb_whole (f : S16.Idx → F .f32) : (tb.access (.whole S16)).read (Elt F) f = f := Memref.read_access_whole _ _ _

theorem write_tb_whole (f p : S16.Idx → F .f32) : (tb.access (.whole S16)).write (Elt F) f p Finset.univ = p :=
  Memref.write_access_whole_univ _ _ _ _

theorem read_totb_whole (f : S128.Idx → F .f32) : (totb.access (.whole S128)).read (Elt F) f = f := Memref.read_access_whole _ _ _

theorem write_totb_whole (f p : S128.Idx → F .f32) : (totb.access (.whole S128)).write (Elt F) f p Finset.univ = p :=
  Memref.write_access_whole_univ _ _ _ _

theorem read_offb_whole (f : S128.Idx → F .f32) : (offb.access (.whole S128)).read (Elt F) f = f := Memref.read_access_whole _ _ _

theorem write_offb_whole (f p : S128.Idx → F .f32) : (offb.access (.whole S128)).write (Elt F) f p Finset.univ = p :=
  Memref.write_access_whole_univ _ _ _ _

end Cert.Proof.Sc

end
-- ==== Proof.Model.lean ====
module

public import proofs.«01_k».proof.Proof.Vec

@[expose] public section

/-! # What one tile computes

The values that one tile of the SparseCore holds at each point of its program, as functions of its 2048
scores `u` and its 2064 segment numbers `ib` (2048 of them, then sixteen times −1), and of the two tables
that the sixteen tiles exchange. They are written with the program's own payloads, over any float values. -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The lane numbers. -/
def V1 : IVec S16 32 := iota .scVector S16 32 [0] iota_S16_d0_w32_scVector

variable (F) in
/-- The lowest segment number of a tile. -/
def lo (ib : ℕ → BitVec 32) : BitVec 32 := extractAt ![15] (k1_pay44 (F := F) (vec ib 0)) inpos_S16_p15

variable (F) in
/-- The highest segment number of a tile. -/
def hi (ib : ℕ → BitVec 32) : BitVec 32 := extractAt ![15] (k1_pay45 (F := F) (vec ib 2032)) inpos_S16_p15

/-! ## The tile's segment maxima -/

/-- The four running maxima of segment `s` after `t` trips of the inner loop. -/
def maxAcc (u : ℕ → F .f32) (ib : ℕ → BitVec 32) (s : BitVec 32) :
    ℕ → FVec F S16 .f32 × FVec F S16 .f32 × FVec F S16 .f32 × FVec F S16 .f32
  | 0 => (k1_pay5 (F := F), k1_pay6 (F := F), k1_pay7 (F := F), k1_pay8 (F := F))
  | t + 1 =>
    (k1_pay1 s (maxAcc u ib s t).1 (vec ib (64 * t)) (vec u (64 * t)),
     k1_pay2 s (maxAcc u ib s t).2.1 (vec ib (64 * t + 16)) (vec u (64 * t + 16)),
     k1_pay3 s (maxAcc u ib s t).2.2.1 (vec ib (64 * t + 32)) (vec u (64 * t + 32)),
     k1_pay9 (maxAcc u ib s t).2.2.2 (k1_pay4 (F := F) s (vec ib (64 * t + 48))) (vec u (64 * t + 48)))

/-- What the inner loop's four maxima make on the lanes: the maximum of segment `s`. -/
def maxRow (a : FVec F S16 .f32 × FVec F S16 .f32 × FVec F S16 .f32 × FVec F S16 .f32) : FVec F S16 .f32 :=
  k1_pay46 (k1_pay10 a.1 a.2.1 a.2.2.1 a.2.2.2) (k1_pay11 a.1 a.2.1 a.2.2.1 a.2.2.2) (k1_pay12 a.1 a.2.1 a.2.2.1 a.2.2.2)

/-- The tile's table of segment maxima after `t` of its segments. -/
def maxTab (u : ℕ → F .f32) (ib : ℕ → BitVec 32) : ℕ → Vec F S16 .f32
  | 0 => k1_pay43
  | t + 1 => sca (maxTab u ib t) (broadcast S16 (Scf.iv (lo F ib) 1#32 t)) (maxRow (maxAcc u ib (Scf.iv (lo F ib) 1#32 t) 32)) (k1_pay47 V1)

/-- The tile's segment maxima: −∞ for a segment without a row of the tile. -/
def locMax (u : ℕ → F .f32) (ib : ℕ → BitVec 32) : Vec F S16 .f32 := maxTab u ib (k1_t1_loop (lo F ib) (hi F ib)).trips

/-- The maximum over the sixteen rows of the exchanged table. -/
def glbMax (A : ℕ → F .f32) : FVec F S16 .f32 :=
  k1_pay51 (k1_pay50 (vec A 0) (vec A 16) (vec A 32) (vec A 48) (vec A 64) (vec A 80) (vec A 96) (vec A 112) (vec A 128)
    (vec A 144) (vec A 160) (vec A 176) (vec A 192)) (vec A 208) (vec A 224) (vec A 240)

/-! ## Exponentials and the sums of the groups of sixteen -/

/-- The segment maxima that group `t` of sixteen rows looks up. -/
def mRow (g : Vec F S16 .f32) (ib : ℕ → BitVec 32) (t : ℕ) : Vec F S16 .f32 := gat (onLanes g) (vec ib (16 * t))

/-- The exponentials of group `t`. -/
def eRow (g : Vec F S16 .f32) (u : ℕ → F .f32) (ib : ℕ → BitVec 32) (t : ℕ) : Vec F S16 .f32 :=
  k1_pay25 (mRow g ib t) (vec u (16 * t))

/-- The scores with the first `t` groups replaced by their exponentials. -/
def eUpTo (g : Vec F S16 .f32) (u : ℕ → F .f32) (ib : ℕ → BitVec 32) (t : ℕ) : ℕ → F .f32 := rowsUpTo (eRow g u ib) u t

/-- The sum of group `t`, on every lane. -/
def totRow (g : Vec F S16 .f32) (u : ℕ → F .f32) (ib : ℕ → BitVec 32) (t : ℕ) : FVec F S16 .f32 :=
  k1_pay53 (eRow g u ib t) (k1_pay26 (mRow g ib t) (vec u (16 * t))) (k1_pay27 (mRow g ib t) (vec u (16 * t)))

/-- The sums of the groups. -/
def tot (g : Vec F S16 .f32) (u : ℕ → F .f32) (ib : ℕ → BitVec 32) : ℕ → F .f32 := fun k => totRow g u ib k (lane 0)

/-! ## The sums before each group -/

/-- The running sum, on every lane, before group of groups `t`. -/
def carry (T : ℕ → F .f32) : ℕ → FVec F S16 .f32
  | 0 => k1_pay55
  | t + 1 => k1_pay56 (carry T t) (vec T (16 * t)) (k1_pay35 (vec T (16 * t)))

/-- The prefix sums of sixteen values. -/
def preRow (v : Vec F S16 .f32) : FVec F S16 .f32 := k1_pay32 V1 v (k1_pay30 V1 v (k1_pay28 V1 v) k1_pay29) k1_pay31

/-- The sum before each of the sixteen groups of group of groups `t`. -/
def offRow (T : ℕ → F .f32) (t : ℕ) : FVec F S16 .f32 :=
  k1_pay34 V1 (carry T t) (gat (onLanes (preRow (vec T (16 * t)))) (k1_pay33 V1))

/-- The sum before each group. -/
def offs (T : ℕ → F .f32) : ℕ → F .f32 := fun k => offRow T (k / 16) (lane k)

/-! ## The tile's segment sums -/

/-- The running sums at the rows of group `t`: the group's own prefix sums over the sum before the group. -/
def cumRow (e : ℕ → F .f32) (o : ℕ → F .f32) (t : ℕ) : FVec F S16 .f32 :=
  k1_pay57 V1 (vec e (16 * t)) (k1_pay39 V1 (vec e (16 * t)) (k1_pay36 V1 (vec e (16 * t))) (k1_pay37 V1) (k1_pay38 (vec e (16 * t))))
    (k1_pay40 V1) (k1_pay41 (vec e (16 * t))) (gat o (broadcast S16 (BitVec.ofNat 32 t)))

/-- The running sum at the last row of each segment among the first `t` groups. -/
def cumTab (e : ℕ → F .f32) (o : ℕ → F .f32) (ib : ℕ → BitVec 32) : ℕ → Vec F S16 .f32
  | 0 => k1_pay52
  | t + 1 => sca (cumTab e o ib t) (vec ib (16 * t)) (cumRow e o t) (k1_pay58 (F := F) (vec ib (16 * t)) (vec ib (16 * t + 1)))

/-- The running maximum of the table of running sums. -/
def topRow (c : Vec F S16 .f32) : FVec F S16 .f32 :=
  k1_pay65 V1 c (k1_pay63 V1 c (k1_pay61 V1 c (k1_pay59 V1 c) (k1_pay60 V1 c)) (k1_pay62 V1 c)) (k1_pay64 V1 c)

/-- The segment sums out of the running sums at the segments' last rows. -/
def diffs (c : Vec F S16 .f32) : FVec F S16 .f32 := k1_pay67 V1 c (gat (onLanes (topRow c)) (k1_pay66 V1))

/-- The tile's segment sums. -/
def locSum (g : Vec F S16 .f32) (u : ℕ → F .f32) (ib : ℕ → BitVec 32) : Vec F S16 .f32 :=
  diffs (cumTab (eUpTo g u ib 128) (offs (tot g u ib)) ib 128)

/-- The inverse of the sum of the sixteen rows of the exchanged table. -/
def glbInv (B : ℕ → F .f32) : FVec F S16 .f32 :=
  k1_pay69 (k1_pay68 (vec B 0) (vec B 16) (vec B 32)) (vec B 48) (vec B 64) (vec B 80) (vec B 96) (vec B 112) (vec B 128)
    (vec B 144) (vec B 160) (vec B 176) (vec B 192) (vec B 208) (vec B 224) (vec B 240)

/-- The results of group `t`. -/
def outRow (r : Vec F S16 .f32) (e : ℕ → F .f32) (ib : ℕ → BitVec 32) (t : ℕ) : FVec F S16 .f32 :=
  k1_pay70 (gat (onLanes r) (vec ib (16 * t))) (vec e (16 * t))

/-! ## The sixteen tiles together -/

/-- The scores of tile `j`. -/
def uOf (U : ℕ → F .f32) (j : ℕ) : ℕ → F .f32 := fun k => U (2048 * j + k)

/-- The segment numbers of tile `j`, followed by −1 sixteen times. -/
def ibOf (I : ℕ → BitVec 32) (j : ℕ) : ℕ → BitVec 32 :=
  fun k => if 2048 ≤ k then k1_pay42 (lane (k - 2048)) else I (2048 * j + k)

/-- The exchanged table of segment maxima. -/
def tabMax (U : ℕ → F .f32) (I : ℕ → BitVec 32) : ℕ → F .f32 := fun k => locMax (uOf U (k / 16)) (ibOf I (k / 16)) (lane k)

/-- The exchanged table of segment sums. -/
def tabSum (U : ℕ → F .f32) (I : ℕ → BitVec 32) : ℕ → F .f32 :=
  fun k => locSum (glbMax (tabMax U I)) (uOf U (k / 16)) (ibOf I (k / 16)) (lane k)

/-- The result at row `k` of tile `j`. -/
def outOf (U : ℕ → F .f32) (I : ℕ → BitVec 32) (j : ℕ) : ℕ → F .f32 := fun k =>
  outRow (glbInv (tabSum U I)) (eUpTo (glbMax (tabMax U I)) (uOf U j) (ibOf I j) 128) (ibOf I j) (k / 16) (lane k)

/-- The result at row `k`. -/
def outAll (U : ℕ → F .f32) (I : ℕ → BitVec 32) : ℕ → F .f32 := fun k => outOf U I (k / 2048) (k % 2048)

end Cert.Proof.Sc

end
-- ==== Proof.Ops.lean ====
module

public import proofs.«01_k».proof.Proof.Model

@[expose] public section

/-! # One operation of a tile at a time

The rules of the loads, stores, gathers and scatters at the buffers of a tile, with contents as functions of the position. -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)

/-! ## A tile's buffers, held whole -/

/-- The buffer `ub`, held whole, its contents a function of the position. -/
def h_ub (d : Dev nD) (L : grid1.Coords) (g : ℕ → Elt F .f32) : sProp 𝕄 :=
  ub.view.loc (V d (cV L) (jV L)) ↦{fullShare} (fun i => g (i 0).val)

/-- The buffer `idb`, held whole, its contents a function of the position. -/
def h_idb (d : Dev nD) (L : grid1.Coords) (g : ℕ → Elt F .i32) : sProp 𝕄 :=
  idb.view.loc (V d (cV L) (jV L)) ↦{fullShare} (fun i => g (i 0).val)

/-- The buffer `allb`, held whole, its contents a function of the position. -/
def h_allb (d : Dev nD) (L : grid1.Coords) (g : ℕ → Elt F .f32) : sProp 𝕄 :=
  allb.view.loc (V d (cV L) (jV L)) ↦{fullShare} (fun i => g (i 0).val)

/-- The buffer `ob`, held whole, its contents a function of the position. -/
def h_ob (d : Dev nD) (L : grid1.Coords) (g : ℕ → Elt F .f32) : sProp 𝕄 :=
  ob.view.loc (V d (cV L) (jV L)) ↦{fullShare} (fun i => g (i 0).val)

/-- The buffer `totb`, held whole, its contents a function of the position. -/
def h_totb (d : Dev nD) (L : grid1.Coords) (g : ℕ → Elt F .f32) : sProp 𝕄 :=
  totb.view.loc (V d (cV L) (jV L)) ↦{fullShare} (fun i => g (i 0).val)

/-- The buffer `offb`, held whole, its contents a function of the position. -/
def h_offb (d : Dev nD) (L : grid1.Coords) (g : ℕ → Elt F .f32) : sProp 𝕄 :=
  offb.view.loc (V d (cV L) (jV L)) ↦{fullShare} (fun i => g (i 0).val)

/-- The buffer `lrb`, held whole, its contents given on the lanes. -/
def h_lrb (d : Dev nD) (L : grid1.Coords) (f : S16.Idx → F .f32) : sProp 𝕄 :=
  lrb.view.loc (V d (cV L) (jV L)) ↦{fullShare} f

/-- The buffer `gb`, held whole, its contents given on the lanes. -/
def h_gb (d : Dev nD) (L : grid1.Coords) (f : S16.Idx → F .f32) : sProp 𝕄 :=
  gb.view.loc (V d (cV L) (jV L)) ↦{fullShare} f

/-- The buffer `tb`, held whole, its contents given on the lanes. -/
def h_tb (d : Dev nD) (L : grid1.Coords) (f : S16.Idx → F .f32) : sProp 𝕄 :=
  tb.view.loc (V d (cV L) (jV L)) ↦{fullShare} f

/-! ## One operation at the head of a tile's program -/

variable {α : Type} {Q : α → sProp (MT nD τ sig (HIx 2) (Elt F) ℕ UU ℕ)}

/-- A check that holds. -/
theorem wp_check {P : Prop} {dec : Decidable P} {k : PLift P → Prog (TpuEff nD τ sig (Elt F) Λ₀ (V d (cV L) (jV L)).2) α} (h : P) :
    wp frame (wpE (defs₀ (F := F)) 𝒱₀ (V d (cV L) (jV L)) none) Set.univ (k ⟨h⟩) Q ⊢ wp frame (wpE (defs₀ (F := F)) 𝒱₀ (V d (cV L) (jV L)) none) Set.univ (Prog.lift (TpuEff.assume P dec) >>= k) Q :=
  wp_assume 𝒱₀ (V d (cV L) (jV L)) none Set.univ h

/-- One program after another. -/
theorem wp_seq {β : Type} {p : Prog (TpuEff nD τ sig (Elt F) Λ₀ (V d (cV L) (jV L)).2) β}
    {k : β → Prog (TpuEff nD τ sig (Elt F) Λ₀ (V d (cV L) (jV L)).2) α} :
    wp frame (wpE (defs₀ (F := F)) 𝒱₀ (V d (cV L) (jV L)) none) Set.univ p (fun a => wp frame (wpE (defs₀ (F := F)) 𝒱₀ (V d (cV L) (jV L)) none) Set.univ (k a) Q) ⊢ wp frame (wpE (defs₀ (F := F)) 𝒱₀ (V d (cV L) (jV L)) none) Set.univ (p >>= k) Q := by
  rw [wp_bind]

theorem wp_load_ub (g : ℕ → Elt F .f32) {off : Fin 1 → ℕ} {h} {hl}
    {k : (S16.Idx → Elt F .f32) → Prog (TpuEff nD τ sig (Elt F) Λ₀ (V d (cV L) (jV L)).2) α} {o : ℕ} (ho : off 0 = o) :
    h_ub d L g
      ⊢ iprop((h_ub d L g -∗ wp frame (wpE (defs₀ (F := F)) 𝒱₀ (V d (cV L) (jV L)) none) Set.univ (k (vec g o)) Q)
        -∗ wp frame (wpE (defs₀ (F := F)) 𝒱₀ (V d (cV L) (jV L)) none) Set.univ (Prog.lift (.load ub (Rect.unit (s := S2048) off S16.size h).toLoadRect hl) >>= k) Q) := by
  subst ho
  have hr := read_ub (F := F) off h g
  unfold h_ub
  have := wp_load (Γ := .empty) (defs := defs₀ (F := F)) 𝒱₀ (V d (cV L) (jV L)) none Set.univ (m := ub) (r := (Rect.unit (s := S2048) off S16.size h).toLoadRect)
    (hl := hl) (k := k) (Q := Q) (q := fullShare) (S := Finset.univ) (f := (fun i => g (i 0).val)) (Finset.subset_univ _)
  rw [hr] at this
  exact this

theorem wp_load_idb (g : ℕ → Elt F .i32) {off : Fin 1 → ℕ} {h} {hl}
    {k : (S16.Idx → Elt F .i32) → Prog (TpuEff nD τ sig (Elt F) Λ₀ (V d (cV L) (jV L)).2) α} {o : ℕ} (ho : off 0 = o) :
    h_idb d L g
      ⊢ iprop((h_idb d L g -∗ wp frame (wpE (defs₀ (F := F)) 𝒱₀ (V d (cV L) (jV L)) none) Set.univ (k (vec g o)) Q)
        -∗ wp frame (wpE (defs₀ (F := F)) 𝒱₀ (V d (cV L) (jV L)) none) Set.univ (Prog.lift (.load idb (Rect.unit (s := S2064) off S16.size h).toLoadRect hl) >>= k) Q) := by
  subst ho
  have hr := read_idb (F := F) off h g
  unfold h_idb
  have := wp_load (Γ := .empty) (defs := defs₀ (F := F)) 𝒱₀ (V d (cV L) (jV L)) none Set.univ (m := idb) (r := (Rect.unit (s := S2064) off S16.size h).toLoadRect)
    (hl := hl) (k := k) (Q := Q) (q := fullShare) (S := Finset.univ) (f := (fun i => g (i 0).val)) (Finset.subset_univ _)
  rw [hr] at this
  exact this

theorem wp_load_allb (g : ℕ → Elt F .f32) {off : Fin 1 → ℕ} {h} {hl}
    {k : (S16.Idx → Elt F .f32) → Prog (TpuEff nD τ sig (Elt F) Λ₀ (V d (cV L) (jV L)).2) α} {o : ℕ} (ho : off 0 = o) :
    h_allb d L g
      ⊢ iprop((h_allb d L g -∗ wp frame (wpE (defs₀ (F := F)) 𝒱₀ (V d (cV L) (jV L)) none) Set.univ (k (vec g o)) Q)
        -∗ wp frame (wpE (defs₀ (F := F)) 𝒱₀ (V d (cV L) (jV L)) none) Set.univ (Prog.lift (.load allb (Rect.unit (s := S256) off S16.size h).toLoadRect hl) >>= k) Q) := by
  subst ho
  have hr := read_allb (F := F) off h g
  unfold h_allb
  have := wp_load (Γ := .empty) (defs := defs₀ (F := F)) 𝒱₀ (V d (cV L) (jV L)) none Set.univ (m := allb) (r := (Rect.unit (s := S256) off S16.size h).toLoadRect)
    (hl := hl) (k := k) (Q := Q) (q := fullShare) (S := Finset.univ) (f := (fun i => g (i 0).val)) (Finset.subset_univ _)
  rw [hr] at this
  exact this

theorem wp_load_ob (g : ℕ → Elt F .f32) {off : Fin 1 → ℕ} {h} {hl}
    {k : (S16.Idx → Elt F .f32) → Prog (TpuEff nD τ sig (Elt F) Λ₀ (V d (cV L) (jV L)).2) α} {o : ℕ} (ho : off 0 = o) :
    h_ob d L g
      ⊢ iprop((h_ob d L g -∗ wp frame (wpE (defs₀ (F := F)) 𝒱₀ (V d (cV L) (jV L)) none) Set.univ (k (vec g o)) Q)
        -∗ wp frame (wpE (defs₀ (F := F)) 𝒱₀ (V d (cV L) (jV L)) none) Set.univ (Prog.lift (.load ob (Rect.unit (s := S2048) off S16.size h).toLoadRect hl) >>= k) Q) := by
  subst ho
  have hr := read_ob (F := F) off h g
  unfold h_ob
  have := wp_load (Γ := .empty) (defs := defs₀ (F := F)) 𝒱₀ (V d (cV L) (jV L)) none Set.univ (m := ob) (r := (Rect.unit (s := S2048) off S16.size h).toLoadRect)
    (hl := hl) (k := k) (Q := Q) (q := fullShare) (S := Finset.univ) (f := (fun i => g (i 0).val)) (Finset.subset_univ _)
  rw [hr] at this
  exact this

theorem wp_load_totb (g : ℕ → Elt F .f32) {off : Fin 1 → ℕ} {h} {hl}
    {k : (S16.Idx → Elt F .f32) → Prog (TpuEff nD τ sig (Elt F) Λ₀ (V d (cV L) (jV L)).2) α} {o : ℕ} (ho : off 0 = o) :
    h_totb d L g
      ⊢ iprop((h_totb d L g -∗ wp frame (wpE (defs₀ (F := F)) 𝒱₀ (V d (cV L) (jV L)) none) Set.univ (k (vec g o)) Q)
        -∗ wp frame (wpE (defs₀ (F := F)) 𝒱₀ (V d (cV L) (jV L)) none) Set.univ (Prog.lift (.load totb (Rect.unit (s := S128) off S16.size h).toLoadRect hl) >>= k) Q) := by
  subst ho
  have hr := read_totb (F := F) off h g
  unfold h_totb
  have := wp_load (Γ := .empty) (defs := defs₀ (F := F)) 𝒱₀ (V d (cV L) (jV L)) none Set.univ (m := totb) (r := (Rect.unit (s := S128) off S16.size h).toLoadRect)
    (hl := hl) (k := k) (Q := Q) (q := fullShare) (S := Finset.univ) (f := (fun i => g (i 0).val)) (Finset.subset_univ _)
  rw [hr] at this
  exact this

theorem wp_load_offb (g : ℕ → Elt F .f32) {off : Fin 1 → ℕ} {h} {hl}
    {k : (S16.Idx → Elt F .f32) → Prog (TpuEff nD τ sig (Elt F) Λ₀ (V d (cV L) (jV L)).2) α} {o : ℕ} (ho : off 0 = o) :
    h_offb d L g
      ⊢ iprop((h_offb d L g -∗ wp frame (wpE (defs₀ (F := F)) 𝒱₀ (V d (cV L) (jV L)) none) Set.univ (k (vec g o)) Q)
        -∗ wp frame (wpE (defs₀ (F := F)) 𝒱₀ (V d (cV L) (jV L)) none) Set.univ (Prog.lift (.load offb (Rect.unit (s := S128) off S16.size h).toLoadRect hl) >>= k) Q) := by
  subst ho
  have hr := read_offb (F := F) off h g
  unfold h_offb
  have := wp_load (Γ := .empty) (defs := defs₀ (F := F)) 𝒱₀ (V d (cV L) (jV L)) none Set.univ (m := offb) (r := (Rect.unit (s := S128) off S16.size h).toLoadRect)
    (hl := hl) (k := k) (Q := Q) (q := fullShare) (S := Finset.univ) (f := (fun i => g (i 0).val)) (Finset.subset_univ _)
  rw [hr] at this
  exact this

theorem wp_load_lrb (g : S16.Idx → F .f32) {off : Fin 1 → ℕ} {h} {hl}
    {k : (S16.Idx → Elt F .f32) → Prog (TpuEff nD τ sig (Elt F) Λ₀ (V d (cV L) (jV L)).2) α} {o : ℕ} (ho : off 0 = o) :
    h_lrb d L g
      ⊢ iprop((h_lrb d L g -∗ wp frame (wpE (defs₀ (F := F)) 𝒱₀ (V d (cV L) (jV L)) none) Set.univ (k g) Q)
        -∗ wp frame (wpE (defs₀ (F := F)) 𝒱₀ (V d (cV L) (jV L)) none) Set.univ (Prog.lift (.load lrb (Rect.unit (s := S16) off S16.size h).toLoadRect hl) >>= k) Q) := by
  subst ho
  have hr := read_lrb (F := F) off h g
  unfold h_lrb
  have := wp_load (Γ := .empty) (defs := defs₀ (F := F)) 𝒱₀ (V d (cV L) (jV L)) none Set.univ (m := lrb) (r := (Rect.unit (s := S16) off S16.size h).toLoadRect)
    (hl := hl) (k := k) (Q := Q) (q := fullShare) (S := Finset.univ) (f := g) (Finset.subset_univ _)
  rw [hr] at this
  exact this

theorem wp_load_gb (g : S16.Idx → F .f32) {off : Fin 1 → ℕ} {h} {hl}
    {k : (S16.Idx → Elt F .f32) → Prog (TpuEff nD τ sig (Elt F) Λ₀ (V d (cV L) (jV L)).2) α} {o : ℕ} (ho : off 0 = o) :
    h_gb d L g
      ⊢ iprop((h_gb d L g -∗ wp frame (wpE (defs₀ (F := F)) 𝒱₀ (V d (cV L) (jV L)) none) Set.univ (k g) Q)
        -∗ wp frame (wpE (defs₀ (F := F)) 𝒱₀ (V d (cV L) (jV L)) none) Set.univ (Prog.lift (.load gb (Rect.unit (s := S16) off S16.size h).toLoadRect hl) >>= k) Q) := by
  subst ho
  have hr := read_gb (F := F) off h g
  unfold h_gb
  have := wp_load (Γ := .empty) (defs := defs₀ (F := F)) 𝒱₀ (V d (cV L) (jV L)) none Set.univ (m := gb) (r := (Rect.unit (s := S16) off S16.size h).toLoadRect)
    (hl := hl) (k := k) (Q := Q) (q := fullShare) (S := Finset.univ) (f := g) (Finset.subset_univ _)
  rw [hr] at this
  exact this

theorem wp_load_tb (g : S16.Idx → F .f32) {off : Fin 1 → ℕ} {h} {hl}
    {k : (S16.Idx → Elt F .f32) → Prog (TpuEff nD τ sig (Elt F) Λ₀ (V d (cV L) (jV L)).2) α} {o : ℕ} (ho : off 0 = o) :
    h_tb d L g
      ⊢ iprop((h_tb d L g -∗ wp frame (wpE (defs₀ (F := F)) 𝒱₀ (V d (cV L) (jV L)) none) Set.univ (k g) Q)
        -∗ wp frame (wpE (defs₀ (F := F)) 𝒱₀ (V d (cV L) (jV L)) none) Set.univ (Prog.lift (.load tb (Rect.unit (s := S16) off S16.size h).toLoadRect hl) >>= k) Q) := by
  subst ho
  have hr := read_tb (F := F) off h g
  unfold h_tb
  have := wp_load (Γ := .empty) (defs := defs₀ (F := F)) 𝒱₀ (V d (cV L) (jV L)) none Set.univ (m := tb) (r := (Rect.unit (s := S16) off S16.size h).toLoadRect)
    (hl := hl) (k := k) (Q := Q) (q := fullShare) (S := Finset.univ) (f := g) (Finset.subset_univ _)
  rw [hr] at this
  exact this

theorem wp_store_ub (g : ℕ → Elt F .f32) {off : Fin 1 → ℕ} {h} {p : S16.Idx → Elt F .f32} {hx} {hm}
    {k : PUnit → Prog (TpuEff nD τ sig (Elt F) Λ₀ (V d (cV L) (jV L)).2) α} {o : ℕ} (ho : off 0 = o) :
    h_ub d L g
      ⊢ iprop((h_ub d L (fun k => if o ≤ k ∧ k < o + 16 then p (lane (k - o)) else g k) -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.lift (.store ub (Rect.unit (s := S2048) off S16.size h) p Finset.univ hx hm) >>= k) Q) := by
  subst ho
  have hw := write_ub off h g p
  rw [View.writes_singleton] at hw
  unfold h_ub
  have := wp_store (Γ := .empty) (defs := defs₀ (F := F)) 𝒱₀ (V d (cV L) (jV L)) none Set.univ (m := ub) (r := Rect.unit (s := S2048) off S16.size h)
    (w := p) (Mk := Finset.univ) (hx := hx) (hm := hm) (k := k) (Q := Q) (S := Finset.univ) (f := (fun i => g (i 0).val)) (fun _ _ => Finset.mem_univ _)
  rw [hw] at this
  exact this

theorem wp_store_idb (g : ℕ → Elt F .i32) {off : Fin 1 → ℕ} {h} {p : S16.Idx → Elt F .i32} {hx} {hm}
    {k : PUnit → Prog (TpuEff nD τ sig (Elt F) Λ₀ (V d (cV L) (jV L)).2) α} {o : ℕ} (ho : off 0 = o) :
    h_idb d L g
      ⊢ iprop((h_idb d L (fun k => if o ≤ k ∧ k < o + 16 then p (lane (k - o)) else g k) -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.lift (.store idb (Rect.unit (s := S2064) off S16.size h) p Finset.univ hx hm) >>= k) Q) := by
  subst ho
  have hw := write_idb off h g p
  rw [View.writes_singleton] at hw
  unfold h_idb
  have := wp_store (Γ := .empty) (defs := defs₀ (F := F)) 𝒱₀ (V d (cV L) (jV L)) none Set.univ (m := idb) (r := Rect.unit (s := S2064) off S16.size h)
    (w := p) (Mk := Finset.univ) (hx := hx) (hm := hm) (k := k) (Q := Q) (S := Finset.univ) (f := (fun i => g (i 0).val)) (fun _ _ => Finset.mem_univ _)
  rw [hw] at this
  exact this

theorem wp_store_ob (g : ℕ → Elt F .f32) {off : Fin 1 → ℕ} {h} {p : S16.Idx → Elt F .f32} {hx} {hm}
    {k : PUnit → Prog (TpuEff nD τ sig (Elt F) Λ₀ (V d (cV L) (jV L)).2) α} {o : ℕ} (ho : off 0 = o) :
    h_ob d L g
      ⊢ iprop((h_ob d L (fun k => if o ≤ k ∧ k < o + 16 then p (lane (k - o)) else g k) -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.lift (.store ob (Rect.unit (s := S2048) off S16.size h) p Finset.univ hx hm) >>= k) Q) := by
  subst ho
  have hw := write_ob off h g p
  rw [View.writes_singleton] at hw
  unfold h_ob
  have := wp_store (Γ := .empty) (defs := defs₀ (F := F)) 𝒱₀ (V d (cV L) (jV L)) none Set.univ (m := ob) (r := Rect.unit (s := S2048) off S16.size h)
    (w := p) (Mk := Finset.univ) (hx := hx) (hm := hm) (k := k) (Q := Q) (S := Finset.univ) (f := (fun i => g (i 0).val)) (fun _ _ => Finset.mem_univ _)
  rw [hw] at this
  exact this

theorem wp_store_offb (g : ℕ → Elt F .f32) {off : Fin 1 → ℕ} {h} {p : S16.Idx → Elt F .f32} {hx} {hm}
    {k : PUnit → Prog (TpuEff nD τ sig (Elt F) Λ₀ (V d (cV L) (jV L)).2) α} {o : ℕ} (ho : off 0 = o) :
    h_offb d L g
      ⊢ iprop((h_offb d L (fun k => if o ≤ k ∧ k < o + 16 then p (lane (k - o)) else g k) -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.lift (.store offb (Rect.unit (s := S128) off S16.size h) p Finset.univ hx hm) >>= k) Q) := by
  subst ho
  have hw := write_offb off h g p
  rw [View.writes_singleton] at hw
  unfold h_offb
  have := wp_store (Γ := .empty) (defs := defs₀ (F := F)) 𝒱₀ (V d (cV L) (jV L)) none Set.univ (m := offb) (r := Rect.unit (s := S128) off S16.size h)
    (w := p) (Mk := Finset.univ) (hx := hx) (hm := hm) (k := k) (Q := Q) (S := Finset.univ) (f := (fun i => g (i 0).val)) (fun _ _ => Finset.mem_univ _)
  rw [hw] at this
  exact this

theorem wp_store_lrb (g : S16.Idx → F .f32) {off : Fin 1 → ℕ} {h} {p : S16.Idx → Elt F .f32} {hx} {hm}
    {k : PUnit → Prog (TpuEff nD τ sig (Elt F) Λ₀ (V d (cV L) (jV L)).2) α} {o : ℕ} (ho : off 0 = o) :
    h_lrb d L g
      ⊢ iprop((h_lrb d L p -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.lift (.store lrb (Rect.unit (s := S16) off S16.size h) p Finset.univ hx hm) >>= k) Q) := by
  subst ho
  have hw := write_lrb off h g p
  rw [View.writes_singleton] at hw
  unfold h_lrb
  have := wp_store (Γ := .empty) (defs := defs₀ (F := F)) 𝒱₀ (V d (cV L) (jV L)) none Set.univ (m := lrb) (r := Rect.unit (s := S16) off S16.size h)
    (w := p) (Mk := Finset.univ) (hx := hx) (hm := hm) (k := k) (Q := Q) (S := Finset.univ) (f := g) (fun _ _ => Finset.mem_univ _)
  rw [hw] at this
  exact this

theorem wp_store_gb (g : S16.Idx → F .f32) {off : Fin 1 → ℕ} {h} {p : S16.Idx → Elt F .f32} {hx} {hm}
    {k : PUnit → Prog (TpuEff nD τ sig (Elt F) Λ₀ (V d (cV L) (jV L)).2) α} {o : ℕ} (ho : off 0 = o) :
    h_gb d L g
      ⊢ iprop((h_gb d L p -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.lift (.store gb (Rect.unit (s := S16) off S16.size h) p Finset.univ hx hm) >>= k) Q) := by
  subst ho
  have hw := write_gb off h g p
  rw [View.writes_singleton] at hw
  unfold h_gb
  have := wp_store (Γ := .empty) (defs := defs₀ (F := F)) 𝒱₀ (V d (cV L) (jV L)) none Set.univ (m := gb) (r := Rect.unit (s := S16) off S16.size h)
    (w := p) (Mk := Finset.univ) (hx := hx) (hm := hm) (k := k) (Q := Q) (S := Finset.univ) (f := g) (fun _ _ => Finset.mem_univ _)
  rw [hw] at this
  exact this

theorem wp_store_tb (g : S16.Idx → F .f32) {off : Fin 1 → ℕ} {h} {p : S16.Idx → Elt F .f32} {hx} {hm}
    {k : PUnit → Prog (TpuEff nD τ sig (Elt F) Λ₀ (V d (cV L) (jV L)).2) α} {o : ℕ} (ho : off 0 = o) :
    h_tb d L g
      ⊢ iprop((h_tb d L p -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.lift (.store tb (Rect.unit (s := S16) off S16.size h) p Finset.univ hx hm) >>= k) Q) := by
  subst ho
  have hw := write_tb off h g p
  rw [View.writes_singleton] at hw
  unfold h_tb
  have := wp_store (Γ := .empty) (defs := defs₀ (F := F)) 𝒱₀ (V d (cV L) (jV L)) none Set.univ (m := tb) (r := Rect.unit (s := S16) off S16.size h)
    (w := p) (Mk := Finset.univ) (hx := hx) (hm := hm) (k := k) (Q := Q) (S := Finset.univ) (f := g) (fun _ _ => Finset.mem_univ _)
  rw [hw] at this
  exact this

theorem wp_gather_gb (g : S16.Idx → F .f32) {idx : IVec S16 32} {h} {hl : gb.view.Loads}
    {k : Vec F S16 .f32 → Prog (TpuEff nD τ sig (Elt F) Λ₀ (V d (cV L) (jV L)).2) α} :
    h_gb d L g
      ⊢ iprop((h_gb d L g -∗ wp frame (wpE (defs₀ (F := F)) 𝒱₀ (V d (cV L) (jV L)) none) Set.univ (k (gat (onLanes g) idx)) Q)
        -∗ wp frame (wpE (defs₀ (F := F)) 𝒱₀ (V d (cV L) (jV L)) none) Set.univ (SparseCore.vectorLoadIdx gb ![idx] h hl >>= k) Q) := by
  have hk : gat (onLanes g) idx = loadIdx ((gb.access (.whole S16)).read (Elt F) g) ![idx] h := by
    rw [read_gb_whole]; rw [loadIdx_lanes]
  rw [hk]
  unfold h_gb
  exact SparseCore.wp_vectorLoadIdx 𝒱₀ (V d (cV L) (jV L)) none Set.univ (base := gb) (S := Finset.univ) (q := fullShare)
    (Finset.subset_univ _)

theorem wp_gather_tb (g : S16.Idx → F .f32) {idx : IVec S16 32} {h} {hl : tb.view.Loads}
    {k : Vec F S16 .f32 → Prog (TpuEff nD τ sig (Elt F) Λ₀ (V d (cV L) (jV L)).2) α} :
    h_tb d L g
      ⊢ iprop((h_tb d L g -∗ wp frame (wpE (defs₀ (F := F)) 𝒱₀ (V d (cV L) (jV L)) none) Set.univ (k (gat (onLanes g) idx)) Q)
        -∗ wp frame (wpE (defs₀ (F := F)) 𝒱₀ (V d (cV L) (jV L)) none) Set.univ (SparseCore.vectorLoadIdx tb ![idx] h hl >>= k) Q) := by
  have hk : gat (onLanes g) idx = loadIdx ((tb.access (.whole S16)).read (Elt F) g) ![idx] h := by
    rw [read_tb_whole]; rw [loadIdx_lanes]
  rw [hk]
  unfold h_tb
  exact SparseCore.wp_vectorLoadIdx 𝒱₀ (V d (cV L) (jV L)) none Set.univ (base := tb) (S := Finset.univ) (q := fullShare)
    (Finset.subset_univ _)

theorem wp_gather_offb (g : ℕ → F .f32) {idx : IVec S16 32} {h} {hl : offb.view.Loads}
    {k : Vec F S16 .f32 → Prog (TpuEff nD τ sig (Elt F) Λ₀ (V d (cV L) (jV L)).2) α} :
    h_offb d L g
      ⊢ iprop((h_offb d L g -∗ wp frame (wpE (defs₀ (F := F)) 𝒱₀ (V d (cV L) (jV L)) none) Set.univ (k (gat g idx)) Q)
        -∗ wp frame (wpE (defs₀ (F := F)) 𝒱₀ (V d (cV L) (jV L)) none) Set.univ (SparseCore.vectorLoadIdx offb ![idx] h hl >>= k) Q) := by
  have hk : gat g idx = loadIdx ((offb.access (.whole S128)).read (Elt F) (fun i => g (i 0).val)) ![idx] h := by
    rw [read_offb_whole]; rfl
  rw [hk]
  unfold h_offb
  exact SparseCore.wp_vectorLoadIdx 𝒱₀ (V d (cV L) (jV L)) none Set.univ (base := offb) (S := Finset.univ) (q := fullShare)
    (Finset.subset_univ _)

theorem wp_scatter_lrb (g : S16.Idx → F .f32) {idx : IVec S16 32} {v : Vec F S16 .f32} {mask : IVec S16 1} {h} {hs}
    {k : PUnit → Prog (TpuEff nD τ sig (Elt F) Λ₀ (V d (cV L) (jV L)).2) α} :
    h_lrb d L g
      ⊢ iprop((h_lrb d L (sca g idx v mask) -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx lrb ![idx] v mask false h hs >>= k) Q) := by
  have hk : sca g idx v mask = (lrb.access (.whole S16)).write (Elt F) g
      (storeIdx ((lrb.access (.whole S16)).read (Elt F) g) ![idx] v mask false h) Finset.univ := by
    rw [read_lrb_whole, write_lrb_whole, sca_of]
  have hset : (lrb.access (.whole S16)).set = Finset.univ := Memref.set_access_whole cc1_scratch2
  have := SparseCore.wp_vectorStoreIdx 𝒱₀ (V d (cV L) (jV L)) none Set.univ (base := lrb) (idxs := ![idx]) (v := v) (mask := mask)
    (add := false) (h := h) (hs := hs) (k := k) (f := g) (defs := defs₀ (F := F)) (Q := Q)
  rw [hset, ← hk] at this
  exact this

/-- A store of lane 0 alone at position `t` of `totb`. -/
theorem wp_scatter_totb (g : ℕ → F .f32) {idx : IVec S16 32} {v : Vec F S16 .f32} {mask : IVec S16 1} {h} {hs}
    {k : PUnit → Prog (TpuEff nD τ sig (Elt F) Λ₀ (V d (cV L) (jV L)).2) α} {g' : ℕ → F .f32}
    (hg : storeIdx (F := F) (s := S128) (e := .f32) (fun i => g (i 0).val) ![idx] v mask false h = fun i => g' (i 0).val) :
    h_totb d L g
      ⊢ iprop((h_totb d L g' -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx totb ![idx] v mask false h hs >>= k) Q) := by
  have hk : (fun i => g' (i 0).val) = (totb.access (.whole S128)).write (Elt F) (fun i => g (i 0).val)
      (storeIdx ((totb.access (.whole S128)).read (Elt F) (fun i => g (i 0).val)) ![idx] v mask false h) Finset.univ := by
    rw [read_totb_whole, write_totb_whole]; exact hg.symm
  have hset : (totb.access (.whole S128)).set = Finset.univ := Memref.set_access_whole cc1_scratch7
  have := SparseCore.wp_vectorStoreIdx 𝒱₀ (V d (cV L) (jV L)) none Set.univ (base := totb) (idxs := ![idx]) (v := v) (mask := mask)
    (add := false) (h := h) (hs := hs) (k := k) (f := fun i => g (i 0).val) (defs := defs₀ (F := F)) (Q := Q)
  rw [hset, ← hk] at this
  exact this

end Cert.Proof.Sc

end
-- ==== Proof.Copies.lean ====
module

public import proofs.«01_k».proof.Proof.Rows
public import proofs.«01_k».proof.Proof.Ops

@[expose] public section

/-! # The copies of a tile -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)
variable {α : Type} {Q : α → sProp (MT nD τ sig (HIx 2) (Elt F) ℕ UU ℕ)}

/-- The tile's scores into its buffer. -/
theorem wp_copy_u (O : CellTallies nD τ sig (HIx 2)) (W : Waits sig (HIx 2)) (hO : ∀ g, O g none = 0) (U : ℕ → F .f32) (f0 : Buf (Elt F) (ub.view.loc (V d (cV L) (jV L))))
    {k : PUnit → Prog (TpuEff nD τ sig (Elt F) Λ₀ (V d (cV L) (jV L)).2) α} :
    iprop(levAts (K (F := F)).L (K (F := F)).lev ∗ semVal (V d (cV L) (jV L), .dma cc1_scoped0.sem) 0
        ∗ (uLoc d ↦[rowU (jL L)]{fullShare} (fun i => U (i 0).val))
        ∗ (ub.view.loc (V d (cV L) (jV L)) ↦{fullShare} f0)
        ∗ owes (V d (cV L) (jV L)) O W)
      ⊢ iprop((iprop(semVal (V d (cV L) (jV L), .dma cc1_scoped0.sem) 0
          ∗ (uLoc d ↦[rowU (jL L)]{fullShare} (fun i => U (i 0).val))
          ∗ h_ub d L (uOf U (jL L).val)
          ∗ owes (V d (cV L) (jV L)) O (insert (.dma cc1_scoped0.sem, none) W)) -∗ wp frame (wpE (defs₀ (F := F)) 𝒱₀ (V d (cV L) (jV L)) none) Set.univ (k ⟨⟩) Q)
        -∗ wp frame (wpE (defs₀ (F := F)) 𝒱₀ (V d (cV L) (jV L)) none) Set.univ (do
            Prog.lift (.enqueueDma (uRow L) (.here ub) (.dma cc1_scoped0.sem) (View.wordExact_bits rfl) (Memref.isWhole_whole _).wordExact ⟨Or.inl rfl, trivial⟩)
            Prog.lift (.waitDma2 cc1_scoped0.sem (uRow L) ub (View.wordExact_bits rfl) (Memref.isWhole_whole _).wordExact) >>= k) Q) := by
  rw [← pts_uRow (F := F) d L]
  iintro ⟨#Hlv, Hsem, Hu, Hub, HO⟩ Hk
  ihave Hmw := (show levAts (K (F := F)).L (K (F := F)).lev ⊢ Transfers.MayWaits (V d (cV L) (jV L)) (default : HIx 2) O from
    (K (F := F)).mayWaits_none (thr := V d (cV L) (jV L)) hO) $$ Hlv
  sl_exec
  iapply Hk
  isplitl [Hsem]; · iexact Hsem
  isplitl [Hu]; · iexact Hu
  isplitl [Hub]
  · unfold h_ub
    iapply (Entails.of_eq (pointsTo_congr fun i _ => ?_))
    rotate_left
    · iexact Hub
    sl_unfold_run_names
    rw [View.write_whole_univ]
    exact congrArg U (emb_row2048 L _ (k1_off1_eq L) i)
  iexact HO

abbrev idRow : Memref sig .scVector .vmem S2048 .i32 := idb.slice (Rect.unit (s := S2064) ![0] S2048.size inb_S2064_S2048_0) (fun _ => rfl)

/-- The tile's segment numbers into the first places of their buffer. -/
theorem wp_copy_i (O : CellTallies nD τ sig (HIx 2)) (W : Waits sig (HIx 2)) (hO : ∀ g, O g none = 0) (I : ℕ → BitVec 32) (f0 : Buf (Elt F) (idb.view.loc (V d (cV L) (jV L))))
    {k : PUnit → Prog (TpuEff nD τ sig (Elt F) Λ₀ (V d (cV L) (jV L)).2) α} :
    iprop(levAts (K (F := F)).L (K (F := F)).lev ∗ semVal (V d (cV L) (jV L), .dma cc1_scoped1.sem) 0
        ∗ (iLoc d ↦[rowU (jL L)]{fullShare} (fun i => I (i 0).val))
        ∗ (idb.view.loc (V d (cV L) (jV L)) ↦{fullShare} f0)
        ∗ owes (V d (cV L) (jV L)) O W)
      ⊢ iprop((iprop(semVal (V d (cV L) (jV L), .dma cc1_scoped1.sem) 0
          ∗ (iLoc d ↦[rowU (jL L)]{fullShare} (fun i => I (i 0).val))
          ∗ (∃ f, ⌜∀ k < 2048, f k = I (2048 * (jL L).val + k)⌝ ∗ h_idb d L f)
          ∗ owes (V d (cV L) (jV L)) O (insert (.dma cc1_scoped1.sem, none) W)) -∗ wp frame (wpE (defs₀ (F := F)) 𝒱₀ (V d (cV L) (jV L)) none) Set.univ (k ⟨⟩) Q)
        -∗ wp frame (wpE (defs₀ (F := F)) 𝒱₀ (V d (cV L) (jV L)) none) Set.univ (do
            Prog.lift (.enqueueDma (iRow L) (.here idRow) (.dma cc1_scoped1.sem) (View.wordExact_bits rfl) (View.wordExact_bits rfl) ⟨Or.inl rfl, trivial⟩)
            Prog.lift (.waitDma2 cc1_scoped1.sem (iRow L) idRow (View.wordExact_bits rfl) (View.wordExact_bits rfl)) >>= k) Q) := by
  rw [← pts_iRow (F := F) d L]
  iintro ⟨#Hlv, Hsem, Hu, Hub, HO⟩ Hk
  ihave Hmw := (show levAts (K (F := F)).L (K (F := F)).lev ⊢ Transfers.MayWaits (V d (cV L) (jV L)) (default : HIx 2) O from
    (K (F := F)).mayWaits_none (thr := V d (cV L) (jV L)) hO) $$ Hlv
  sl_exec
  sl_unfold_run_names
  iapply Hk
  isplitl [Hsem]; · iexact Hsem
  isplitl [Hu]; · iexact Hu
  isplitl [Hub]
  · iexists (fun k => idb.view.writes (Elt F) f0 [⟨Rect.unit (s := S2064) ![0] S2048.size inb_S2064_S2048_0, (iRow L).view.read (Elt F) (fun i => I (i 0).val)⟩]
      (fun (a : Fin 1) => ⟨k % 2064, by obtain rfl : a = 0 := Subsingleton.elim _ _; exact Nat.mod_lt _ (by decide)⟩))
    isplitr
    · ipureintro
      intro k hk
      refine (congrFun (View.read_whole (Val := Elt F) cc1_scratch1 _) _).symm.trans ?_
      refine (View.read_writes_cons_hit_of_coords idb.view _ (Rect.unit (s := S2064) ![0] S2048.size inb_S2064_S2048_0) _ []
        (fun a => ⟨k, by obtain rfl : a = 0 := Subsingleton.elim _ _; exact hk⟩) _ fun a => ?_).trans ?_
      · obtain rfl : a = 0 := Subsingleton.elim _ _
        change k % 2064 = 0 + 1 * k
        omega
      · exact congrArg I (emb_row2048 L _ (k1_off1_eq L) _)
    · unfold h_idb
      iapply (Entails.of_eq (pointsTo_congr fun i _ => ?_))
      rotate_left
      · iexact Hub
      refine congrArg _ (funext fun (a : Fin 1) => ?_)
      obtain rfl : a = 0 := Subsingleton.elim _ _
      have hi : (i 0).val < 2064 := (i 0).isLt
      exact Fin.ext (Nat.mod_eq_of_lt hi).symm
  iexact HO

/-- The tile's sixteen values into its row of the shared array. -/
theorem wp_copy_to_a (O : CellTallies nD τ sig (HIx 2)) (W : Waits sig (HIx 2)) (hO : ∀ g, O g none = 0) (G : ℕ → F .f32) (f : S16.Idx → F .f32) (hG : ∀ x : S16.Idx, f x = G (16 * (jL L).val + (x 0).val))
    (f0 : Buf (Elt F) (shALoc d (cV L)))
    {k : PUnit → Prog (TpuEff nD τ sig (Elt F) Λ₀ (V d (cV L) (jV L)).2) α} :
    iprop(levAts (K (F := F)).L (K (F := F)).lev ∗ semVal (V d (cV L) (jV L), .dma cc1_scoped2.sem) 0
        ∗ h_lrb d L f
        ∗ (shALoc d (cV L) ↦[rowS (jL L)]{fullShare} f0)
        ∗ owes (V d (cV L) (jV L)) O W)
      ⊢ iprop((iprop(semVal (V d (cV L) (jV L), .dma cc1_scoped2.sem) 0
          ∗ h_lrb d L f
          ∗ (shALoc d (cV L) ↦[rowS (jL L)]{fullShare} (fun i => G (i 0).val))
          ∗ owes (V d (cV L) (jV L)) O (insert (.dma cc1_scoped2.sem, none) W)) -∗ wp frame (wpE (defs₀ (F := F)) 𝒱₀ (V d (cV L) (jV L)) none) Set.univ (k ⟨⟩) Q)
        -∗ wp frame (wpE (defs₀ (F := F)) 𝒱₀ (V d (cV L) (jV L)) none) Set.univ (do
            Prog.lift (.enqueueDma lrb (.here (shARow L)) (.dma cc1_scoped2.sem) (Memref.isWhole_whole _).wordExact (View.wordExact_bits rfl) ⟨Or.inl rfl, trivial⟩)
            Prog.lift (.waitDma2 cc1_scoped2.sem lrb (shARow L) (Memref.isWhole_whole _).wordExact (View.wordExact_bits rfl)) >>= k) Q) := by
  rw [← pts_shARow (F := F) d L, ← pts_shARow (F := F) d L]
  unfold h_lrb
  iintro ⟨#Hlv, Hsem, Hl, Hs, HO⟩ Hk
  ihave Hmw := (show levAts (K (F := F)).L (K (F := F)).lev ⊢ Transfers.MayWaits (V d (cV L) (jV L)) (default : HIx 2) O from
    (K (F := F)).mayWaits_none (thr := V d (cV L) (jV L)) hO) $$ Hlv
  sl_exec
  iapply Hk
  isplitl [Hsem]; · iexact Hsem
  isplitl [Hl]; · iexact Hl
  isplitl [Hs]
  · iapply (Entails.of_eq (pointsTo_congr fun i hi => ?_))
    rotate_left
    · iexact Hs
    obtain ⟨x, -, rfl⟩ := Finset.mem_map.mp hi
    sl_unfold_run_names
    refine (View.read_writes_cons_hit_of_coords (shARow L).view f0 (Rect.whole S16) f [] x x fun a => ?_).trans ?_
    · change (x a).val = 0 + 1 * (x a).val
      omega
    refine (hG x).trans (congrArg G ?_)
    exact (emb_row16 L _ (k1_off6_eq L) x).symm
  iexact HO

/-- The tile's sixteen values into its row of the shared array. -/
theorem wp_copy_to_b (O : CellTallies nD τ sig (HIx 2)) (W : Waits sig (HIx 2)) (hO : ∀ g, O g none = 0) (G : ℕ → F .f32) (f : S16.Idx → F .f32) (hG : ∀ x : S16.Idx, f x = G (16 * (jL L).val + (x 0).val))
    (f0 : Buf (Elt F) (shBLoc d (cV L)))
    {k : PUnit → Prog (TpuEff nD τ sig (Elt F) Λ₀ (V d (cV L) (jV L)).2) α} :
    iprop(levAts (K (F := F)).L (K (F := F)).lev ∗ semVal (V d (cV L) (jV L), .dma cc1_scoped4.sem) 0
        ∗ h_lrb d L f
        ∗ (shBLoc d (cV L) ↦[rowS (jL L)]{fullShare} f0)
        ∗ owes (V d (cV L) (jV L)) O W)
      ⊢ iprop((iprop(semVal (V d (cV L) (jV L), .dma cc1_scoped4.sem) 0
          ∗ h_lrb d L f
          ∗ (shBLoc d (cV L) ↦[rowS (jL L)]{fullShare} (fun i => G (i 0).val))
          ∗ owes (V d (cV L) (jV L)) O (insert (.dma cc1_scoped4.sem, none) W)) -∗ wp frame (wpE (defs₀ (F := F)) 𝒱₀ (V d (cV L) (jV L)) none) Set.univ (k ⟨⟩) Q)
        -∗ wp frame (wpE (defs₀ (F := F)) 𝒱₀ (V d (cV L) (jV L)) none) Set.univ (do
            Prog.lift (.enqueueDma lrb (.here (shBRow L)) (.dma cc1_scoped4.sem) (Memref.isWhole_whole _).wordExact (View.wordExact_bits rfl) ⟨Or.inl rfl, trivial⟩)
            Prog.lift (.waitDma2 cc1_scoped4.sem lrb (shBRow L) (Memref.isWhole_whole _).wordExact (View.wordExact_bits rfl)) >>= k) Q) := by
  rw [← pts_shBRow (F := F) d L, ← pts_shBRow (F := F) d L]
  unfold h_lrb
  iintro ⟨#Hlv, Hsem, Hl, Hs, HO⟩ Hk
  ihave Hmw := (show levAts (K (F := F)).L (K (F := F)).lev ⊢ Transfers.MayWaits (V d (cV L) (jV L)) (default : HIx 2) O from
    (K (F := F)).mayWaits_none (thr := V d (cV L) (jV L)) hO) $$ Hlv
  sl_exec
  iapply Hk
  isplitl [Hsem]; · iexact Hsem
  isplitl [Hl]; · iexact Hl
  isplitl [Hs]
  · iapply (Entails.of_eq (pointsTo_congr fun i hi => ?_))
    rotate_left
    · iexact Hs
    obtain ⟨x, -, rfl⟩ := Finset.mem_map.mp hi
    sl_unfold_run_names
    refine (View.read_writes_cons_hit_of_coords (shBRow L).view f0 (Rect.whole S16) f [] x x fun a => ?_).trans ?_
    · change (x a).val = 0 + 1 * (x a).val
      omega
    refine (hG x).trans (congrArg G ?_)
    exact (emb_row16 L _ (k1_off14_eq L) x).symm
  iexact HO

/-- The whole shared array into the tile's buffer. -/
theorem wp_copy_from_a (O : CellTallies nD τ sig (HIx 2)) (W : Waits sig (HIx 2)) (hO : ∀ g, O g none = 0) (G : ℕ → F .f32) (q : PosShare TreeShare) (f0 : Buf (Elt F) (allb.view.loc (V d (cV L) (jV L))))
    {k : PUnit → Prog (TpuEff nD τ sig (Elt F) Λ₀ (V d (cV L) (jV L)).2) α} :
    iprop(levAts (K (F := F)).L (K (F := F)).lev ∗ semVal (V d (cV L) (jV L), .dma cc1_scoped3.sem) 0
        ∗ (shALoc d (cV L) ↦{q} (fun i => G (i 0).val))
        ∗ (allb.view.loc (V d (cV L) (jV L)) ↦{fullShare} f0)
        ∗ owes (V d (cV L) (jV L)) O W)
      ⊢ iprop((iprop(semVal (V d (cV L) (jV L), .dma cc1_scoped3.sem) 0
          ∗ (shALoc d (cV L) ↦{q} (fun i => G (i 0).val))
          ∗ h_allb d L G
          ∗ owes (V d (cV L) (jV L)) O (insert (.dma cc1_scoped3.sem, none) W)) -∗ wp frame (wpE (defs₀ (F := F)) 𝒱₀ (V d (cV L) (jV L)) none) Set.univ (k ⟨⟩) Q)
        -∗ wp frame (wpE (defs₀ (F := F)) 𝒱₀ (V d (cV L) (jV L)) none) Set.univ (do
            Prog.lift (.enqueueDma shA (.here allb) (.dma cc1_scoped3.sem) (Memref.isWhole_whole _).wordExact (Memref.isWhole_whole _).wordExact ⟨Or.inl rfl, trivial⟩)
            Prog.lift (.waitDma2 cc1_scoped3.sem shA allb (Memref.isWhole_whole _).wordExact (Memref.isWhole_whole _).wordExact) >>= k) Q) := by
  iintro ⟨#Hlv, Hsem, Hs, Hb, HO⟩ Hk
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hs := (show (shALoc d (cV L) ↦{q} (fun i => G (i 0).val) : sProp 𝕄) ⊢ shA.view.loc (V d (cV L) (jV L)) ↦{q} (fun i => G (i 0).val) from Entails.of_eq rfl) $$ Hs
  sl_exec
  iapply Hk
  isplitl [Hsem]; · iexact Hsem
  isplitl [Hs]; · iexact Hs
  isplitl [Hb]
  · unfold h_allb
    iapply (Entails.of_eq (pointsTo_congr fun i _ => ?_))
    rotate_left
    · iexact Hb
    sl_unfold_run_names
    rw [View.write_whole_univ]
    rfl
  iexact HO

/-- The whole shared array into the tile's buffer. -/
theorem wp_copy_from_b (O : CellTallies nD τ sig (HIx 2)) (W : Waits sig (HIx 2)) (hO : ∀ g, O g none = 0) (G : ℕ → F .f32) (q : PosShare TreeShare) (f0 : Buf (Elt F) (allb.view.loc (V d (cV L) (jV L))))
    {k : PUnit → Prog (TpuEff nD τ sig (Elt F) Λ₀ (V d (cV L) (jV L)).2) α} :
    iprop(levAts (K (F := F)).L (K (F := F)).lev ∗ semVal (V d (cV L) (jV L), .dma cc1_scoped5.sem) 0
        ∗ (shBLoc d (cV L) ↦{q} (fun i => G (i 0).val))
        ∗ (allb.view.loc (V d (cV L) (jV L)) ↦{fullShare} f0)
        ∗ owes (V d (cV L) (jV L)) O W)
      ⊢ iprop((iprop(semVal (V d (cV L) (jV L), .dma cc1_scoped5.sem) 0
          ∗ (shBLoc d (cV L) ↦{q} (fun i => G (i 0).val))
          ∗ h_allb d L G
          ∗ owes (V d (cV L) (jV L)) O (insert (.dma cc1_scoped5.sem, none) W)) -∗ wp frame (wpE (defs₀ (F := F)) 𝒱₀ (V d (cV L) (jV L)) none) Set.univ (k ⟨⟩) Q)
        -∗ wp frame (wpE (defs₀ (F := F)) 𝒱₀ (V d (cV L) (jV L)) none) Set.univ (do
            Prog.lift (.enqueueDma shB (.here allb) (.dma cc1_scoped5.sem) (Memref.isWhole_whole _).wordExact (Memref.isWhole_whole _).wordExact ⟨Or.inl rfl, trivial⟩)
            Prog.lift (.waitDma2 cc1_scoped5.sem shB allb (Memref.isWhole_whole _).wordExact (Memref.isWhole_whole _).wordExact) >>= k) Q) := by
  iintro ⟨#Hlv, Hsem, Hs, Hb, HO⟩ Hk
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hs := (show (shBLoc d (cV L) ↦{q} (fun i => G (i 0).val) : sProp 𝕄) ⊢ shB.view.loc (V d (cV L) (jV L)) ↦{q} (fun i => G (i 0).val) from Entails.of_eq rfl) $$ Hs
  sl_exec
  iapply Hk
  isplitl [Hsem]; · iexact Hsem
  isplitl [Hs]; · iexact Hs
  isplitl [Hb]
  · unfold h_allb
    iapply (Entails.of_eq (pointsTo_congr fun i _ => ?_))
    rotate_left
    · iexact Hb
    sl_unfold_run_names
    rw [View.write_whole_univ]
    rfl
  iexact HO

end Cert.Proof.Sc

end
-- ==== Proof.Barrier.lean ====
module

public import proofs.«01_k».proof.Proof.Boxes

@[expose] public section

/-! # The two barriers -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)
variable {α : Type} {Q : α → sProp (MT nD τ sig (HIx 2) (Elt F) ℕ UU ℕ)}

/-- What a tile owes for a barrier: a unit to every tile. -/
def oxB (d : Dev nD) (c : Fin τ.nSC) (p : Fin 2) : CellTallies nD τ sig (HIx 2) :=
  ∑ j : Fin (grid1.bound 1), tallyAt (bcell d c (j.castLE hsub1)) (some p) 1

/-- A tile's arrival at a barrier: a signal to every tile, then the rest of the program. -/
theorem wp_arrive (κ : GSem nD τ sig → ℕ) (n : ℕ) (hn : n < 32) (p : Fin 2) (O : CellTallies nD τ sig (HIx 2)) (W : Waits sig (HIx 2))
    (rest : Prog (TpuEff nD τ sig (Elt F) Λ₀ (V d (cV L) (jV L)).2) α) (l : List (Fin (grid1.bound 1))) (hl : l.Nodup) :
    iprop((bigSep Finset.univ fun j : Fin (grid1.bound 1) => cellInv EB (bRd (F := F)) (κ (bcell d (cV L) (j.castLE hsub1))) (bcell d (cV L) (j.castLE hsub1)))
        ∗ (bigSep Finset.univ fun j : Fin (grid1.bound 1) => reached EB (bcell d (cV L) (j.castLE hsub1)) 0)
        ∗ told (F := F) d n
        ∗ owes (V d (cV L) (jV L)) (O + ∑ j ∈ l.toFinset, tallyAt (bcell d (cV L) (j.castLE hsub1)) (some p) 1) W
        ∗ (bigSep l.toFinset fun j : Fin (grid1.bound 1) => dutyTok EB (bcell d (cV L) (j.castLE hsub1)) 0 n)
        ∗ (owes (V d (cV L) (jV L)) O W -∗ wp frame (wpE (defs₀ (F := F)) 𝒱₀ (V d (cV L) (jV L)) none) Set.univ rest Q))
      ⊢ wp frame (wpE (defs₀ (F := F)) 𝒱₀ (V d (cV L) (jV L)) none) Set.univ (l.foldr (fun j r => .op (TpuEff.semSignal (d, .scVector (cV L) (j.castLE hsub1)) sc_bar0 1) fun _ => r) rest) Q := by
  induction l with
  | nil =>
    rw [List.toFinset_nil, List.foldr_nil, Finset.sum_empty, add_zero]
    iintro ⟨-, -, -, HO, -, Hk⟩
    iapply Hk; iexact HO
  | cons j l ih =>
    rw [List.toFinset_cons, List.foldr_cons]
    have hj : j ∉ l.toFinset := fun h => (List.nodup_cons.mp hl).1 (List.mem_toFinset.mp h)
    rw [SparseCore.bigSep_insert' hj, Finset.sum_insert hj]
    iintro ⟨#Hinv, #Hr, #Hp, HO, ⟨Htok, Htoks⟩, Hk⟩
    iapply (Rounds.wp_signal 𝒱₀ EB (bRd (F := F)) (V d (cV L) (jV L)) none (dst := V d (cV L) (j.castLE hsub1)) (sem := sc_bar0) (r := 0) (d := n) (k' := 1)
        (κ := κ (bcell d (cV L) (j.castLE hsub1))) (by rw [bRd_duties]; exact Finset.mem_range.mpr hn) rfl (some p)
        (O₀ := O + (tallyAt (bcell d (cV L) (j.castLE hsub1)) (some p) 1 + ∑ j ∈ l.toFinset, tallyAt (bcell d (cV L) (j.castLE hsub1)) (some p) 1))
        (O := O + ∑ j ∈ l.toFinset, tallyAt (bcell d (cV L) (j.castLE hsub1)) (some p) 1)
        (by rw [add_comm (tallyAt _ _ _) _, ← add_assoc]) (W := W)) $$ [HO Htok]
    · isplitr
      · iapply (SparseCore.ent (bigSep_elim (Φ := fun j : Fin (grid1.bound 1) =>
          (cellInv EB (bRd (F := F)) (κ (bcell d (cV L) (j.castLE hsub1))) (bcell d (cV L) (j.castLE hsub1)) : sProp 𝕄)) (Finset.mem_univ j))); iexact Hinv
      isplitl [HO]; · iexact HO
      isplitl [Htok]; · iexact Htok
      isplitr
      · iapply (show (told (F := F) d n : sProp 𝕄) ⊢ (bRd (F := F)).payload (bcell d (cV L) (j.castLE hsub1)) 0 n from Entails.of_eq rfl); iexact Hp
      iapply (SparseCore.ent (bigSep_elim (Φ := fun j : Fin (grid1.bound 1) => (reached EB (bcell d (cV L) (j.castLE hsub1)) 0 : sProp 𝕄)) (Finset.mem_univ j))); iexact Hr
    iintro HO
    iapply (ih (List.nodup_cons.mp hl).2)
    isplitr; · iexact Hinv
    isplitr; · iexact Hr
    isplitr; · iexact Hp
    isplitl [HO]; · iexact HO
    isplitl [Htoks] <;> iassumption

theorem own_inv (κ : GSem nD τ sig → ℕ) :
    (bigSep Finset.univ fun j : Fin (grid1.bound 1) => cellInv EB (bRd (F := F)) (κ (bcell d (cV L) (j.castLE hsub1))) (bcell d (cV L) (j.castLE hsub1)) : sProp 𝕄)
      ⊢ cellInv EB (bRd (F := F)) (κ (bcell d (cV L) (jV L))) (bcell d (cV L) (jV L)) :=
  bigSep_elim (Φ := fun j : Fin (grid1.bound 1) =>
    (cellInv EB (bRd (F := F)) (κ (bcell d (cV L) (j.castLE hsub1))) (bcell d (cV L) (j.castLE hsub1)) : sProp 𝕄)) (Finset.mem_univ (L 1))

/-- The first barrier: the tile's own first boxes filled before it, every tile's after it. -/
theorem wp_barrier1 (κ : GSem nD τ sig → ℕ) (O : CellTallies nD τ sig (HIx 2)) (W : Waits sig (HIx 2))
    {k : PUnit → Prog (TpuEff nD τ sig (Elt F) Λ₀ (V d (cV L) (jV L)).2) α} :
    iprop((bigSep Finset.univ fun j : Fin (grid1.bound 1) => cellInv EB (bRd (F := F)) (κ (bcell d (cV L) (j.castLE hsub1))) (bcell d (cV L) (j.castLE hsub1)))
        ∗ (bigSep Finset.univ fun j : Fin (grid1.bound 1) => reached EB (bcell d (cV L) (j.castLE hsub1)) 0)
        ∗ dep (F := F) d 0 (jL L)
        ∗ owes (V d (cV L) (jV L)) (O + oxB d (cV L) 0) W
        ∗ (bigSep Finset.univ fun j : Fin (grid1.bound 1) => dutyTok EB (bcell d (cV L) (j.castLE hsub1)) 0 (jL L).val)
        ∗ cred (tallyAt (bcell d (cV L) (jV L)) (some 0) 16)
        ∗ atPos EB (bcell d (cV L) (jV L)) 0 ∅ 0
        ∗ MayWait (V d (cV L) (jV L)) (.reg sc_bar0) (some 0) O)
      ⊢ iprop((iprop(owes (V d (cV L) (jV L)) O (W ∪ {(.reg sc_bar0, some 0)})
            ∗ (∃ S : Finset ℕ, ⌜S ⊆ Finset.range 32⌝ ∗ atPos EB (bcell d (cV L) (jV L)) 0 S 16 ∗ bigSep S fun n => told (F := F) d n)
            ∗ depAll (F := F) d 0) -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.subcoreBarrier sc_bar0 (grid1.bound 1) hsub1 >>= k) Q) := by
  classical
  rw [SparseCore.subcoreBarrier_bind, show (wp frame (wpE (defs₀ (F := F)) 𝒱₀ (V d (cV L) (jV L)) none) Set.univ (.op .deviceId _) Q : sProp 𝕄) = _ from wp_deviceId 𝒱₀ (V d (cV L) (jV L)) none Set.univ]
  iintro ⟨#Hinv, #Hr, #Hp, HO, Htoks, Hcred, Hat, Hmw⟩ Hk
  have hsig := wp_arrive (F := F) (Q := Q) d L κ (jL L).val (by omega) 0 O W (.op (TpuEff.semWait sc_bar0 (grid1.bound 1)) k) (List.finRange (grid1.bound 1))
    (List.nodup_finRange _)
  rw [List.toFinset_finRange] at hsig
  iapply hsig
  isplitr; · iexact Hinv
  isplitr; · iexact Hr
  isplitr
  · unfold told
    rw [if_pos (jL L).isLt, show Fin.ofNat 16 (jL L).val = jL L from Fin.ext (Nat.mod_eq_of_lt (jL L).isLt)]
    iexact Hp
  isplitl [HO]
  · unfold oxB; iexact HO
  isplitl [Htoks]; · iexact Htoks
  iintro HO
  iapply (Rounds.wp_wait 𝒱₀ EB (bRd (F := F)) (V d (cV L) (jV L)) none (sm := .reg sc_bar0) (k' := 16) (κ := κ (bcell d (cV L) (jV L)))
      (wpE_semWait_eq 𝒱₀ (V d (cV L) (jV L)) none Set.univ) (Set.mem_univ _) {(.reg sc_bar0, some 0)} (cr := Finsupp.single (some 0) 16)
      (O := O) (W := W) (R := 0) (m := 0) (T := ∅) (by rw [Util.total_single]) (image_single_subset _ _ _)) $$ [Hcred HO Hmw Hat]
  · isplitr
    · iapply (own_inv (F := F) d L κ); iexact Hinv
    isplitl [Hcred]; · iexact Hcred
    isplitl [HO]; · iexact HO
    isplitl [Hmw]; · iexact Hmw
    iexact Hat
  iintro %S ⟨%hS, HO, Hat, Hpay⟩
  rw [Finset.sdiff_empty]
  obtain ⟨-, hsub, hcard⟩ := hS
  rw [bRd_duties, bRd_expect] at hcard
  rw [bRd_duties] at hsub
  have h16 : 16 ≤ S.card := by
    have := Finset.card_sdiff_add_card_eq_card hsub
    rw [Finset.card_range] at this
    omega
  ihave Hpay' := (show (bigSep S fun n => (bRd (F := F)).payload (bcell d (cV L) (jV L)) 0 n : sProp 𝕄) ⊢ bigSep S fun n => told (F := F) d n from Entails.of_eq rfl) $$ Hpay
  icases Hpay' with #Hpay'
  iapply Hk
  isplitl [HO]; · iexact HO
  isplitl [Hat]
  · iexists S
    isplitr; · ipureintro; exact hsub
    isplitl [Hat]; · iexact Hat
    iexact Hpay'
  iapply (told_first (F := F) d S hsub h16); iexact Hpay'

/-- The second barrier. -/
theorem wp_barrier2 (κ : GSem nD τ sig → ℕ) (O : CellTallies nD τ sig (HIx 2)) (W : Waits sig (HIx 2)) (S : Finset ℕ) (hS : S ⊆ Finset.range 32)
    {k : PUnit → Prog (TpuEff nD τ sig (Elt F) Λ₀ (V d (cV L) (jV L)).2) α} :
    iprop((bigSep Finset.univ fun j : Fin (grid1.bound 1) => cellInv EB (bRd (F := F)) (κ (bcell d (cV L) (j.castLE hsub1))) (bcell d (cV L) (j.castLE hsub1)))
        ∗ (bigSep Finset.univ fun j : Fin (grid1.bound 1) => reached EB (bcell d (cV L) (j.castLE hsub1)) 0)
        ∗ depAll (F := F) d 0 ∗ dep (F := F) d 1 (jL L) ∗ (bigSep S fun n => told (F := F) d n)
        ∗ owes (V d (cV L) (jV L)) (O + oxB d (cV L) 1) W
        ∗ (bigSep Finset.univ fun j : Fin (grid1.bound 1) => dutyTok EB (bcell d (cV L) (j.castLE hsub1)) 0 (16 + (jL L).val))
        ∗ cred (tallyAt (bcell d (cV L) (jV L)) (some 1) 16)
        ∗ atPos EB (bcell d (cV L) (jV L)) 0 S 16
        ∗ MayWait (V d (cV L) (jV L)) (.reg sc_bar0) (some 1) O)
      ⊢ iprop((iprop(owes (V d (cV L) (jV L)) O (insert (.reg sc_bar0, some 1) W) ∗ semVal (bcell d (cV L) (jV L)) 0 ∗ depAll (F := F) d 1) -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.subcoreBarrier sc_bar0 (grid1.bound 1) hsub1 >>= k) Q) := by
  classical
  rw [SparseCore.subcoreBarrier_bind, show (wp frame (wpE (defs₀ (F := F)) 𝒱₀ (V d (cV L) (jV L)) none) Set.univ (.op .deviceId _) Q : sProp 𝕄) = _ from wp_deviceId 𝒱₀ (V d (cV L) (jV L)) none Set.univ]
  iintro ⟨#Hinv, #Hr, #Hall, #Hp, #Hold, HO, Htoks, Hcred, Hat, Hmw⟩ Hk
  have hsig := wp_arrive (F := F) (Q := Q) d L κ (16 + (jL L).val) (by omega) 1 O W (.op (TpuEff.semWait sc_bar0 (grid1.bound 1)) k) (List.finRange (grid1.bound 1))
    (List.nodup_finRange _)
  rw [List.toFinset_finRange] at hsig
  iapply hsig
  isplitr; · iexact Hinv
  isplitr; · iexact Hr
  isplitr
  · unfold told
    rw [if_neg (by omega), show Fin.ofNat 16 (16 + (jL L).val) = jL L from Fin.ext (by change (16 + (jL L).val) % 16 = (jL L).val; omega)]
    isplitl
    · iexact Hall
    · iexact Hp
  isplitl [HO]
  · unfold oxB; iexact HO
  isplitl [Htoks]; · iexact Htoks
  iintro HO
  iapply (Rounds.wp_wait_rest_token 𝒱₀ EB (bRd (F := F)) (V d (cV L) (jV L)) none (sm := .reg sc_bar0) (k' := 16) (κ := κ (bcell d (cV L) (jV L)))
      (wpE_semWait_eq 𝒱₀ (V d (cV L) (jV L)) none Set.univ) (Set.mem_univ _) (some 1) (O := O) (W := W) (R := 0) (m := 16) (T := S)
      (by rw [bRd_expect])) $$ [Hcred HO Hmw Hat]
  · isplitr
    · iapply (own_inv (F := F) d L κ); iexact Hinv
    isplitl [Hcred]; · iexact Hcred
    isplitl [HO]; · iexact HO
    isplitl [Hmw]; · iexact Hmw
    iexact Hat
  iintro ⟨HO, Hat, -, Hpay⟩
  rw [bRd_duties]
  ihave Hall2 := (show iprop((bigSep S fun n => told (F := F) d n) ∗ (bigSep (Finset.range 32 \ S) fun n => (bRd (F := F)).payload (bcell d (cV L) (jV L)) 0 n))
      ⊢ depAll (F := F) d 1 from by
    refine Entails.trans (Entails.of_eq ?_) (told_second (F := F) d)
    rw [← Finset.union_sdiff_of_subset hS, bigSep_union Finset.disjoint_sdiff, Finset.union_sdiff_of_subset hS]
    rfl) $$ [Hpay]
  · isplitr; · iexact Hold
    iexact Hpay
  imod (Rounds.cell_close EB (bRd (F := F)) (g := bcell d (cV L) (jV L)) (κ := κ (bcell d (cV L) (jV L))) (Set.mem_univ _) (fun h => h) (bRd_duties_succ _)) $$ [Hat] with Hbar
  · isplitr
    · iapply (own_inv (F := F) d L κ); iexact Hinv
    iexact Hat
  iapply Hk
  isplitl [HO]; · iexact HO
  isplitl [Hbar]; · iexact Hbar
  iexact Hall2

end Cert.Proof.Sc

end
-- ==== Proof.Range.lean ====
module

public import proofs.«01_k».proof.Proof.Model

@[expose] public section

/-! # The lowest and the highest segment number of a tile -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

/-- A scan that keeps one of its two operands keeps any property all the lanes have. -/
theorem scan_all {kind : ScanKind} (hk : ∀ a b : BitVec 32, kind.step a b = a ∨ kind.step a b = b) (P : BitVec 32 → Prop) (v : IVec S16 32)
    (h : ∀ x, P (v x)) (i : S16.Idx) : P (scan kind v i) := by
  unfold scan
  refine List.foldlRecOn (motive := P) _ _ (h _) fun r hr k _ => ?_
  rcases hk r (v (Shape.ofLane k)) with e | e <;> rw [e]
  · exact hr
  · exact h _

theorem min_step (a b : BitVec 32) : ScanKind.min.step a b = a ∨ ScanKind.min.step a b = b := by
  show IntOp.minui a b = a ∨ IntOp.minui a b = b
  unfold IntOp.minui
  split
  · exact Or.inl rfl
  · exact Or.inr rfl

theorem max_step (a b : BitVec 32) : ScanKind.max.step a b = a ∨ ScanKind.max.step a b = b := by
  show IntOp.maxui a b = a ∨ IntOp.maxui a b = b
  unfold IntOp.maxui
  split
  · exact Or.inl rfl
  · exact Or.inr rfl

theorem flip_twice (x y : BitVec 32) : (x ^^^ y) ^^^ y = x := by
  rw [BitVec.xor_assoc, BitVec.xor_self, BitVec.xor_zero]

variable (F) in
/-- The lowest segment number is one of the sixteen. -/
theorem lo_lt {ib : ℕ → BitVec 32} (hib : ∀ k < 2048, (ib k).toNat < 16) : (lo F ib).toNat < 16 := by
  unfold lo k1_pay44 extractAt
  refine scan_all (kind := .min) min_step (fun x => (x ^^^ 2147483648#32).toNat < 16) _ (fun x => ?_) _
  show ((vec ib 0 x ^^^ 2147483648#32) ^^^ 2147483648#32).toNat < 16
  rw [flip_twice]
  exact hib _ (by have := lane_lt x; omega)

variable (F) in
/-- The highest segment number is one of the sixteen. -/
theorem hi_lt {ib : ℕ → BitVec 32} (hib : ∀ k < 2048, (ib k).toNat < 16) : (hi F ib).toNat < 16 := by
  unfold hi k1_pay45 extractAt
  refine scan_all (kind := .max) max_step (fun x => (x ^^^ 2147483648#32).toNat < 16) _ (fun x => ?_) _
  show ((vec ib 2032 x ^^^ 2147483648#32) ^^^ 2147483648#32).toNat < 16
  rw [flip_twice]
  exact hib _ (by have := lane_lt x; omega)

end Cert.Proof.Sc

end
-- ==== Proof.Scatter.lean ====
module

public import proofs.«01_k».proof.Proof.Model

@[expose] public section

/-! # What a scatter leaves -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

/-- Lane `k` as an index of sixteen lanes. -/
def laneOf (k : Fin 16) : S16.Idx := Shape.ofLane (d := ![16]) k

/-- The step of a scatter at lane `k`. -/
def scStep {n : ℕ} {e : EltTy} (idx : IVec S16 32) (v : Vec F S16 e) (mask : IVec S16 1)
    (h : ∀ a x, ((![idx] : Fin 1 → IVec S16 32) a x).toNat < (⟨1, ![n]⟩ : Shape).size a)
    (g : Vec F ⟨1, ![n]⟩ e) (k : Fin 16) : Vec F ⟨1, ![n]⟩ e :=
  if mask (laneOf k) = 1 then
    fun j => if ∀ a, (j a).val = (idxAt ![idx] h (laneOf k) a).val then v (laneOf k) else g j
  else g

theorem storeIdx_eq {n : ℕ} {e : EltTy} (f : Vec F ⟨1, ![n]⟩ e) (idx : IVec S16 32) (v : Vec F S16 e) (mask : IVec S16 1) (h) :
    storeIdx (F := F) (s := ⟨1, ![n]⟩) (e := e) f ![idx] v mask false h = (List.finRange 16).foldl (scStep idx v mask h) f := by
  unfold storeIdx
  refine congrArg (fun st => List.foldl st f (List.finRange 16)) (funext fun g => funext fun k => ?_)
  unfold scStep
  by_cases hm : mask (laneOf k) = 1
  · rw [if_pos hm]
    refine (if_pos hm).trans (funext fun j => ?_)
    by_cases hj : ∀ a, (j a).val = (idxAt ![idx] h (laneOf k) a).val
    · exact (if_pos hj).trans (if_pos hj).symm
    · exact (if_neg hj).trans (if_neg hj).symm
  · rw [if_neg hm]
    exact if_neg hm

theorem ofLane_val (k : Fin 16) : ((laneOf k) 0).val = k.val := rfl

theorem ofLane_eq (x : S16.Idx) : laneOf ⟨(x 0).val, lane_lt x⟩ = x := lane_ext rfl

theorem hits_iff {n : ℕ} {idx : IVec S16 32} (h : ∀ a x, ((![idx] : Fin 1 → IVec S16 32) a x).toNat < (⟨1, ![n]⟩ : Shape).size a)
    (x : S16.Idx) (j : (⟨1, ![n]⟩ : Shape).Idx) :
    (∀ a, (j a).val = (idxAt ![idx] h x a).val) ↔ (j 0).val = (idx x).toNat :=
  ⟨fun hj => hj 0, fun hj a => by obtain rfl : a = 0 := Subsingleton.elim _ _; exact hj⟩

theorem foldl_miss {n : ℕ} {e : EltTy} (idx : IVec S16 32) (v : Vec F S16 e) (mask : IVec S16 1) (h) (j : (⟨1, ![n]⟩ : Shape).Idx)
    (l : List (Fin 16)) (f : Vec F ⟨1, ![n]⟩ e)
    (hl : ∀ k ∈ l, mask (laneOf k) = 1 → (j 0).val ≠ (idx (laneOf k)).toNat) :
    l.foldl (scStep idx v mask h) f j = f j := by
  induction l generalizing f with
  | nil => rfl
  | cons a t ih =>
    rw [List.foldl_cons, ih _ fun k hk => hl k (List.mem_cons_of_mem _ hk)]
    unfold scStep
    split
    · rename_i hm
      exact if_neg fun hh => hl a List.mem_cons_self hm ((hits_iff h _ j).mp hh)
    · rfl

theorem foldl_hit {n : ℕ} {e : EltTy} (idx : IVec S16 32) (v : Vec F S16 e) (mask : IVec S16 1) (h) (j : (⟨1, ![n]⟩ : Shape).Idx)
    (k₀ : Fin 16) (hm : mask (laneOf k₀) = 1) (hj : (j 0).val = (idx (laneOf k₀)).toNat)
    (l : List (Fin 16)) (f : Vec F ⟨1, ![n]⟩ e)
    (hl : ∀ k ∈ l, mask (laneOf k) = 1 → (j 0).val = (idx (laneOf k)).toNat → k = k₀) (hk : k₀ ∈ l) :
    l.foldl (scStep idx v mask h) f j = v (laneOf k₀) := by
  induction l generalizing f with
  | nil => cases hk
  | cons a t ih =>
    rw [List.foldl_cons]
    by_cases ht : k₀ ∈ t
    · exact ih _ (fun k hk => hl k (List.mem_cons_of_mem _ hk)) ht
    · obtain rfl : k₀ = a := (List.mem_cons.mp hk).resolve_right ht
      rw [foldl_miss idx v mask h j t _ fun k hk hmk hjk => ht (hl k (List.mem_cons_of_mem _ hk) hmk hjk ▸ hk)]
      unfold scStep
      rw [if_pos hm]
      exact if_pos ((hits_iff h _ j).mpr hj)

/-- A scatter leaves alone a position that no set lane names. -/
theorem storeIdx_miss {n : ℕ} {e : EltTy} (f : Vec F ⟨1, ![n]⟩ e) (idx : IVec S16 32) (v : Vec F S16 e) (mask : IVec S16 1) (h)
    (j : (⟨1, ![n]⟩ : Shape).Idx) (hj : ∀ x, mask x = 1 → (j 0).val ≠ (idx x).toNat) :
    storeIdx (F := F) (s := ⟨1, ![n]⟩) (e := e) f ![idx] v mask false h j = f j := by
  rw [storeIdx_eq]
  exact foldl_miss idx v mask h j _ f fun k _ hm => hj _ hm

/-- A scatter leaves, at a position that one set lane alone names, that lane's value. -/
theorem storeIdx_hit {n : ℕ} {e : EltTy} (f : Vec F ⟨1, ![n]⟩ e) (idx : IVec S16 32) (v : Vec F S16 e) (mask : IVec S16 1) (h)
    (j : (⟨1, ![n]⟩ : Shape).Idx) (x : S16.Idx) (hm : mask x = 1) (hj : (j 0).val = (idx x).toNat)
    (hu : ∀ y, mask y = 1 → (j 0).val = (idx y).toNat → y = x) :
    storeIdx (F := F) (s := ⟨1, ![n]⟩) (e := e) f ![idx] v mask false h j = v x := by
  rw [storeIdx_eq]
  have hx := ofLane_eq x
  have := foldl_hit (F := F) idx v mask h j ⟨(x 0).val, lane_lt x⟩ (by rw [hx]; exact hm) (by rw [hx]; exact hj) (List.finRange 16) f
    (fun k _ hmk hjk => by
      have := hu _ hmk hjk
      exact Fin.ext (congrArg (fun y : S16.Idx => (y 0).val) this)) (List.mem_finRange _)
  rw [hx] at this
  exact this

theorem V1_apply (x : S16.Idx) : V1 x = BitVec.ofNat 32 (x 0).val := by
  change BitVec.ofNat 32 (0 * 16 + (x 0).val) = _
  rw [Nat.zero_mul, Nat.zero_add]

theorem first_lane {m : IVec S16 1} (hm : m = cmpi .eq V1 (broadcast S16 0#32)) (x : S16.Idx) : m x = 1 ↔ x = lane 0 := by
  subst hm
  have hx := lane_lt x
  have h1 : (cmpi .eq V1 (broadcast S16 0#32) : IVec S16 1) x = BitVec.ofBool (V1 x == 0#32) := rfl
  rw [h1, V1_apply]
  constructor
  · intro h
    have h2 : BitVec.ofNat 32 (x 0).val = 0#32 := by
      by_contra hne
      rw [beq_eq_false_iff_ne.mpr hne] at h
      exact absurd h (by decide)
    have h3 := congrArg BitVec.toNat h2
    rw [BitVec.toNat_ofNat, Nat.mod_eq_of_lt (by omega)] at h3
    exact lane_ext (by rw [h3]; rfl)
  · rintro rfl
    rfl

end Cert.Proof.Sc

end
-- ==== Proof.Loops.lean ====
module

public import proofs.«01_k».proof.Proof.Ops
public import proofs.«01_k».proof.Proof.Scatter

@[expose] public section

/-! # The loops of a tile

Each loop keeps the model's values: what it holds before trip `t`, and that one trip leads to the next. -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)

theorem broadcast_lt {n : ℕ} {v : BitVec 32} (h : v.toNat < n) :
    ∀ a x, ((![broadcast S16 v] : Fin 1 → IVec S16 32) a x).toNat < (⟨1, ![n]⟩ : Shape).size a := idx_lt fun _ => h

theorem word_toNat {t : ℕ} (h : t < 2 ^ 32) : (BitVec.ofNat 32 t).toNat = t := by rw [BitVec.toNat_ofNat, Nat.mod_eq_of_lt h]

theorem trip_word (t : ℕ) : Scalar.addi 0#32 (Scalar.muli (Scf.iv 0#32 1#32 t) 1#32) = BitVec.ofNat 32 t := by
  change 0#32 + (0#32 + BitVec.ofNat 32 t * 1#32) * 1#32 = _
  rw [BitVec.mul_one, BitVec.mul_one, BitVec.zero_add, BitVec.zero_add]

theorem seg_lt {ib : ℕ → BitVec 32} (hib : ∀ k < 2048, (ib k).toNat < 16) {t : ℕ} (ht : t < 128) (x : S16.Idx) :
    (vec ib (16 * t) x).toNat < 16 := hib _ (by have := lane_lt x; omega)

/-- A program that is over. -/
theorem wp_done {α : Type} {Q : α → sProp (MT nD τ sig (HIx 2) (Elt F) ℕ UU ℕ)} {a : α} : Q a ⊢ wp frame (wpE (defs₀ (F := F)) 𝒱₀ (V d (cV L) (jV L)) none) Set.univ (pure a) Q := by
  rw [wp_pure]
  iintro H
  imodintro
  iexact H

/-! ## The last loop: the results -/

/-- The last loop's state before trip `t`: the results of the groups before it. -/
def inv8 (ib : ℕ → BitVec 32) (e : ℕ → F .f32) (r : Vec F S16 .f32) (fo : ℕ → F .f32) (t : ℕ) : sProp 𝕄 :=
  iprop(h_idb d L ib ∗ h_ub d L e ∗ h_gb d L r ∗ h_ob d L (rowsUpTo (outRow r e ib) fo t))

theorem step8 (ib : ℕ → BitVec 32) (e : ℕ → F .f32) (r : Vec F S16 .f32) (fo : ℕ → F .f32) (hib : ∀ k < 2048, (ib k).toNat < 16)
    (k : Fin k1_t8_loop.trips) (acc : Unit) :
    inv8 d L ib e r fo k.val ⊢ wp frame (wpE (defs₀ (F := F)) 𝒱₀ (V d (cV L) (jV L)) none) Set.univ (k1_t8_body (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6 k acc) fun _ => inv8 d L ib e r fo (k.val + 1) := by
  have hk : k.val < 128 := k.isLt
  unfold inv8 k1_t8_body
  iintro ⟨HI, Hu, Hg, Ho⟩
  iapply (wp_load_idb d L ib (o := 16 * k.val) (by rw [k1_off15_eq]; rfl)) $$ HI
  iintro HI
  iapply (wp_check d L (show k1_chk10 _ from idx_lt (seg_lt hib hk)))
  iapply (wp_gather_gb d L r) $$ Hg
  iintro Hg
  iapply (wp_load_ub d L e (o := 16 * k.val) (by rw [k1_off16_eq]; rfl)) $$ Hu
  iintro Hu
  iapply (wp_load_ob d L _ (o := 16 * k.val) (by rw [k1_off16_eq]; rfl)) $$ Ho
  iintro Ho
  iapply (wp_store_ob d L _ (o := 16 * k.val) (by rw [k1_off16_eq]; rfl)) $$ Ho
  iintro Ho
  iapply (wp_done d L)
  isplitl [HI]; · iexact HI
  isplitl [Hu]; · iexact Hu
  isplitl [Hg]; · iexact Hg
  rw [← rowsUpTo_succ (outRow r e ib) fo k.val (16 * k.val) rfl]
  iexact Ho

end Cert.Proof.Sc

end
-- ==== Proof.Head.lean ====
module

public import proofs.«01_k».proof.Proof.Copies
public import proofs.«01_k».proof.Proof.Barrier
public import proofs.«01_k».proof.Proof.Range
public import proofs.«01_k».proof.Proof.Loops

@[expose] public section

/-! # The start of a tile: debts and contents -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

/-! ## The debts of a tile -/

theorem oxB_none (d : Dev nD) (c : Fin τ.nSC) (p : Fin 2) (g : GSem nD τ sig) : oxB d c p g none = 0 := by
  unfold oxB
  rw [Finset.sum_apply, Finsupp.finsetSum_apply]
  exact Finset.sum_eq_zero fun j _ => by rw [tallyAt_apply, if_neg (fun e => nomatch e.2)]

theorem oxB_pos {d : Dev nD} {c : Fin τ.nSC} {p : Fin 2} {g : GSem nD τ sig} {ι : HIx 2} (h : 0 < oxB d c p g ι) :
    ∃ j : Fin (grid1.bound 1), g = bcell d c (j.castLE hsub1) ∧ ι = some p := by
  unfold oxB at h
  rw [Finset.sum_apply, Finsupp.finsetSum_apply] at h
  obtain ⟨j, -, hj⟩ := Finset.exists_ne_zero_of_sum_ne_zero (Nat.pos_iff_ne_zero.mp h)
  rw [tallyAt_apply] at hj
  by_cases hc : bcell d c (j.castLE hsub1) = g ∧ some p = ι
  · exact ⟨j, hc.1.symm, hc.2.symm⟩
  · rw [if_neg (fun e => hc ⟨e.1.symm, e.2.symm⟩)] at hj; exact absurd rfl hj

theorem lev_bar (d : Dev nD) (c : Fin τ.nSC) (j : Fin τ.nSub) (p : Fin 2) : (K (F := F)).lev (bcell d c j) (some p) = 8 * p.val + 3 :=
  (K (F := F)).lev_V_reg d _ _ (show (sc_bar0 : Sem sig) ≠ (K (F := F)).go from bar_ne_go) p

/-! ## Contents as functions of the position -/

/-- The contents of a buffer of one axis are a function of the position. -/
theorem by_position {n : ℕ} {α : Type} (hn : 0 < n) (f : (⟨1, ![n]⟩ : Shape).Idx → α) : ∃ g : ℕ → α, f = fun i => g (i 0).val := by
  refine ⟨fun k => f (fun (a : Fin 1) => ⟨k % n, by obtain rfl : a = 0 := Subsingleton.elim _ _; exact Nat.mod_lt _ hn⟩), funext fun i => congrArg f (funext fun (a : Fin 1) => ?_)⟩
  obtain rfl : a = 0 := Subsingleton.elim _ _
  have hi : (i 0).val < n := (i 0).isLt
  exact Fin.ext (Nat.mod_eq_of_lt hi).symm

theorem h_ub_congr {d : Dev nD} {L : grid1.Coords} {f g : ℕ → Elt F .f32} (h : ∀ k < 2048, f k = g k) : h_ub d L f = h_ub d L g := by
  unfold h_ub
  exact pointsTo_congr fun i _ => h _ (show (i 0).val < 2048 from (i 0).isLt)

theorem h_idb_congr {d : Dev nD} {L : grid1.Coords} {f g : ℕ → Elt F .i32} (h : ∀ k < 2064, f k = g k) : h_idb d L f = h_idb d L g := by
  unfold h_idb
  exact pointsTo_congr fun i _ => h _ (show (i 0).val < 2064 from (i 0).isLt)

theorem h_ob_congr {d : Dev nD} {L : grid1.Coords} {f g : ℕ → Elt F .f32} (h : ∀ k < 2048, f k = g k) : h_ob d L f = h_ob d L g := by
  unfold h_ob
  exact pointsTo_congr fun i _ => h _ (show (i 0).val < 2048 from (i 0).isLt)

theorem h_totb_congr {d : Dev nD} {L : grid1.Coords} {f g : ℕ → Elt F .f32} (h : ∀ k < 128, f k = g k) : h_totb d L f = h_totb d L g := by
  unfold h_totb
  exact pointsTo_congr fun i _ => h _ (show (i 0).val < 128 from (i 0).isLt)

theorem h_offb_congr {d : Dev nD} {L : grid1.Coords} {f g : ℕ → Elt F .f32} (h : ∀ k < 128, f k = g k) : h_offb d L f = h_offb d L g := by
  unfold h_offb
  exact pointsTo_congr fun i _ => h _ (show (i 0).val < 128 from (i 0).isLt)

/-- A tile's segment numbers stay below sixteen. -/
theorem ibOf_lt {I : ℕ → BitVec 32} (hI : ∀ k < 32768, (I k).toNat < 16) {j : ℕ} (hj : j < 16) : ∀ k < 2048, (ibOf I j k).toNat < 16 := fun k hk => by
  unfold ibOf
  rw [if_neg (by omega)]
  exact hI _ (by omega)

theorem ibOf_store {I : ℕ → BitVec 32} {j : ℕ} {f : ℕ → BitVec 32} (hf : ∀ k < 2048, f k = I (2048 * j + k)) :
    ∀ k < 2064, (if 2048 ≤ k ∧ k < 2048 + 16 then k1_pay42 (lane (k - 2048)) else f k) = ibOf I j k := fun k hk => by
  unfold ibOf
  by_cases h : 2048 ≤ k
  · rw [if_pos ⟨h, by omega⟩, if_pos h]
  · rw [if_neg (fun e => h e.1), if_neg h, hf k (by omega)]

end Cert.Proof.Sc

end
-- ==== Proof.Bring.lean ====
module

public import proofs.«01_k».proof.Proof.Head

@[expose] public section

/-! # The start of a tile: its row in -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)
variable {α : Type} {Q : α → sProp (MT nD τ sig (HIx 2) (Elt F) ℕ UU ℕ)}

set_option maxHeartbeats 400000 in
/-- The tile's row of the scores and of the segment numbers brought in, and the lowest and the highest number read. -/
theorem wp_part11 (O : CellTallies nD τ sig (HIx 2)) (W : Waits sig (HIx 2)) (hO : ∀ g, O g none = 0) (U : ℕ → F .f32) (I : ℕ → BitVec 32)
    (hw : k1_chk1 (lo F (ibOf I (jL L).val)) (hi F (ibOf I (jL L).val))) {Q} :
    iprop(levAts (K (F := F)).L (K (F := F)).lev ∗ semVal (V d (cV L) (jV L), .dma cc1_scoped0.sem) 0 ∗ semVal (V d (cV L) (jV L), .dma cc1_scoped1.sem) 0
        ∗ (uLoc d ↦[rowU (jL L)]{fullShare} (fun i => U (i 0).val)) ∗ (iLoc d ↦[rowU (jL L)]{fullShare} (fun i => I (i 0).val))
        ∗ (∃ f, (ub.view.loc (V d (cV L) (jV L)) ↦{fullShare} f)) ∗ (∃ f, (idb.view.loc (V d (cV L) (jV L)) ↦{fullShare} f)) ∗ (∃ f, (lrb.view.loc (V d (cV L) (jV L)) ↦{fullShare} f))
        ∗ owes (V d (cV L) (jV L)) O W)
      ⊢ iprop((iprop(semVal (V d (cV L) (jV L), .dma cc1_scoped0.sem) 0 ∗ semVal (V d (cV L) (jV L), .dma cc1_scoped1.sem) 0
          ∗ (uLoc d ↦[rowU (jL L)]{fullShare} (fun i => U (i 0).val)) ∗ (iLoc d ↦[rowU (jL L)]{fullShare} (fun i => I (i 0).val))
          ∗ h_ub d L (uOf U (jL L).val) ∗ h_idb d L (ibOf I (jL L).val) ∗ h_lrb d L (k1_pay43 (F := F))
          ∗ owes (V d (cV L) (jV L)) O (insert (.dma cc1_scoped1.sem, none) (insert (.dma cc1_scoped0.sem, none) W)))
            -∗ Q ⟨BitVec.ofNat 32 (L 1).val, V1, lo F (ibOf I (jL L).val), hi F (ibOf I (jL L).val), hw,
              Scalar.subi (Scalar.addi (hi F (ibOf I (jL L).val)) 1#32) (lo F (ibOf I (jL L).val))⟩)
        -∗ wp frame (wpE (defs₀ (F := F)) 𝒱₀ (V d (cV L) (jV L)) none) Set.univ (k1_part11 (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6) Q) := by
  unfold lo hi V1 at *
  rw [k1_part11_eq_skeleton]
  unfold k1_part11_skel
  iintro ⟨#Hlv, Hs0, Hs1, Hu, Hi, ⟨%fu, Hub⟩, ⟨%fi, Hib⟩, ⟨%fl, Hlr⟩, HO⟩ Hk
  iapply (wp_copy_u d L O W hO U fu) $$ [Hs0 Hu Hub HO]
  · isplitr; · iexact Hlv
    isplitl [Hs0]; · iexact Hs0
    isplitl [Hu]; · iexact Hu
    isplitl [Hub] <;> iassumption
  iintro ⟨Hs0, Hu, Hub, HO⟩
  iapply (wp_copy_i d L O _ hO I fi) $$ [Hs1 Hi Hib HO]
  · isplitr; · iexact Hlv
    isplitl [Hs1]; · iexact Hs1
    isplitl [Hi]; · iexact Hi
    isplitl [Hib] <;> iassumption
  iintro ⟨Hs1, Hi, ⟨%f, %hf, Hib⟩, HO⟩
  iapply (wp_load_idb d L f (o := 2048) rfl) $$ Hib
  iintro Hib
  iapply (wp_store_idb d L f (o := 2048) rfl) $$ Hib
  iintro Hib
  ihave Hib := (Entails.of_eq (h_idb_congr (F := F) (d := d) (L := L) (ibOf_store hf))) $$ Hib
  ihave Hlr := (show (lrb.view.loc (V d (cV L) (jV L)) ↦{fullShare} fl : sProp 𝕄) ⊢ h_lrb d L fl from Entails.of_eq rfl) $$ Hlr
  iapply (wp_load_lrb d L _ (o := 0) rfl) $$ Hlr
  iintro Hlr
  iapply (wp_store_lrb d L _ (o := 0) rfl) $$ Hlr
  iintro Hlr
  iapply (wp_load_idb d L _ (o := 0) rfl) $$ Hib
  iintro Hib
  iapply (wp_load_idb d L _ (o := 2032) rfl) $$ Hib
  iintro Hib
  iapply (wp_check d L hw)
  iapply (wp_done d L)
  iapply Hk
  isplitl [Hs0]; · iexact Hs0
  isplitl [Hs1]; · iexact Hs1
  isplitl [Hu]; · iexact Hu
  isplitl [Hi]; · iexact Hi
  isplitl [Hub]; · iexact Hub
  isplitl [Hib]; · iexact Hib
  isplitl [Hlr]; · iexact Hlr
  iexact HO

end Cert.Proof.Sc

end
-- ==== Proof.LoopMax.lean ====
module

public import proofs.«01_k».proof.Proof.Loops

@[expose] public section

/-! # The loops of the segment maxima -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)

set_option maxHeartbeats 1000000

/-- The inner loop's state before trip `t`: the four running maxima. -/
def inv2 (u : ℕ → F .f32) (ib : ℕ → BitVec 32) (s : BitVec 32) (t : ℕ)
    (acc : FVec F S16 .f32 × FVec F S16 .f32 × FVec F S16 .f32 × FVec F S16 .f32) : sProp 𝕄 :=
  iprop(⌜acc = maxAcc u ib s t⌝ ∗ h_idb d L ib ∗ h_ub d L u)

theorem step2 (u : ℕ → F .f32) (ib : ℕ → BitVec 32) (v12 v19 : BitVec 32) (k1 : Fin (k1_t1_loop v12 v19).trips) (s : BitVec 32)
    (k : Fin k1_t2_loop.trips) (acc : FVec F S16 .f32 × FVec F S16 .f32 × FVec F S16 .f32 × FVec F S16 .f32) :
    inv2 d L u ib s k.val acc ⊢ wp frame (wpE (defs₀ (F := F)) 𝒱₀ (V d (cV L) (jV L)) none) Set.univ (k1_t2_body (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6 v12 v19 1#32 k1 s k acc) (inv2 d L u ib s (k.val + 1)) := by
  have hk : k.val < 32 := k.isLt
  have e0 := k1_off2_eq k 0
  have e1 := k1_off2_eq k 1
  have e2 := k1_off2_eq k 2
  have e3 := k1_off2_eq k 3
  have f0 := k1_off3_eq k 0
  have f1 := k1_off3_eq k 1
  have f2 := k1_off3_eq k 2
  have f3 := k1_off3_eq k 3
  obtain ⟨a, b, c, e⟩ := acc
  unfold inv2 k1_t2_body
  rw [k1_part1_eq_skeleton]
  unfold k1_part1_skel
  iintro ⟨%hacc, HI, Hu⟩
  iapply (wp_seq d L)
  iapply (wp_load_idb d L ib (o := 64 * k.val) (congrFun e0 0)) $$ HI
  iintro HI
  iapply (wp_load_ub d L u (o := 64 * k.val) (congrFun f0 0)) $$ Hu
  iintro Hu
  iapply (wp_load_idb d L ib (o := 64 * k.val + 16) (congrFun e1 0)) $$ HI
  iintro HI
  iapply (wp_load_ub d L u (o := 64 * k.val + 16) (congrFun f1 0)) $$ Hu
  iintro Hu
  iapply (wp_load_idb d L ib (o := 64 * k.val + 32) (congrFun e2 0)) $$ HI
  iintro HI
  iapply (wp_load_ub d L u (o := 64 * k.val + 32) (congrFun f2 0)) $$ Hu
  iintro Hu
  iapply (wp_load_idb d L ib (o := 64 * k.val + 48) (congrFun e3 0)) $$ HI
  iintro HI
  iapply (wp_done d L)
  iapply (wp_load_ub d L u (o := 64 * k.val + 48) (congrFun f3 0)) $$ Hu
  iintro Hu
  iapply (wp_done d L)
  isplitr
  · ipureintro
    change _ = (_, _, _, _)
    rw [← hacc]
  isplitl [HI]; · iexact HI
  iexact Hu

/-- The outer loop's state before segment `t` of the tile's: the maxima of the segments before it. -/
def inv1 (u : ℕ → F .f32) (ib : ℕ → BitVec 32) (t : ℕ) : sProp 𝕄 :=
  iprop(h_idb d L ib ∗ h_ub d L u ∗ h_lrb d L (maxTab u ib t))

/-- A tile's loop over its segments stays below sixteen. -/
theorem seg_trip : ∀ a b : Fin 16, (k1_t1_loop (BitVec.ofNat 32 a.val) (BitVec.ofNat 32 b.val)).trips ≤ 16
    ∧ ∀ t : Fin 16, t.val < (k1_t1_loop (BitVec.ofNat 32 a.val) (BitVec.ofNat 32 b.val)).trips →
      (Scf.iv (BitVec.ofNat 32 a.val) 1#32 t.val).toNat < 16 := by decide +kernel

theorem ofNat_toNat_of (w : BitVec 32) (h : w.toNat < 16) : ∃ a : Fin 16, w = BitVec.ofNat 32 a.val := ⟨⟨w.toNat, h⟩, by simp⟩

theorem seg_iv {v12 v19 : BitVec 32} (h12 : v12.toNat < 16) (h19 : v19.toNat < 16) (k : Fin (k1_t1_loop v12 v19).trips) :
    (Scf.iv v12 1#32 k.val).toNat < 16 := by
  obtain ⟨a, rfl⟩ := ofNat_toNat_of v12 h12
  obtain ⟨b, rfl⟩ := ofNat_toNat_of v19 h19
  have h := seg_trip a b
  exact h.2 ⟨k.val, lt_of_lt_of_le k.isLt h.1⟩ k.isLt

/-- The loops over the segments run, and the second not at all. -/
theorem chk1_fin : ∀ a b : Fin 16, k1_chk1 (BitVec.ofNat 32 a.val) (BitVec.ofNat 32 b.val)
    ∧ (k1_t3_loop (BitVec.ofNat 32 a.val) (BitVec.ofNat 32 b.val)).trips = 0 := by decide +kernel

theorem chk1_of {v12 v19 : BitVec 32} (h12 : v12.toNat < 16) (h19 : v19.toNat < 16) : k1_chk1 v12 v19 ∧ (k1_t3_loop v12 v19).trips = 0 := by
  obtain ⟨a, rfl⟩ := ofNat_toNat_of v12 h12
  obtain ⟨b, rfl⟩ := ofNat_toNat_of v19 h19
  exact chk1_fin a b

theorem step1 (u : ℕ → F .f32) (ib : ℕ → BitVec 32) (arg1 v21 : BitVec 32) (h12 : (lo F ib).toNat < 16) (h19 : (hi F ib).toNat < 16)
    (hw : k1_chk1 (lo F ib) (hi F ib)) (k : Fin (k1_t1_loop (lo F ib) (hi F ib)).trips) (acc : Unit) :
    inv1 d L u ib k.val ⊢ wp frame (wpE (defs₀ (F := F)) 𝒱₀ (V d (cV L) (jV L)) none) Set.univ (k1_t1_body (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6 arg1 V1 (lo F ib) (hi F ib) hw v21 k acc) fun _ => inv1 d L u ib (k.val + 1) := by
  unfold inv1 k1_t1_body
  rw [k1_part2_eq_skeleton]
  unfold k1_part2_skel
  iintro ⟨HI, Hu, Hl⟩
  iapply (wp_seq d L)
  iapply (Scf.wp_for_bind frame (wpE (defs₀ (F := F)) 𝒱₀ (V d (cV L) (jV L)) none) Set.univ k1_t2_loop.lb k1_t2_loop.ub k1_t2_loop.st k1_t2_ok
      (k1_pay5 (F := F), k1_pay6 (F := F), k1_pay7 (F := F), k1_pay8 (F := F)) _ (inv2 d L u ib (Scf.iv (lo F ib) 1#32 k.val))
      (step2 d L u ib (lo F ib) (hi F ib) k (Scf.iv (lo F ib) 1#32 k.val))) $$ [HI Hu]
  · unfold inv2
    isplitr; · ipureintro; rfl
    isplitl [HI]; · iexact HI
    iexact Hu
  iintro %acc H
  unfold inv2
  icases H with ⟨%hacc, HI, Hu⟩
  subst hacc
  iapply (wp_done d L)
  iapply (wp_check d L (show k1_chk2 _ from broadcast_lt (seg_iv h12 h19 k)))
  iapply (wp_scatter_lrb d L _) $$ Hl
  iintro Hl
  iapply (wp_done d L)
  isplitl [HI]; · iexact HI
  isplitl [Hu]; · iexact Hu
  iexact Hl

end Cert.Proof.Sc

end
-- ==== Proof.Meet1.lean ====
module

public import proofs.«01_k».proof.Proof.Head
public import proofs.«01_k».proof.Proof.LoopMax

@[expose] public section

/-! # The first meeting of the tiles: the segment maxima -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)
variable {α : Type} {Q : α → sProp (MT nD τ sig (HIx 2) (Elt F) ℕ UU ℕ)}

set_option maxHeartbeats 400000 in
/-- The tile's segment maxima, left in the boxes, and everybody's read back after the first barrier. -/
theorem wp_part12 (κ : GSem nD τ sig → ℕ) (κ' : MKey → ℕ) (A B : Dev nD → ℕ → F .f32)
    (O : CellTallies nD τ sig (HIx 2)) (W : Waits sig (HIx 2)) (hO : ∀ g, O g none = 0) (hOlev : ∀ g ι, 0 < O g ι → 14 ≤ (K (F := F)).lev g ι)
    (u : ℕ → F .f32) (ib : ℕ → BitVec 32) (hib : ∀ k < 2048, (ib k).toNat < 16) (hw : k1_chk1 (lo F ib) (hi F ib))
    (hA : ∀ x : S16.Idx, locMax u ib x = A d (16 * (jL L).val + (x 0).val)) (arg1 v21 : BitVec 32) {Q} :
    iprop(levAts (K (F := F)).L (K (F := F)).lev ∗ (bigSep Finset.univ fun j : Fin (grid1.bound 1) => cellInv EB (bRd (F := F)) (κ (bcell d (cV L) (j.castLE hsub1))) (bcell d (cV L) (j.castLE hsub1))) ∗ (bigSep Finset.univ fun j : Fin (grid1.bound 1) => reached EB (bcell d (cV L) (j.castLE hsub1)) 0) ∗ boxes (shr A B (cV L)) κ'
        ∗ semVal (V d (cV L) (jV L), .dma cc1_scoped2.sem) 0 ∗ semVal (V d (cV L) (jV L), .dma cc1_scoped3.sem) 0
        ∗ h_ub d L u ∗ h_idb d L ib ∗ h_lrb d L (k1_pay43 (F := F)) ∗ (∃ f, (allb.view.loc (V d (cV L) (jV L)) ↦{fullShare} f))
        ∗ (∃ f, shALoc d (cV L) ↦[rowS (jL L)]{fullShare} f) ∗ (bigSep Finset.univ fun j : Fin 16 => atPos EM (d, 0, jL L, j) 0 ∅ 0) ∗ (bigSep Finset.univ fun k : Fin 16 => dutyTok EM (d, 0, k, jL L) 0 0)
        ∗ (bigSep Finset.univ fun j : Fin (grid1.bound 1) => dutyTok EB (bcell d (cV L) (j.castLE hsub1)) 0 (jL L).val) ∗ cred (tallyAt (bcell d (cV L) (jV L)) (some 0) 16) ∗ atPos EB (bcell d (cV L) (jV L)) 0 ∅ 0
        ∗ owes (V d (cV L) (jV L)) ((O + oxB d (cV L) 1) + oxB d (cV L) 0) W)
      ⊢ iprop((iprop(semVal (V d (cV L) (jV L), .dma cc1_scoped2.sem) 0 ∗ semVal (V d (cV L) (jV L), .dma cc1_scoped3.sem) 0
          ∗ h_ub d L u ∗ h_idb d L ib ∗ (∃ f, h_lrb d L f) ∗ h_allb d L (A d)
          ∗ (shALoc d (cV L) ↦{part16 (jL L)} (fun i => A d (i 0).val))
          ∗ (∃ S : Finset ℕ, ⌜S ⊆ Finset.range 32⌝ ∗ atPos EB (bcell d (cV L) (jV L)) 0 S 16 ∗ bigSep S fun n => told (F := F) d n) ∗ depAll (F := F) d 0
          ∗ owes (V d (cV L) (jV L)) (O + oxB d (cV L) 1) (insert (.dma cc1_scoped3.sem, none) (insert (.dma cc1_scoped2.sem, none) W ∪ {(.reg sc_bar0, some 0)})))
            -∗ Q (k1_pay50 (vec (A d) 0) (vec (A d) 16) (vec (A d) 32) (vec (A d) 48) (vec (A d) 64) (vec (A d) 80) (vec (A d) 96) (vec (A d) 112)
              (vec (A d) 128) (vec (A d) 144) (vec (A d) 160) (vec (A d) 176) (vec (A d) 192)))
        -∗ wp frame (wpE (defs₀ (F := F)) 𝒱₀ (V d (cV L) (jV L)) none) Set.univ (k1_part12 (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6 arg1 V1 (lo F ib) (hi F ib) hw v21) Q) := by
  have hlo := lo_lt F hib
  have hhi := hi_lt F hib
  have hno := (chk1_of hlo hhi).2
  have hO1 : ∀ g, (O + oxB d (cV L) 1) g none = 0 := fun g => by rw [Pi.add_apply, Finsupp.add_apply, hO g, oxB_none]
  have hO2 : ∀ g, ((O + oxB d (cV L) 1) + oxB d (cV L) 0) g none = 0 := fun g => by rw [Pi.add_apply, Finsupp.add_apply, hO1 g, oxB_none]
  rw [k1_part12_eq_skeleton]
  unfold k1_part12_skel
  iintro ⟨#Hlv, #Hinv, #Hr, #Hbox, Hs2, Hs3, Hu, Hi, Hl, ⟨%fa, Hal⟩, ⟨%fs, Hsh⟩, Hba, Hbt, Htoks, Hcred, Hat, HO⟩ Hk
  iapply (Scf.wp_for_bind frame (wpE (defs₀ (F := F)) 𝒱₀ (V d (cV L) (jV L)) none) Set.univ (k1_t1_loop (lo F ib) (hi F ib)).lb (k1_t1_loop (lo F ib) (hi F ib)).ub
      (k1_t1_loop (lo F ib) (hi F ib)).st (k1_t1_ok _ _ hw) () _ (fun t _ => inv1 d L u ib t)
      (fun k acc => step1 d L u ib arg1 v21 hlo hhi hw k acc)) $$ [Hi Hu Hl]
  · unfold inv1
    isplitl [Hi]; · iexact Hi
    isplitl [Hu]; · iexact Hu
    iexact Hl
  iintro %acc H
  unfold inv1
  icases H with ⟨Hi, Hu, Hl⟩
  iapply (Scf.wp_for_bind frame (wpE (defs₀ (F := F)) 𝒱₀ (V d (cV L) (jV L)) none) Set.univ (k1_t3_loop (lo F ib) (hi F ib)).lb (k1_t3_loop (lo F ib) (hi F ib)).ub
      (k1_t3_loop (lo F ib) (hi F ib)).st (k1_t3_ok _ _ hw) () _ (fun _ _ => iprop(emp))
      (fun k acc => absurd k.isLt (by
        have := hno
        change ¬ k.val < (k1_t3_loop (lo F ib) (hi F ib)).trips
        omega))) $$ []
  · iempintro
  iintro %acc' -
  ihave Hl := (show h_lrb d L (maxTab u ib (Scf.trips (k1_t1_loop (lo F ib) (hi F ib)).lb (k1_t1_loop (lo F ib) (hi F ib)).ub (k1_t1_loop (lo F ib) (hi F ib)).st))
    ⊢ h_lrb d L (locMax u ib) from Entails.of_eq rfl) $$ Hl
  iapply (wp_copy_to_a d L _ W hO2 (A d) (locMax u ib) hA fs) $$ [Hs2 Hl Hsh HO]
  · isplitr; · iexact Hlv
    isplitl [Hs2]; · iexact Hs2
    isplitl [Hl]; · iexact Hl
    isplitl [Hsh] <;> iassumption
  iintro ⟨Hs2, Hl, Hsh, HO⟩
  ihave Hsh := (Entails.of_eq (shr_A_row A B d (cV L) (jL L))) $$ Hsh
  imod (fill_all (F := F) (shr A B (cV L)) κ' d 0 (jL L)) $$ [Hba Hsh] with #Hdep
  · isplitr; · iexact Hbox
    rw [bigSep_sep']
    isplitl [Hba] <;> iassumption
  iapply (wp_barrier1 (F := F) d L κ (O + oxB d (cV L) 1) _) $$ [HO Htoks Hcred Hat]
  · isplitr; · iexact Hinv
    isplitr; · iexact Hr
    isplitr; · iexact Hdep
    isplitl [HO]; · iexact HO
    isplitl [Htoks]; · iexact Htoks
    isplitl [Hcred]; · iexact Hcred
    isplitl [Hat]; · iexact Hat
    iapply ((K (F := F)).mayOwe_of_bound (thr := V d (cV L) (jV L)) 3 (fun p hp => by
        rw [Finset.mem_singleton] at hp; subst hp
        exact le_of_eq (lev_bar (F := F) d (cV L) (jV L) 0))
      (fun g ι hg => by
        by_cases h1 : 0 < O g ι
        · exact lt_of_lt_of_le (by decide) (hOlev g ι h1)
        · rw [Pi.add_apply, Finsupp.add_apply, Nat.eq_zero_of_not_pos h1, Nat.zero_add] at hg
          obtain ⟨j, rfl, rfl⟩ := oxB_pos hg
          rw [lev_bar]
          decide))
    iexact Hlv
  iintro ⟨HO, HS, #Hall0⟩
  imod (take_all (F := F) (shr A B (cV L)) κ' d 0 (jL L)) $$ [Hbt] with Hsh
  · isplitr
    · isplitr; · iexact Hbox
      iexact Hall0
    iexact Hbt
  ihave Hsh := (Entails.of_eq (shr_A_all A B d (cV L) (jL L))) $$ Hsh
  iapply (wp_copy_from_a d L _ _ hO1 (A d) (part16 (jL L)) fa) $$ [Hs3 Hsh Hal HO]
  · isplitr; · iexact Hlv
    isplitl [Hs3]; · iexact Hs3
    isplitl [Hsh]; · iexact Hsh
    isplitl [Hal] <;> iassumption
  iintro ⟨Hs3, Hsh, Hal, HO⟩
  iapply (wp_load_allb d L _ (o := 0) rfl) $$ Hal
  iintro Hal
  iapply (wp_load_allb d L _ (o := 16) rfl) $$ Hal
  iintro Hal
  iapply (wp_load_allb d L _ (o := 32) rfl) $$ Hal
  iintro Hal
  iapply (wp_load_allb d L _ (o := 48) rfl) $$ Hal
  iintro Hal
  iapply (wp_load_allb d L _ (o := 64) rfl) $$ Hal
  iintro Hal
  iapply (wp_load_allb d L _ (o := 80) rfl) $$ Hal
  iintro Hal
  iapply (wp_load_allb d L _ (o := 96) rfl) $$ Hal
  iintro Hal
  iapply (wp_load_allb d L _ (o := 112) rfl) $$ Hal
  iintro Hal
  iapply (wp_load_allb d L _ (o := 128) rfl) $$ Hal
  iintro Hal
  iapply (wp_load_allb d L _ (o := 144) rfl) $$ Hal
  iintro Hal
  iapply (wp_load_allb d L _ (o := 160) rfl) $$ Hal
  iintro Hal
  iapply (wp_load_allb d L _ (o := 176) rfl) $$ Hal
  iintro Hal
  iapply (wp_load_allb d L _ (o := 192) rfl) $$ Hal
  iintro Hal
  iapply (wp_done d L)
  iapply Hk
  isplitl [Hs2]; · iexact Hs2
  isplitl [Hs3]; · iexact Hs3
  isplitl [Hu]; · iexact Hu
  isplitl [Hi]; · iexact Hi
  isplitl [Hl]; · iexists _; iexact Hl
  isplitl [Hal]; · iexact Hal
  isplitl [Hsh]; · iexact Hsh
  isplitl [HS]; · iexact HS
  isplitr; · iexact Hall0
  iexact HO

end Cert.Proof.Sc

end
-- ==== Proof.LoopExp.lean ====
module

public import proofs.«01_k».proof.Proof.Loops

@[expose] public section

/-! # The loop of the exponentials -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)

set_option maxHeartbeats 1000000

/-! ## The loop of the exponentials -/

/-- A buffer whose first `t` values are `T`'s. -/
def sumsUpTo (T ft : ℕ → F .f32) (t : ℕ) : ℕ → F .f32 := fun k => if k < t then T k else ft k

/-- The state before group `t`: the groups before it replaced by their exponentials, and their sums kept. -/
def inv5 (g : Vec F S16 .f32) (u : ℕ → F .f32) (ib : ℕ → BitVec 32) (ft : ℕ → F .f32) (t : ℕ) : sProp 𝕄 :=
  iprop(h_idb d L ib ∗ h_ub d L (eUpTo g u ib t) ∗ h_gb d L g ∗ h_totb d L (sumsUpTo (tot g u ib) ft t))

theorem tot_store (g : Vec F S16 .f32) (u : ℕ → F .f32) (ib : ℕ → BitVec 32) (ft : ℕ → F .f32) {t : ℕ} (ht : t < 128) {w : BitVec 32}
    (hw : w = BitVec.ofNat 32 t) (h) :
    storeIdx (F := F) (s := S128) (e := .f32) (fun i => sumsUpTo (tot g u ib) ft t (i 0).val)
        ![broadcast S16 w] (totRow g u ib t) (k1_pay54 V1) false h
      = fun i => sumsUpTo (tot g u ib) ft (t + 1) (i 0).val := by
  subst hw
  have hm : ∀ x, k1_pay54 V1 x = 1 ↔ x = lane 0 := first_lane (by rfl)
  have hn := word_toNat (t := t) (by omega)
  funext j
  by_cases hj : (j 0).val = t
  · have e1 := storeIdx_hit (F := F) (n := 128) (e := .f32) (fun i => sumsUpTo (tot g u ib) ft t (i 0).val)
      (broadcast S16 (BitVec.ofNat 32 t)) (totRow g u ib t) (k1_pay54 V1) h j (lane 0) ((hm _).mpr rfl)
      (hj.trans hn.symm) (fun y hy _ => (hm y).mp hy)
    refine e1.trans ?_
    unfold sumsUpTo
    rw [hj, if_pos (Nat.lt_succ_self t)]
    rfl
  · have e1 := storeIdx_miss (F := F) (n := 128) (e := .f32) (fun i => sumsUpTo (tot g u ib) ft t (i 0).val)
      (broadcast S16 (BitVec.ofNat 32 t)) (totRow g u ib t) (k1_pay54 V1) h j (fun y _ hh => hj (hh.trans hn))
    refine e1.trans ?_
    unfold sumsUpTo
    by_cases hlt : (j 0).val < t
    · rw [if_pos hlt, if_pos (by omega)]
    · rw [if_neg hlt, if_neg (by omega)]

theorem step5 (g : Vec F S16 .f32) (u : ℕ → F .f32) (ib : ℕ → BitVec 32) (ft : ℕ → F .f32) (hib : ∀ k < 2048, (ib k).toNat < 16)
    (v51 : FVec F S16 .f32) (k : Fin k1_t5_loop.trips) (acc : Unit) :
    inv5 d L g u ib ft k.val ⊢ wp frame (wpE (defs₀ (F := F)) 𝒱₀ (V d (cV L) (jV L)) none) Set.univ (k1_t5_body (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6 V1 v51 k acc) fun _ => inv5 d L g u ib ft (k.val + 1) := by
  have hk : k.val < 128 := k.isLt
  unfold inv5 k1_t5_body
  rw [k1_part5_eq_skeleton]
  unfold k1_part5_skel
  iintro ⟨HI, Hu, Hg, Ht⟩
  iapply (wp_seq d L)
  iapply (wp_load_idb d L ib (o := 16 * k.val) (by rw [k1_off7_eq]; rfl)) $$ HI
  iintro HI
  iapply (wp_check d L (show k1_chk4 _ from idx_lt (seg_lt hib hk)))
  iapply (wp_gather_gb d L g) $$ Hg
  iintro Hg
  iapply (wp_load_ub d L _ (o := 16 * k.val) (by rw [k1_off8_eq]; rfl)) $$ Hu
  iintro Hu
  iapply (wp_load_ub d L _ (o := 16 * k.val) (by rw [k1_off8_eq]; rfl)) $$ Hu
  iintro Hu
  iapply (wp_store_ub d L _ (o := 16 * k.val) (by rw [k1_off8_eq]; rfl)) $$ Hu
  iintro Hu
  iapply (wp_check d L (show k1_chk5 _ from broadcast_lt (by rw [trip_word, word_toNat (by omega)]; exact hk)))
  iapply (wp_done d L)
  have hv : vec (eUpTo g u ib k.val) (16 * k.val) = vec u (16 * k.val) := vec_rowsUpTo_ge _ _ (le_refl (16 * k.val))
  rw [hv]
  have hs := fun h => tot_store (F := F) g u ib ft hk (trip_word k.val) h
  iapply (wp_scatter_totb d L (sumsUpTo (tot g u ib) ft k.val) (hs _)) $$ Ht
  iintro Ht
  iapply (wp_done d L)
  isplitl [HI]; · iexact HI
  isplitl [Hu]
  · unfold eUpTo
    rw [← rowsUpTo_succ (eRow g u ib) u k.val (16 * k.val) rfl]
    iexact Hu
  isplitl [Hg]; · iexact Hg
  iexact Ht

end Cert.Proof.Sc

end
-- ==== Proof.LoopOff.lean ====
module

public import proofs.«01_k».proof.Proof.Loops

@[expose] public section

/-! # The loop of the sums before each group -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)

set_option maxHeartbeats 1000000

theorem before_lt (x : S16.Idx) : (k1_pay33 V1 x).toNat < 16 := by
  have hx := lane_lt x
  obtain ⟨k, rfl⟩ : ∃ k : Fin 16, x = lane k.val := ⟨⟨(x 0).val, hx⟩, (lane_self x).symm⟩
  change (Scalar.maxsi (Scalar.subi (V1 (lane k.val)) 1#32) 0#32).toNat < 16
  rw [V1_apply, lane_val, Nat.mod_eq_of_lt k.isLt]
  revert k
  decide +kernel

/-- The state before group of groups `t`: the sums before the groups of the groups of groups before it. -/
def inv6 (T : ℕ → F .f32) (fo : ℕ → F .f32) (t : ℕ) (acc : FVec F S16 .f32) : sProp 𝕄 :=
  iprop(⌜acc = carry T t⌝ ∗ h_totb d L T ∗ (∃ f : S16.Idx → F .f32, h_tb d L f) ∗ h_offb d L (rowsUpTo (offRow T) fo t))

theorem step6 (T : ℕ → F .f32) (fo : ℕ → F .f32) (v51 : FVec F S16 .f32) (k : Fin k1_t6_loop.trips) (acc : FVec F S16 .f32) :
    inv6 d L T fo k.val acc ⊢ wp frame (wpE (defs₀ (F := F)) 𝒱₀ (V d (cV L) (jV L)) none) Set.univ (k1_t6_body (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6 V1 v51 k acc) (inv6 d L T fo (k.val + 1)) := by
  have hk : k.val < 8 := k.isLt
  unfold inv6 k1_t6_body
  rw [k1_part6_eq_skeleton, k1_part7_eq_skeleton, k1_part8_eq_skeleton]
  unfold k1_part6_skel k1_part7_skel k1_part8_skel
  iintro ⟨%hacc, HT, ⟨%f, Hb⟩, Ho⟩
  subst hacc
  iapply (wp_seq d L)
  iapply (wp_load_totb d L T (o := 16 * k.val) (by rw [k1_off9_eq]; rfl)) $$ HT
  iintro HT
  iapply (wp_done d L)
  iapply (wp_seq d L)
  iapply (wp_done d L)
  iapply (wp_seq d L)
  iapply (wp_load_tb d L f (o := 0) rfl) $$ Hb
  iintro Hb
  iapply (wp_store_tb d L f (o := 0) rfl) $$ Hb
  iintro Hb
  iapply (wp_check d L (show k1_chk6 _ from idx_lt before_lt))
  iapply (wp_gather_tb d L _) $$ Hb
  iintro Hb
  iapply (wp_load_offb d L _ (o := 16 * k.val) (by rw [k1_off10_eq]; rfl)) $$ Ho
  iintro Ho
  iapply (wp_store_offb d L _ (o := 16 * k.val) (by rw [k1_off10_eq]; rfl)) $$ Ho
  iintro Ho
  iapply (wp_done d L)
  iapply (wp_done d L)
  isplitr; · ipureintro; rfl
  isplitl [HT]; · iexact HT
  isplitl [Hb]
  · iexists _; iexact Hb
  rw [← rowsUpTo_succ (offRow T) fo k.val (16 * k.val) rfl]
  iexact Ho

end Cert.Proof.Sc

end
-- ==== Proof.LoopSum.lean ====
module

public import proofs.«01_k».proof.Proof.Loops

@[expose] public section

/-! # The loop of the running sums -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)

set_option maxHeartbeats 1000000

/-- The state before group `t`: the running sums at the last rows of the segments among the groups before it. -/
def inv7 (e : ℕ → F .f32) (o : ℕ → F .f32) (ib : ℕ → BitVec 32) (t : ℕ) : sProp 𝕄 :=
  iprop(h_idb d L ib ∗ h_ub d L e ∗ h_offb d L o ∗ h_lrb d L (cumTab e o ib t))

theorem step7 (e : ℕ → F .f32) (o : ℕ → F .f32) (ib : ℕ → BitVec 32) (hib : ∀ k < 2048, (ib k).toNat < 16) (v51 : FVec F S16 .f32)
    (k : Fin k1_t7_loop.trips) (acc : Unit) :
    inv7 d L e o ib k.val ⊢ wp frame (wpE (defs₀ (F := F)) 𝒱₀ (V d (cV L) (jV L)) none) Set.univ (k1_t7_body (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6 V1 v51 k acc) fun _ => inv7 d L e o ib (k.val + 1) := by
  have hk : k.val < 128 := k.isLt
  unfold inv7 k1_t7_body
  rw [k1_part9_eq_skeleton, k1_part10_eq_skeleton]
  unfold k1_part9_skel k1_part10_skel
  iintro ⟨HI, Hu, Ho, Hl⟩
  iapply (wp_seq d L)
  iapply (wp_load_idb d L ib (o := 16 * k.val) (by rw [k1_off11_eq]; rfl)) $$ HI
  iintro HI
  iapply (wp_check d L (show k1_chk8 _ from idx_lt (seg_lt hib hk)))
  iapply (wp_load_ub d L e (o := 16 * k.val) (by rw [k1_off12_eq]; rfl)) $$ Hu
  iintro Hu
  iapply (wp_done d L)
  iapply (wp_seq d L)
  iapply (wp_done d L)
  iapply (wp_check d L (show k1_chk7 _ from broadcast_lt (by rw [trip_word, word_toNat (by omega)]; exact hk)))
  iapply (wp_gather_offb d L o) $$ Ho
  iintro Ho
  iapply (wp_load_idb d L ib (o := 16 * k.val + 1) (by rw [k1_off13_eq]; rfl)) $$ HI
  iintro HI
  iapply (wp_scatter_lrb d L _) $$ Hl
  iintro Hl
  iapply (wp_done d L)
  isplitl [HI]; · iexact HI
  isplitl [Hu]; · iexact Hu
  isplitl [Ho]; · iexact Ho
  rw [trip_word]
  iexact Hl

end Cert.Proof.Sc

end
-- ==== Proof.Sums.lean ====
module

public import proofs.«01_k».proof.Proof.Head
public import proofs.«01_k».proof.Proof.LoopExp
public import proofs.«01_k».proof.Proof.LoopOff
public import proofs.«01_k».proof.Proof.LoopSum

@[expose] public section

/-! # The middle of a tile: exponentials and running sums -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)
variable {α : Type} {Q : α → sProp (MT nD τ sig (HIx 2) (Elt F) ℕ UU ℕ)}

theorem trips5 : k1_t5_loop.trips = 128 := by decide +kernel
theorem trips6 : k1_t6_loop.trips = 8 := by decide +kernel
theorem trips7 : k1_t7_loop.trips = 128 := by decide +kernel

set_option maxHeartbeats 400000 in
/-- The maximum of the rows, the exponentials, and the tile's running sums at its segments' last rows. -/
theorem wp_part13 (A : ℕ → F .f32) (u : ℕ → F .f32) (ib : ℕ → BitVec 32) (hib : ∀ k < 2048, (ib k).toNat < 16) {Q} :
    iprop(h_ub d L u ∗ h_idb d L ib ∗ (∃ f, h_lrb d L f) ∗ h_allb d L A
        ∗ (∃ f, (gb.view.loc (V d (cV L) (jV L)) ↦{fullShare} f)) ∗ (∃ f, (tb.view.loc (V d (cV L) (jV L)) ↦{fullShare} f)) ∗ (∃ f, (totb.view.loc (V d (cV L) (jV L)) ↦{fullShare} f)) ∗ (∃ f, (offb.view.loc (V d (cV L) (jV L)) ↦{fullShare} f)))
      ⊢ iprop((iprop(h_ub d L (eUpTo (glbMax A) u ib 128) ∗ h_idb d L ib ∗ h_lrb d L (cumTab (eUpTo (glbMax A) u ib 128) (offs (tot (glbMax A) u ib)) ib 128) ∗ h_allb d L A
          ∗ h_gb d L (glbMax A) ∗ (∃ f, h_tb d L f) ∗ (∃ f, h_totb d L f) ∗ (∃ f, h_offb d L f))
            -∗ Q ⟨cumTab (eUpTo (glbMax A) u ib 128) (offs (tot (glbMax A) u ib)) ib 128,
              k1_pay59 V1 (cumTab (eUpTo (glbMax A) u ib 128) (offs (tot (glbMax A) u ib)) ib 128),
              k1_pay60 V1 (cumTab (eUpTo (glbMax A) u ib 128) (offs (tot (glbMax A) u ib)) ib 128)⟩)
        -∗ wp frame (wpE (defs₀ (F := F)) 𝒱₀ (V d (cV L) (jV L)) none) Set.univ (k1_part13 (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6 V1 (k1_pay50 (vec A 0) (vec A 16) (vec A 32) (vec A 48) (vec A 64) (vec A 80) (vec A 96) (vec A 112)
              (vec A 128) (vec A 144) (vec A 160) (vec A 176) (vec A 192))) Q) := by
  rw [k1_part13_eq_skeleton]
  unfold k1_part13_skel
  iintro ⟨Hu, Hi, ⟨%fl, Hl⟩, Hal, ⟨%fg, Hg⟩, ⟨%ftb, Htb⟩, ⟨%ftot, Htot⟩, ⟨%foff, Hoff⟩⟩ Hk
  obtain ⟨gt, rfl⟩ := by_position (n := 128) (by decide) ftot
  obtain ⟨go, rfl⟩ := by_position (n := 128) (by decide) foff
  ihave Hg := (show (gb.view.loc (V d (cV L) (jV L)) ↦{fullShare} fg : sProp 𝕄) ⊢ h_gb d L fg from Entails.of_eq rfl) $$ Hg
  ihave Htb := (show (tb.view.loc (V d (cV L) (jV L)) ↦{fullShare} ftb : sProp 𝕄) ⊢ h_tb d L ftb from Entails.of_eq rfl) $$ Htb
  ihave Htot := (show (totb.view.loc (V d (cV L) (jV L)) ↦{fullShare} (fun i => gt (i 0).val) : sProp 𝕄) ⊢ h_totb d L gt from Entails.of_eq rfl) $$ Htot
  ihave Hoff := (show (offb.view.loc (V d (cV L) (jV L)) ↦{fullShare} (fun i => go (i 0).val) : sProp 𝕄) ⊢ h_offb d L go from Entails.of_eq rfl) $$ Hoff
  iapply (wp_load_allb d L _ (o := 208) rfl) $$ Hal
  iintro Hal
  iapply (wp_load_allb d L _ (o := 224) rfl) $$ Hal
  iintro Hal
  iapply (wp_load_allb d L _ (o := 240) rfl) $$ Hal
  iintro Hal
  iapply (wp_load_gb d L _ (o := 0) rfl) $$ Hg
  iintro Hg
  iapply (wp_store_gb d L _ (o := 0) rfl) $$ Hg
  iintro Hg
  iapply (wp_load_lrb d L _ (o := 0) rfl) $$ Hl
  iintro Hl
  iapply (wp_store_lrb d L _ (o := 0) rfl) $$ Hl
  iintro Hl
  ihave Hg := (show h_gb d L (k1_pay51 (k1_pay50 (vec A 0) (vec A 16) (vec A 32) (vec A 48) (vec A 64) (vec A 80) (vec A 96) (vec A 112)
              (vec A 128) (vec A 144) (vec A 160) (vec A 176) (vec A 192)) (vec A 208) (vec A 224) (vec A 240)) ⊢ h_gb d L (glbMax A) from Entails.of_eq rfl) $$ Hg
  generalize hgg : glbMax A = g
  iapply (Scf.wp_for_bind frame (wpE (defs₀ (F := F)) 𝒱₀ (V d (cV L) (jV L)) none) Set.univ k1_t5_loop.lb k1_t5_loop.ub k1_t5_loop.st k1_t5_ok () _
      (fun t _ => inv5 d L g u ib gt t) (fun k acc => step5 d L g u ib gt hib _ k acc)) $$ [Hi Hu Hg Htot]
  · unfold inv5
    isplitl [Hi]; · iexact Hi
    isplitl [Hu]
    · unfold eUpTo; rw [rowsUpTo_zero]; iexact Hu
    isplitl [Hg]; · iexact Hg
    rw [show sumsUpTo (tot g u ib) gt 0 = gt from funext fun k => if_neg (Nat.not_lt_zero k)]; iexact Htot
  iintro %acc H
  rw [show Scf.trips k1_t5_loop.lb k1_t5_loop.ub k1_t5_loop.st = 128 from trips5]
  unfold inv5
  icases H with ⟨Hi, Hu, Hg, Htot⟩
  ihave Htot := (Entails.of_eq (h_totb_congr (F := F) (d := d) (L := L) (f := sumsUpTo (tot g u ib) gt 128) (g := tot g u ib) fun k hk => if_pos hk)) $$ Htot
  iapply (Scf.wp_for_bind frame (wpE (defs₀ (F := F)) 𝒱₀ (V d (cV L) (jV L)) none) Set.univ k1_t6_loop.lb k1_t6_loop.ub k1_t6_loop.st k1_t6_ok (k1_pay55 (F := F)) _
      (fun t acc => inv6 d L (tot g u ib) go t acc) (fun k acc => step6 d L (tot g u ib) go _ k acc)) $$ [Htot Htb Hoff]
  · unfold inv6
    isplitr; · ipureintro; rfl
    isplitl [Htot]; · iexact Htot
    isplitl [Htb]; · iexists _; iexact Htb
    rw [rowsUpTo_zero]; iexact Hoff
  iintro %acc6 H
  rw [show Scf.trips k1_t6_loop.lb k1_t6_loop.ub k1_t6_loop.st = 8 from trips6]
  unfold inv6
  icases H with ⟨-, Htot, Htb, Hoff⟩
  ihave Hoff := (Entails.of_eq (h_offb_congr (F := F) (d := d) (L := L) (f := rowsUpTo (offRow (tot g u ib)) go 8) (g := offs (tot g u ib)) fun k hk =>
    if_pos (show k < 16 * 8 by omega))) $$ Hoff
  iapply (Scf.wp_for_bind frame (wpE (defs₀ (F := F)) 𝒱₀ (V d (cV L) (jV L)) none) Set.univ k1_t7_loop.lb k1_t7_loop.ub k1_t7_loop.st k1_t7_ok () _
      (fun t _ => inv7 d L (eUpTo g u ib 128) (offs (tot g u ib)) ib t) (fun k acc => step7 d L (eUpTo g u ib 128) (offs (tot g u ib)) ib hib _ k acc)) $$ [Hi Hu Hoff Hl]
  · unfold inv7
    isplitl [Hi]; · iexact Hi
    isplitl [Hu]; · iexact Hu
    isplitl [Hoff]; · iexact Hoff
    iexact Hl
  iintro %acc7 H
  rw [show Scf.trips k1_t7_loop.lb k1_t7_loop.ub k1_t7_loop.st = 128 from trips7]
  unfold inv7
  icases H with ⟨Hi, Hu, Hoff, Hl⟩
  iapply (wp_load_lrb d L _ (o := 0) rfl) $$ Hl
  iintro Hl
  iapply (wp_done d L)
  iapply Hk
  isplitl [Hu]; · iexact Hu
  isplitl [Hi]; · iexact Hi
  isplitl [Hl]; · iexact Hl
  isplitl [Hal]; · iexact Hal
  isplitl [Hg]; · iexact Hg
  isplitl [Htb]; · iexact Htb
  isplitl [Htot]; · iexists _; iexact Htot
  iexists _; iexact Hoff

end Cert.Proof.Sc

end
-- ==== Proof.Meet2.lean ====
module

public import proofs.«01_k».proof.Proof.Head
public import proofs.«01_k».proof.Proof.LoopOff

@[expose] public section

/-! # The second meeting of the tiles: the segment sums -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)
variable {α : Type} {Q : α → sProp (MT nD τ sig (HIx 2) (Elt F) ℕ UU ℕ)}

set_option maxHeartbeats 400000 in
/-- The tile's segment sums, left in the boxes, and everybody's read back after the second barrier. -/
theorem wp_part16 (κ : GSem nD τ sig → ℕ) (κ' : MKey → ℕ) (A B : Dev nD → ℕ → F .f32)
    (O : CellTallies nD τ sig (HIx 2)) (W : Waits sig (HIx 2)) (hO : ∀ g, O g none = 0) (hOlev : ∀ g ι, 0 < O g ι → 14 ≤ (K (F := F)).lev g ι)
    (c : Vec F S16 .f32) (hB : ∀ x : S16.Idx, diffs c x = B d (16 * (jL L).val + (x 0).val)) (arg1 : BitVec 32) {Q} :
    iprop(levAts (K (F := F)).L (K (F := F)).lev ∗ (bigSep Finset.univ fun j : Fin (grid1.bound 1) => cellInv EB (bRd (F := F)) (κ (bcell d (cV L) (j.castLE hsub1))) (bcell d (cV L) (j.castLE hsub1))) ∗ (bigSep Finset.univ fun j : Fin (grid1.bound 1) => reached EB (bcell d (cV L) (j.castLE hsub1)) 0) ∗ boxes (shr A B (cV L)) κ' ∗ depAll (F := F) d 0
        ∗ semVal (V d (cV L) (jV L), .dma cc1_scoped4.sem) 0 ∗ semVal (V d (cV L) (jV L), .dma cc1_scoped5.sem) 0
        ∗ h_lrb d L c ∗ (∃ f, h_tb d L f) ∗ (∃ f, h_allb d L f)
        ∗ (∃ f, shBLoc d (cV L) ↦[rowS (jL L)]{fullShare} f) ∗ (bigSep Finset.univ fun j : Fin 16 => atPos EM (d, 1, jL L, j) 0 ∅ 0) ∗ (bigSep Finset.univ fun k : Fin 16 => dutyTok EM (d, 1, k, jL L) 0 0)
        ∗ (bigSep Finset.univ fun j : Fin (grid1.bound 1) => dutyTok EB (bcell d (cV L) (j.castLE hsub1)) 0 (16 + (jL L).val)) ∗ cred (tallyAt (bcell d (cV L) (jV L)) (some 1) 16)
        ∗ (∃ S : Finset ℕ, ⌜S ⊆ Finset.range 32⌝ ∗ atPos EB (bcell d (cV L) (jV L)) 0 S 16 ∗ bigSep S fun n => told (F := F) d n)
        ∗ owes (V d (cV L) (jV L)) (O + oxB d (cV L) 1) W)
      ⊢ iprop((iprop(semVal (V d (cV L) (jV L), .dma cc1_scoped4.sem) 0 ∗ semVal (V d (cV L) (jV L), .dma cc1_scoped5.sem) 0
          ∗ (∃ f, h_lrb d L f) ∗ (∃ f, h_tb d L f) ∗ h_allb d L (B d)
          ∗ (shBLoc d (cV L) ↦{part16 (jL L)} (fun i => B d (i 0).val))
          ∗ semVal (bcell d (cV L) (jV L)) 0
          ∗ owes (V d (cV L) (jV L)) O (insert (.dma cc1_scoped5.sem, none) (insert (.reg sc_bar0, some 1) (insert (.dma cc1_scoped4.sem, none) W))))
            -∗ Q ⟨k1_pay68 (vec (B d) 0) (vec (B d) 16) (vec (B d) 32), vec (B d) 48⟩)
        -∗ wp frame (wpE (defs₀ (F := F)) 𝒱₀ (V d (cV L) (jV L)) none) Set.univ (k1_part16 (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6 arg1 V1 c (k1_pay63 V1 c (k1_pay61 V1 c (k1_pay59 V1 c) (k1_pay60 V1 c)) (k1_pay62 V1 c)) (k1_pay64 V1 c)) Q) := by
  have hO1 : ∀ g, (O + oxB d (cV L) 1) g none = 0 := fun g => by rw [Pi.add_apply, Finsupp.add_apply, hO g, oxB_none]
  rw [k1_part16_eq_skeleton]
  unfold k1_part16_skel
  iintro ⟨#Hlv, #Hinv, #Hr, #Hbox, #Hall0, Hs4, Hs5, Hl, ⟨%ftb, Htb⟩, ⟨%fa, Hal⟩, ⟨%fs, Hsh⟩, Hba, Hbt, Htoks, Hcred, ⟨%S, %hS, Hat, #Hold⟩, HO⟩ Hk
  iapply (wp_load_tb d L _ (o := 0) rfl) $$ Htb
  iintro Htb
  iapply (wp_store_tb d L _ (o := 0) rfl) $$ Htb
  iintro Htb
  ihave Htb := (show h_tb d L (k1_pay65 V1 c (k1_pay63 V1 c (k1_pay61 V1 c (k1_pay59 V1 c) (k1_pay60 V1 c)) (k1_pay62 V1 c)) (k1_pay64 V1 c)) ⊢ h_tb d L (topRow c) from Entails.of_eq rfl) $$ Htb
  iapply (wp_check d L (show k1_chk9 _ from idx_lt before_lt))
  iapply (wp_gather_tb d L (topRow c)) $$ Htb
  iintro Htb
  iapply (wp_load_lrb d L _ (o := 0) rfl) $$ Hl
  iintro Hl
  iapply (wp_store_lrb d L _ (o := 0) rfl) $$ Hl
  iintro Hl
  ihave Hl := (show h_lrb d L (k1_pay67 V1 c (gat (onLanes (topRow c)) (k1_pay66 V1))) ⊢ h_lrb d L (diffs c) from Entails.of_eq rfl) $$ Hl
  iapply (wp_copy_to_b d L _ W hO1 (B d) (diffs c) hB fs) $$ [Hs4 Hl Hsh HO]
  · isplitr; · iexact Hlv
    isplitl [Hs4]; · iexact Hs4
    isplitl [Hl]; · iexact Hl
    isplitl [Hsh] <;> iassumption
  iintro ⟨Hs4, Hl, Hsh, HO⟩
  ihave Hsh := (Entails.of_eq (shr_B_row A B d (cV L) (jL L))) $$ Hsh
  imod (fill_all (F := F) (shr A B (cV L)) κ' d 1 (jL L)) $$ [Hba Hsh] with #Hdep
  · isplitr; · iexact Hbox
    rw [bigSep_sep']
    isplitl [Hba] <;> iassumption
  iapply (wp_barrier2 (F := F) d L κ O _ S hS) $$ [HO Htoks Hcred Hat]
  · isplitr; · iexact Hinv
    isplitr; · iexact Hr
    isplitr; · iexact Hall0
    isplitr; · iexact Hdep
    isplitr; · iexact Hold
    isplitl [HO]; · iexact HO
    isplitl [Htoks]; · iexact Htoks
    isplitl [Hcred]; · iexact Hcred
    isplitl [Hat]; · iexact Hat
    iapply ((K (F := F)).mayOwe_of_bound (thr := V d (cV L) (jV L)) 11 (fun p hp => by
        rw [Finset.mem_singleton] at hp; subst hp
        exact le_of_eq (lev_bar (F := F) d (cV L) (jV L) 1))
      (fun g ι hg => lt_of_lt_of_le (by decide) (hOlev g ι hg)))
    iexact Hlv
  iintro ⟨HO, Hbar, #Hall1⟩
  imod (take_all (F := F) (shr A B (cV L)) κ' d 1 (jL L)) $$ [Hbt] with Hsh
  · isplitr
    · isplitr; · iexact Hbox
      iexact Hall1
    iexact Hbt
  ihave Hsh := (Entails.of_eq (shr_B_all A B d (cV L) (jL L))) $$ Hsh
  iapply (wp_copy_from_b d L _ _ hO (B d) (part16 (jL L)) (fun i => fa (i 0).val)) $$ [Hs5 Hsh Hal HO]
  · isplitr; · iexact Hlv
    isplitl [Hs5]; · iexact Hs5
    isplitl [Hsh]; · iexact Hsh
    isplitl [Hal]; · unfold h_allb; iexact Hal
    iexact HO
  iintro ⟨Hs5, Hsh, Hal, HO⟩
  iapply (wp_load_allb d L _ (o := 0) rfl) $$ Hal
  iintro Hal
  iapply (wp_load_allb d L _ (o := 16) rfl) $$ Hal
  iintro Hal
  iapply (wp_load_allb d L _ (o := 32) rfl) $$ Hal
  iintro Hal
  iapply (wp_load_allb d L _ (o := 48) rfl) $$ Hal
  iintro Hal
  iapply (wp_done d L)
  iapply Hk
  isplitl [Hs4]; · iexact Hs4
  isplitl [Hs5]; · iexact Hs5
  isplitl [Hl]; · iexists _; iexact Hl
  isplitl [Htb]; · iexists _; iexact Htb
  isplitl [Hal]; · iexact Hal
  isplitl [Hsh]; · iexact Hsh
  isplitl [Hbar]; · iexact Hbar
  iexact HO

end Cert.Proof.Sc

end
-- ==== Proof.Tile.lean ====
module

public import proofs.«01_k».proof.Proof.Bring
public import proofs.«01_k».proof.Proof.Meet1
public import proofs.«01_k».proof.Proof.Sums
public import proofs.«01_k».proof.Proof.Meet2

@[expose] public section

/-! # The whole tile -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (d : Dev nD) (L : grid1.Coords)
variable {α : Type} {Q : α → sProp (MT nD τ sig (HIx 2) (Elt F) ℕ UU ℕ)}

/-- The tile's results into their row: the copy that the kernel starts in one part and waits for in the next. -/
theorem wp_copy_out (O : CellTallies nD τ sig (HIx 2)) (W : Waits sig (HIx 2)) (hO : ∀ g, O g none = 0) (r : ℕ → F .f32) (G : ℕ → F .f32)
    (hG : ∀ k < 2048, r k = G (2048 * (jL L).val + k)) (f0 : Buf (Elt F) (oLoc d)) {Q : PUnit → sProp (MT nD τ sig (HIx 2) (Elt F) ℕ UU ℕ)} :
    iprop(levAts (K (F := F)).L (K (F := F)).lev ∗ semVal (V d (cV L) (jV L), .dma cc1_scoped6.sem) 0 ∗ h_ob d L r
        ∗ (oLoc d ↦[rowU (jL L)]{fullShare} f0) ∗ owes (V d (cV L) (jV L)) O W)
      ⊢ iprop((iprop(semVal (V d (cV L) (jV L), .dma cc1_scoped6.sem) 0 ∗ h_ob d L r
          ∗ (oLoc d ↦[rowU (jL L)]{fullShare} (fun i => G (i 0).val)) ∗ owes (V d (cV L) (jV L)) O (insert (.dma cc1_scoped6.sem, none) W)) -∗ Q ⟨⟩)
        -∗ wp frame (wpE (defs₀ (F := F)) 𝒱₀ (V d (cV L) (jV L)) none) Set.univ (Prog.lift (.enqueueDma ob (.here (oRow L)) (.dma cc1_scoped6.sem) (Memref.isWhole_whole _).wordExact (View.wordExact_bits rfl) ⟨Or.inl rfl, trivial⟩) >>= fun _ => pure ⟨⟩)
            fun (_ : PUnit) => wp frame (wpE (defs₀ (F := F)) 𝒱₀ (V d (cV L) (jV L)) none) Set.univ (Prog.lift (.waitDma2 cc1_scoped6.sem ob (oRow L) (Memref.isWhole_whole _).wordExact (View.wordExact_bits rfl)) >>= fun _ => pure ⟨⟩) Q) := by
  have e : (wp frame (wpE (defs₀ (F := F)) 𝒱₀ (V d (cV L) (jV L)) none) Set.univ (Prog.lift (.enqueueDma ob (.here (oRow L)) (.dma cc1_scoped6.sem) (Memref.isWhole_whole _).wordExact (View.wordExact_bits rfl) ⟨Or.inl rfl, trivial⟩) >>= fun _ =>
          Prog.lift (.waitDma2 cc1_scoped6.sem ob (oRow L) (Memref.isWhole_whole _).wordExact (View.wordExact_bits rfl)) >>= fun _ => pure ⟨⟩) Q : sProp 𝕄)
      = wp frame (wpE (defs₀ (F := F)) 𝒱₀ (V d (cV L) (jV L)) none) Set.univ (Prog.lift (.enqueueDma ob (.here (oRow L)) (.dma cc1_scoped6.sem) (Memref.isWhole_whole _).wordExact (View.wordExact_bits rfl) ⟨Or.inl rfl, trivial⟩) >>= fun _ => pure ⟨⟩)
            fun (_ : PUnit) => wp frame (wpE (defs₀ (F := F)) 𝒱₀ (V d (cV L) (jV L)) none) Set.univ (Prog.lift (.waitDma2 cc1_scoped6.sem ob (oRow L) (Memref.isWhole_whole _).wordExact (View.wordExact_bits rfl)) >>= fun _ => pure ⟨⟩) Q := by
    rw [← wp_bind]; rfl
  rw [← e, ← pts_oRow (F := F) d L, ← pts_oRow (F := F) d L]
  unfold h_ob
  have hG' : ∀ x : S2048.Idx, (fun i : S2048.Idx => r (i 0).val) x = G (2048 * (jL L).val + (x 0).val) := fun x => hG _ (show (x 0).val < 2048 from (x 0).isLt)
  revert hG'
  generalize (fun i : S2048.Idx => r (i 0).val) = f
  intro hG'
  iintro ⟨#Hlv, Hsem, Hb, Ho, HO⟩ Hk
  ihave Hmw := (show levAts (K (F := F)).L (K (F := F)).lev ⊢ Transfers.MayWaits (V d (cV L) (jV L)) (default : HIx 2) O from
    (K (F := F)).mayWaits_none (thr := V d (cV L) (jV L)) hO) $$ Hlv
  sl_exec
  sl_step
  iapply Hk
  isplitl [Hsem]; · iexact Hsem
  isplitl [Hb]; · iexact Hb
  isplitl [Ho]
  · iapply (Entails.of_eq (pointsTo_congr fun i hi => ?_))
    rotate_left
    · iexact Ho
    obtain ⟨x, -, rfl⟩ := Finset.mem_map.mp hi
    sl_unfold_run_names
    have h := View.read_writes_cons_hit_of_coords (Val := Elt F) (oRow L).view f0 (Rect.whole S2048) (ReadAs.same.apply (View.read (Elt F) ob.view f)) [] x x
      fun a => (show (x a).val = 0 + 1 * (x a).val by omega)
    rw [View.read_apply] at h
    refine Eq.trans ?_ (h.trans ?_)
    · exact (eq_of_heq (cast_heq _ _)).symm
    refine (congrFun (View.read_whole (Val := Elt F) cc1_scratch5 f) x).trans ?_
    refine (hG' x).trans (congrArg G ?_)
    exact (emb_row2048 L _ (k1_off17_eq L) x).symm
  iexact HO

theorem trips8 : k1_t8_loop.trips = 128 := by decide +kernel

/-! ## What the launch deals a tile -/

theorem nSub_eq : τ.nSub = 16 := rfl

/-- What tile `i` of SparseCore `c` is dealt: the invariants of the barrier cells and of the boxes, its own position and its tokens in the
    barrier cells, the credit for its own cell, its own row's boxes' positions and the tokens of the boxes meant for it. -/
def bkit (A B : Dev nD → ℕ → F .f32) (d : Dev nD) (c : Fin τ.nSC) (i : Fin τ.nSub) : sProp 𝕄 :=
  iprop((∃ κ : GSem nD τ sig → ℕ, bigSep Finset.univ fun j : Fin (grid1.bound 1) =>
      cellInv EB (bRd (F := F)) (κ (bcell d c (j.castLE hsub1))) (bcell d c (j.castLE hsub1)))
    ∗ (∃ κ' : MKey → ℕ, boxes (shr A B c) κ')
    ∗ (bigSep Finset.univ fun j : Fin (grid1.bound 1) => reached EB (bcell d c (j.castLE hsub1)) 0)
    ∗ (bigSep Finset.univ fun j : Fin (grid1.bound 1) => dutyTok EB (bcell d c (j.castLE hsub1)) 0 i.val)
    ∗ (bigSep Finset.univ fun j : Fin (grid1.bound 1) => dutyTok EB (bcell d c (j.castLE hsub1)) 0 (16 + i.val))
    ∗ atPos EB (bcell d c i) 0 ∅ 0
    ∗ cred (tallyAt (bcell d c i) (some 0) 16)
    ∗ cred (tallyAt (bcell d c i) (some 1) 16)
    ∗ (bigSep Finset.univ fun j : Fin 16 => atPos EM (d, 0, Fin.cast nSub_eq i, j) 0 ∅ 0)
    ∗ (bigSep Finset.univ fun j : Fin 16 => atPos EM (d, 1, Fin.cast nSub_eq i, j) 0 ∅ 0)
    ∗ (bigSep Finset.univ fun k : Fin 16 => dutyTok EM (d, 0, k, Fin.cast nSub_eq i) 0 0)
    ∗ (bigSep Finset.univ fun k : Fin 16 => dutyTok EM (d, 1, k, Fin.cast nSub_eq i) 0 0))

/-! ## The whole tile -/

theorem tabMax_row (U : ℕ → F .f32) (I : ℕ → BitVec 32) (j : ℕ) (x : S16.Idx) :
    locMax (uOf U j) (ibOf I j) x = tabMax U I (16 * j + (x 0).val) := by
  have hx := lane_lt x
  unfold tabMax
  rw [show (16 * j + (x 0).val) / 16 = j by omega,
    show lane (16 * j + (x 0).val) = x from lane_ext (by rw [lane_val]; omega)]

theorem tabSum_row (U : ℕ → F .f32) (I : ℕ → BitVec 32) (j : ℕ) (x : S16.Idx) :
    diffs (cumTab (eUpTo (glbMax (tabMax U I)) (uOf U j) (ibOf I j) 128) (offs (tot (glbMax (tabMax U I)) (uOf U j) (ibOf I j))) (ibOf I j) 128) x
      = tabSum U I (16 * j + (x 0).val) := by
  have hx := lane_lt x
  unfold tabSum locSum
  rw [show (16 * j + (x 0).val) / 16 = j by omega,
    show lane (16 * j + (x 0).val) = x from lane_ext (by rw [lane_val]; omega)]

theorem outAll_row (U : ℕ → F .f32) (I : ℕ → BitVec 32) (j : ℕ) (fo : ℕ → F .f32) (k : ℕ) (hk : k < 2048) :
    rowsUpTo (outRow (glbInv (tabSum U I)) (eUpTo (glbMax (tabMax U I)) (uOf U j) (ibOf I j) 128) (ibOf I j)) fo 128 k = outAll U I (2048 * j + k) := by
  unfold outAll outOf
  rw [show (2048 * j + k) / 2048 = j by omega, show (2048 * j + k) % 2048 = k by omega]
  exact if_pos (show k < 16 * 128 by omega)

set_option maxHeartbeats 400000 in
/-- A tile's whole task. -/
theorem wp_softmax (U : Dev nD → ℕ → F .f32) (I : Dev nD → ℕ → BitVec 32) (hI : ∀ k < 32768, (I d k).toNat < 16)
    (O : CellTallies nD τ sig (HIx 2)) (W : Waits sig (HIx 2)) (hO : ∀ g, O g none = 0) (hOlev : ∀ g ι, 0 < O g ι → 14 ≤ (K (F := F)).lev g ι)
    {Q : PUnit → sProp (MT nD τ sig (HIx 2) (Elt F) ℕ UU ℕ)} :
    iprop(levAts (K (F := F)).L (K (F := F)).lev ∗ bkit (fun d => tabMax (U d) (I d)) (fun d => tabSum (U d) (I d)) d (cV L) (jV L)
        ∗ (uLoc d ↦[rowU (jL L)]{fullShare} (fun i => U d (i 0).val)) ∗ (iLoc d ↦[rowU (jL L)]{fullShare} (fun i => I d (i 0).val))
        ∗ (∃ f, oLoc d ↦[rowU (jL L)]{fullShare} f)
        ∗ (∃ f, shALoc d (cV L) ↦[rowS (jL L)]{fullShare} f) ∗ (∃ f, shBLoc d (cV L) ↦[rowS (jL L)]{fullShare} f)
        ∗ (∃ f, (ub.view.loc (V d (cV L) (jV L)) ↦{fullShare} f)) ∗ (∃ f, (idb.view.loc (V d (cV L) (jV L)) ↦{fullShare} f)) ∗ (∃ f, (lrb.view.loc (V d (cV L) (jV L)) ↦{fullShare} f)) ∗ (∃ f, (allb.view.loc (V d (cV L) (jV L)) ↦{fullShare} f)) ∗ (∃ f, (gb.view.loc (V d (cV L) (jV L)) ↦{fullShare} f))
        ∗ (∃ f, (ob.view.loc (V d (cV L) (jV L)) ↦{fullShare} f)) ∗ (∃ f, (tb.view.loc (V d (cV L) (jV L)) ↦{fullShare} f)) ∗ (∃ f, (totb.view.loc (V d (cV L) (jV L)) ↦{fullShare} f)) ∗ (∃ f, (offb.view.loc (V d (cV L) (jV L)) ↦{fullShare} f))
        ∗ semVal (V d (cV L) (jV L), .dma cc1_scoped0.sem) 0 ∗ semVal (V d (cV L) (jV L), .dma cc1_scoped1.sem) 0 ∗ semVal (V d (cV L) (jV L), .dma cc1_scoped2.sem) 0 ∗ semVal (V d (cV L) (jV L), .dma cc1_scoped3.sem) 0 ∗ semVal (V d (cV L) (jV L), .dma cc1_scoped4.sem) 0 ∗ semVal (V d (cV L) (jV L), .dma cc1_scoped5.sem) 0 ∗ semVal (V d (cV L) (jV L), .dma cc1_scoped6.sem) 0
        ∗ owes (V d (cV L) (jV L)) ((O + oxB d (cV L) 1) + oxB d (cV L) 0) W)
      ⊢ iprop((iprop((uLoc d ↦[rowU (jL L)]{fullShare} (fun i => U d (i 0).val)) ∗ (iLoc d ↦[rowU (jL L)]{fullShare} (fun i => I d (i 0).val))
        ∗ (oLoc d ↦[rowU (jL L)]{fullShare} (fun i => outAll (U d) (I d) (i 0).val))
        ∗ (shALoc d (cV L) ↦{part16 (jL L)} (fun i => tabMax (U d) (I d) (i 0).val)) ∗ (shBLoc d (cV L) ↦{part16 (jL L)} (fun i => tabSum (U d) (I d) (i 0).val))
        ∗ semVal (bcell d (cV L) (jV L)) 0
        ∗ (∃ f, (ub.view.loc (V d (cV L) (jV L)) ↦{fullShare} f)) ∗ (∃ f, (idb.view.loc (V d (cV L) (jV L)) ↦{fullShare} f)) ∗ (∃ f, (lrb.view.loc (V d (cV L) (jV L)) ↦{fullShare} f)) ∗ (∃ f, (allb.view.loc (V d (cV L) (jV L)) ↦{fullShare} f)) ∗ (∃ f, (gb.view.loc (V d (cV L) (jV L)) ↦{fullShare} f))
        ∗ (∃ f, (ob.view.loc (V d (cV L) (jV L)) ↦{fullShare} f)) ∗ (∃ f, (tb.view.loc (V d (cV L) (jV L)) ↦{fullShare} f)) ∗ (∃ f, (totb.view.loc (V d (cV L) (jV L)) ↦{fullShare} f)) ∗ (∃ f, (offb.view.loc (V d (cV L) (jV L)) ↦{fullShare} f))
        ∗ semVal (V d (cV L) (jV L), .dma cc1_scoped0.sem) 0 ∗ semVal (V d (cV L) (jV L), .dma cc1_scoped1.sem) 0 ∗ semVal (V d (cV L) (jV L), .dma cc1_scoped2.sem) 0 ∗ semVal (V d (cV L) (jV L), .dma cc1_scoped3.sem) 0 ∗ semVal (V d (cV L) (jV L), .dma cc1_scoped4.sem) 0 ∗ semVal (V d (cV L) (jV L), .dma cc1_scoped5.sem) 0 ∗ semVal (V d (cV L) (jV L), .dma cc1_scoped6.sem) 0
        ∗ ∃ W', ⌜∀ p ∈ W', p ∈ W ∨ p.2 = none ∨ ∃ q : Fin 2, p.2 = some q⌝ ∗ owes (V d (cV L) (jV L)) O W') -∗ Q ⟨⟩)
        -∗ wp frame (wpE (defs₀ (F := F)) 𝒱₀ (V d (cV L) (jV L)) none) Set.univ (cc1__sc_softmax (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6) Q) := by
  have hib := ibOf_lt hI (jL L).isLt
  have hO2 : ∀ g, ((O + oxB d (cV L) 1) + oxB d (cV L) 0) g none = 0 := fun g => by
    rw [Pi.add_apply, Finsupp.add_apply, Pi.add_apply, Finsupp.add_apply, hO g, oxB_none, oxB_none]
  have hw := (chk1_of (lo_lt F hib) (hi_lt F hib)).1
  rw [cc1__sc_softmax_eq_skeleton]
  unfold cc1__sc_softmax_skel bkit
  iintro ⟨#Hlv, ⟨⟨%κ, #Hinv⟩, ⟨%κ', #Hbox⟩, #Hr, Ht0, Ht1, Hat, Hc0, Hc1, Hba0, Hba1, Hbt0, Hbt1⟩, Hu, Hi, ⟨%fo, Ho⟩, HshA, HshB, Bub, Bib, Blr, Bal, Bg, ⟨%fob, Bo⟩, Btb, Btot, Boff,
    S0, S1, S2, S3, S4, S5, S6, HO⟩ Hk
  obtain ⟨go, rfl⟩ := by_position (n := 2048) (by decide) fob
  ihave Bo := (show (ob.view.loc (V d (cV L) (jV L)) ↦{fullShare} (fun i => go (i 0).val) : sProp 𝕄) ⊢ h_ob d L go from Entails.of_eq rfl) $$ Bo
  iapply (wp_seq d L)
  rw [k1_part17_eq_skeleton]
  unfold k1_part17_skel
  iapply (wp_seq d L)
  iapply (wp_part11 d L _ W hO2 (U d) (I d) hw) $$ [S0 S1 Hu Hi Bub Bib Blr HO]
  · isplitr; · iexact Hlv
    isplitl [S0]; · iexact S0
    isplitl [S1]; · iexact S1
    isplitl [Hu]; · iexact Hu
    isplitl [Hi]; · iexact Hi
    isplitl [Bub]; · iexact Bub
    isplitl [Bib]; · iexact Bib
    isplitl [Blr]; · iexact Blr
    iexact HO
  iintro ⟨S0, S1, Hu, Hi, Bub, Bib, Blr, HO⟩
  iapply (wp_seq d L)
  iapply (wp_part12 d L κ κ' (fun d => tabMax (U d) (I d)) (fun d => tabSum (U d) (I d)) O _ hO hOlev (uOf (U d) (jL L).val) (ibOf (I d) (jL L).val) hib hw
    (tabMax_row (U d) (I d) (jL L).val) _ _) $$ [S2 S3 Bub Bib Blr Bal HshA Hba0 Hbt0 Ht0 Hc0 Hat HO]
  · isplitr; · iexact Hlv
    isplitr; · iexact Hinv
    isplitr; · iexact Hr
    isplitr; · iexact Hbox
    isplitl [S2]; · iexact S2
    isplitl [S3]; · iexact S3
    isplitl [Bub]; · iexact Bub
    isplitl [Bib]; · iexact Bib
    isplitl [Blr]; · iexact Blr
    isplitl [Bal]; · iexact Bal
    isplitl [HshA]; · iexact HshA
    isplitl [Hba0]; · iexact Hba0
    isplitl [Hbt0]; · iexact Hbt0
    isplitl [Ht0]; · iexact Ht0
    isplitl [Hc0]; · iexact Hc0
    isplitl [Hat]; · iexact Hat
    iexact HO
  iintro ⟨S2, S3, Bub, Bib, Blr, Bal, HshA, HS, #Hall0, HO⟩
  iapply (wp_seq d L)
  iapply (wp_part13 d L (tabMax (U d) (I d)) (uOf (U d) (jL L).val) (ibOf (I d) (jL L).val) hib) $$ [Bub Bib Blr Bal Bg Btb Btot Boff]
  · isplitl [Bub]; · iexact Bub
    isplitl [Bib]; · iexact Bib
    isplitl [Blr]; · iexact Blr
    isplitl [Bal]; · iexact Bal
    isplitl [Bg]; · iexact Bg
    isplitl [Btb]; · iexact Btb
    isplitl [Btot]; · iexact Btot
    iexact Boff
  iintro ⟨Bub, Bib, Blr, Bal, Bg, Btb, Btot, Boff⟩
  iapply (wp_seq d L)
  rw [k1_part14_eq_skeleton]
  unfold k1_part14_skel
  iapply (wp_done d L)
  iapply (wp_seq d L)
  rw [k1_part15_eq_skeleton]
  unfold k1_part15_skel
  iapply (wp_done d L)
  iapply (wp_seq d L)
  iapply (wp_part16 d L κ κ' (fun d => tabMax (U d) (I d)) (fun d => tabSum (U d) (I d)) O _ hO hOlev _
    (tabSum_row (U d) (I d) (jL L).val) _) $$ [S4 S5 Blr Btb Bal HshB Hba1 Hbt1 Ht1 Hc1 HS HO]
  · isplitr; · iexact Hlv
    isplitr; · iexact Hinv
    isplitr; · iexact Hr
    isplitr; · iexact Hbox
    isplitr; · iexact Hall0
    isplitl [S4]; · iexact S4
    isplitl [S5]; · iexact S5
    isplitl [Blr]; · iexact Blr
    isplitl [Btb]; · iexact Btb
    isplitl [Bal]; · iexists _; iexact Bal
    isplitl [HshB]; · iexact HshB
    isplitl [Hba1]; · iexact Hba1
    isplitl [Hbt1]; · iexact Hbt1
    isplitl [Ht1]; · iexact Ht1
    isplitl [Hc1]; · iexact Hc1
    isplitl [HS]; · iexact HS
    iexact HO
  iintro ⟨S4, S5, ⟨%fl, Blr⟩, ⟨%ft, Btb⟩, Bal, HshB, Hbar, HO⟩
  iapply (wp_load_allb d L _ (o := 64) rfl) $$ Bal
  iintro Bal
  iapply (wp_load_allb d L _ (o := 80) rfl) $$ Bal
  iintro Bal
  iapply (wp_load_allb d L _ (o := 96) rfl) $$ Bal
  iintro Bal
  iapply (wp_load_allb d L _ (o := 112) rfl) $$ Bal
  iintro Bal
  iapply (wp_load_allb d L _ (o := 128) rfl) $$ Bal
  iintro Bal
  iapply (wp_load_allb d L _ (o := 144) rfl) $$ Bal
  iintro Bal
  iapply (wp_load_allb d L _ (o := 160) rfl) $$ Bal
  iintro Bal
  iapply (wp_load_allb d L _ (o := 176) rfl) $$ Bal
  iintro Bal
  iapply (wp_load_allb d L _ (o := 192) rfl) $$ Bal
  iintro Bal
  iapply (wp_load_allb d L _ (o := 208) rfl) $$ Bal
  iintro Bal
  iapply (wp_load_allb d L _ (o := 224) rfl) $$ Bal
  iintro Bal
  iapply (wp_load_allb d L _ (o := 240) rfl) $$ Bal
  iintro Bal
  iapply (wp_load_gb d L _ (o := 0) rfl) $$ Bg
  iintro Bg
  iapply (wp_store_gb d L _ (o := 0) rfl) $$ Bg
  iintro Bg
  ihave Bg := (show h_gb d L (k1_pay69 (k1_pay68 (vec (tabSum (U d) (I d)) 0) (vec (tabSum (U d) (I d)) 16) (vec (tabSum (U d) (I d)) 32)) (vec (tabSum (U d) (I d)) 48)
    (vec (tabSum (U d) (I d)) 64) (vec (tabSum (U d) (I d)) 80) (vec (tabSum (U d) (I d)) 96) (vec (tabSum (U d) (I d)) 112) (vec (tabSum (U d) (I d)) 128) (vec (tabSum (U d) (I d)) 144) (vec (tabSum (U d) (I d)) 160) (vec (tabSum (U d) (I d)) 176) (vec (tabSum (U d) (I d)) 192) (vec (tabSum (U d) (I d)) 208) (vec (tabSum (U d) (I d)) 224) (vec (tabSum (U d) (I d)) 240)) ⊢ h_gb d L (glbInv (tabSum (U d) (I d))) from Entails.of_eq rfl) $$ Bg
  iapply (Scf.wp_for_bind frame (wpE (defs₀ (F := F)) 𝒱₀ (V d (cV L) (jV L)) none) Set.univ k1_t8_loop.lb k1_t8_loop.ub k1_t8_loop.st k1_t8_ok () _
      (fun t _ => inv8 d L (ibOf (I d) (jL L).val) (eUpTo (glbMax (tabMax (U d) (I d))) (uOf (U d) (jL L).val) (ibOf (I d) (jL L).val) 128) (glbInv (tabSum (U d) (I d))) go t)
      (fun k acc => step8 d L _ _ _ go hib k acc)) $$ [Bib Bub Bg Bo]
  · unfold inv8
    isplitl [Bib]; · iexact Bib
    isplitl [Bub]; · iexact Bub
    isplitl [Bg]; · iexact Bg
    rw [rowsUpTo_zero]; iexact Bo
  iintro %acc8 H
  rw [show Scf.trips k1_t8_loop.lb k1_t8_loop.ub k1_t8_loop.st = 128 from trips8]
  unfold inv8
  icases H with ⟨Bib, Bub, Bg, Bo⟩
  iapply (wp_copy_out d L O _ hO _ (outAll (U d) (I d)) (fun k hk => outAll_row (U d) (I d) (jL L).val go k hk) fo) $$ [S6 Bo Ho HO]
  · isplitr; · iexact Hlv
    isplitl [S6]; · iexact S6
    isplitl [Bo]; · iexact Bo
    isplitl [Ho]; · iexact Ho
    iexact HO
  iintro ⟨S6, Bo, Ho, HO⟩
  iapply Hk
  isplitl [Hu]; · iexact Hu
  isplitl [Hi]; · iexact Hi
  isplitl [Ho]; · iexact Ho
  isplitl [HshA]; · iexact HshA
  isplitl [HshB]; · iexact HshB
  isplitl [Hbar]; · iexact Hbar
  isplitl [Bub]; · unfold h_ub; iexists _; iexact Bub
  isplitl [Bib]; · unfold h_idb; iexists _; iexact Bib
  isplitl [Blr]; · unfold h_lrb; iexists _; iexact Blr
  isplitl [Bal]; · unfold h_allb; iexists _; iexact Bal
  isplitl [Bg]; · unfold h_gb; iexists _; iexact Bg
  isplitl [Bo]; · unfold h_ob; iexists _; iexact Bo
  isplitl [Btb]; · unfold h_tb; iexists _; iexact Btb
  isplitl [Btot]; · icases Btot with ⟨%f, Btot⟩; unfold h_totb; iexists _; iexact Btot
  isplitl [Boff]; · icases Boff with ⟨%f, Boff⟩; unfold h_offb; iexists _; iexact Boff
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr ⟨1, hp ▸ rfl⟩)
  rcases Finset.mem_insert.mp hp with hp | hp; · exact .inr (.inl (hp ▸ rfl))
  rcases Finset.mem_insert.mp hp with hp | hp; · exact .inr (.inl (hp ▸ rfl))
  rcases Finset.mem_union.mp hp with hp | hp
  · rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp
  · exact .inr (.inr ⟨0, Finset.mem_singleton.mp hp ▸ rfl⟩)

end Cert.Proof.Sc

end
-- ==== Proof.TileObl.lean ====
module

public import proofs.«01_k».proof.Proof.Tile
public import Idealize.ShloMosaic.Lib.Pipeline.Kit

@[expose] public section

/-! # The task of a tile as the launch states it -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

open Idealize.ShloMosaic.SparseCore.Cfg (ownBufs ownSems0 ownCells ownRefs mem_ownCells mem_ownRefs)

attribute [local instance] stages

variable [FloatOps F]

/-! ## A tile's own semaphores and buffers -/

def semTab : Fin 7 → DmaSem sig :=
  ![cc1_scoped0.sem, cc1_scoped1.sem, cc1_scoped2.sem, cc1_scoped3.sem, cc1_scoped4.sem, cc1_scoped5.sem, cc1_scoped6.sem]
def bufTab : Fin 9 → Ref sig .scVector :=
  ![cc1_scratch0, cc1_scratch1, cc1_scratch2, cc1_scratch3, cc1_scratch4, cc1_scratch5, cc1_scratch6, cc1_scratch7, cc1_scratch8]

theorem semTab_injective : Function.Injective semTab := by decide
theorem bufTab_injective : Function.Injective bufTab := by decide

def semCell (d : Dev nD) (c : Fin τ.nSC) (i : Fin τ.nSub) (k : Fin 7) : GSem nD τ sig := (V d c i, .dma (semTab k))
def bufRef (c : Fin τ.nSC) (i : Fin τ.nSub) (k : Fin 9) : DevRef τ sig := (Proc.scVector c i).devRef (bufTab k)

theorem semCell_injective (d : Dev nD) (c : Fin τ.nSC) (i : Fin τ.nSub) : Function.Injective (semCell d c i) := fun a b e =>
  semTab_injective (SemLoc.dma.inj (Prod.mk.inj e).2)
theorem bufRef_injective (c : Fin τ.nSC) (i : Fin τ.nSub) : Function.Injective (bufRef c i) := fun _ _ e =>
  bufTab_injective (Proc.devRef_injective _ e)

variable (d : Dev nD) (L : grid1.Coords)

theorem semCell_own : (Finset.univ : Finset (Fin 7)).image (semCell d (cV L) (jV L)) ⊆ ownCells (V d (cV L) (jV L)) := fun g hg => by
  obtain ⟨k, -, rfl⟩ := Finset.mem_image.mp hg
  refine mem_ownCells.mpr ⟨rfl, ?_⟩
  show (SemLoc.dma (semTab k) : SemLoc sig).isScoped .scVector = true
  clear hg; revert k; decide

theorem bufRef_own : (Finset.univ : Finset (Fin 9)).image (bufRef (cV L) (jV L)) ⊆ ownRefs (τ := τ) (sig := sig) (.scVector (cV L) (jV L)) := fun b hb => by
  obtain ⟨k, -, rfl⟩ := Finset.mem_image.mp hb
  refine SparseCore.Cfg.mem_ownRefs_of_owner ?_
  fin_cases k <;> rfl

/-- The semaphores the copies wait on are among the tile's own. -/
theorem ownSems0_tile :
    (ownSems0 (V d (cV L) (jV L)) : sProp 𝕄)
      = iprop((semVal (V d (cV L) (jV L), .dma cc1_scoped0.sem) 0 ∗ semVal (V d (cV L) (jV L), .dma cc1_scoped1.sem) 0 ∗ semVal (V d (cV L) (jV L), .dma cc1_scoped2.sem) 0 ∗ semVal (V d (cV L) (jV L), .dma cc1_scoped3.sem) 0 ∗ semVal (V d (cV L) (jV L), .dma cc1_scoped4.sem) 0 ∗ semVal (V d (cV L) (jV L), .dma cc1_scoped5.sem) 0 ∗ semVal (V d (cV L) (jV L), .dma cc1_scoped6.sem) 0)
          ∗ bigSep (ownCells (V d (cV L) (jV L)) \ (Finset.univ : Finset (Fin 7)).image (semCell d (cV L) (jV L))) fun g => semVal g 0) := by
  unfold SparseCore.Cfg.ownSems0
  rw [SparseCore.bigSep_sdiff_split' (semCell_own d L), SparseCore.bigSep_image_of_injOn (fun a _ b _ e => semCell_injective d _ _ e),
    bigSep_univ_eq_bigSepL [(0 : Fin 7), 1, 2, 3, 4, 5, 6] (by decide) (by decide)]
  rfl

/-- The nine buffers of the kernel are among the tile's own. -/
theorem ownBufs_tile :
    (ownBufs (V d (cV L) (jV L)) : sProp 𝕄)
      = iprop(((∃ f, (ub.view.loc (V d (cV L) (jV L)) ↦{fullShare} f)) ∗ (∃ f, (idb.view.loc (V d (cV L) (jV L)) ↦{fullShare} f)) ∗ (∃ f, (lrb.view.loc (V d (cV L) (jV L)) ↦{fullShare} f)) ∗ (∃ f, (allb.view.loc (V d (cV L) (jV L)) ↦{fullShare} f)) ∗ (∃ f, (gb.view.loc (V d (cV L) (jV L)) ↦{fullShare} f)) ∗ (∃ f, (ob.view.loc (V d (cV L) (jV L)) ↦{fullShare} f)) ∗ (∃ f, (tb.view.loc (V d (cV L) (jV L)) ↦{fullShare} f)) ∗ (∃ f, (totb.view.loc (V d (cV L) (jV L)) ↦{fullShare} f)) ∗ (∃ f, (offb.view.loc (V d (cV L) (jV L)) ↦{fullShare} f)))
          ∗ bigSep (ownRefs (τ := τ) (sig := sig) (.scVector (cV L) (jV L)) \ (Finset.univ : Finset (Fin 9)).image (bufRef (cV L) (jV L)))
              fun b => iprop(∃ f, ((d, b) : Loc nD τ sig) ↦{fullShare} f)) := by
  unfold SparseCore.Cfg.ownBufs
  rw [SparseCore.bigSep_sdiff_split' (bufRef_own L), SparseCore.bigSep_image_of_injOn (fun a _ b _ e => bufRef_injective _ _ e),
    bigSep_univ_eq_bigSepL [(0 : Fin 9), 1, 2, 3, 4, 5, 6, 7, 8] (by decide) (by decide)]
  rfl

/-! ## What the handshakes carry -/

variable (U : Dev nD → ℕ → F .f32) (I : Dev nD → ℕ → BitVec 32)

abbrev uPts (d : Dev nD) (S : Finset S32768.Idx) : sProp 𝕄 := uLoc d ↦[S]{fullShare} (fun i => U d (i 0).val)
abbrev iPts (d : Dev nD) (S : Finset S32768.Idx) : sProp 𝕄 := iLoc d ↦[S]{fullShare} (fun i => I d (i 0).val)
abbrev oPts (d : Dev nD) (S : Finset S32768.Idx) : sProp 𝕄 := oLoc d ↦[S]{fullShare} (fun i => outAll (U d) (I d) (i 0).val)
abbrev oAny (d : Dev nD) (S : Finset S32768.Idx) : sProp 𝕄 := iprop(∃ f, oLoc d ↦[S]{fullShare} f)
abbrev aPts (d : Dev nD) (c : Fin τ.nSC) (j : Fin 16) : sProp 𝕄 := shALoc d c ↦{part16 j} (fun i => tabMax (U d) (I d) (i 0).val)
abbrev bPts (d : Dev nD) (c : Fin τ.nSC) (j : Fin 16) : sProp 𝕄 := shBLoc d c ↦{part16 j} (fun i => tabSum (U d) (I d) (i 0).val)
/-- The barrier semaphores of the tasks of SparseCore `c` of the grid, at zero. -/
abbrev bars (d : Dev nD) (c : Fin ((K (F := F)).nCore 0)) : sProp 𝕄 :=
  bigSep Finset.univ fun i : Fin ((K (F := F)).nSub 0) => semVal (bcell d (coreOf c) ((K (F := F)).sub 0 i)) 0

abbrev kit (d : Dev nD) (c : Fin τ.nSC) (i : Fin τ.nSub) : sProp 𝕄 := bkit (fun d => tabMax (U d) (I d)) (fun d => tabSum (U d) (I d)) d c i

abbrev stP (d : Dev nD) : sProp 𝕄 := iprop(uPts U d Finset.univ ∗ iPts I d Finset.univ ∗ oAny d Finset.univ)
abbrev dnP (d : Dev nD) (c : Fin ((K (F := F)).nCore 0)) : sProp 𝕄 :=
  iprop((uPts U d Finset.univ ∗ iPts I d Finset.univ ∗ oPts U I d Finset.univ) ∗ bars d c)
abbrev goP (d : Dev nD) (c : Fin τ.nSC) (j : Fin 16) : sProp 𝕄 :=
  iprop(uPts U d (rowU j) ∗ iPts I d (rowU j) ∗ oAny d (rowU j) ∗ (∃ f, shALoc d c ↦[rowS j]{fullShare} f) ∗ ∃ f, shBLoc d c ↦[rowS j]{fullShare} f)
abbrev tdP (d : Dev nD) (c : Fin τ.nSC) (j : Fin 16) : sProp 𝕄 :=
  iprop(uPts U d (rowU j) ∗ iPts I d (rowU j) ∗ oPts U I d (rowU j) ∗ aPts U I d c j ∗ bPts U I d c j)

set_option backward.proofsInPublic true in
/-- The call takes the utilities, the segment numbers and the result array whole; a task takes its rows of the three and of
    the two shared arrays, and brings back those of the three and a share of the whole of each shared array, with its
    barrier semaphore at zero; a tile owes its arrivals at both barriers. -/
def P : (K (F := F)).Pay (N := 2) (nD := nD) (Val := Elt F) (Name := ℕ) (U := UU) where
  st := fun q d _ => match q with | 0 => stP U I d
  dn := fun q d c => match q with | 0 => dnP U I d c
  go := fun q d c i => match q with | 0 => goP U I d (coreOf c) (Fin.cast nSub_zero i)
  td := fun q d c i => match q with
    | 0 => iprop(tdP U I d (coreOf c) (Fin.cast nSub_zero i) ∗ semVal (bcell d (coreOf c) ((K (F := F)).sub 0 i)) 0)
  x := fun _ thr => match thr with
    | (d, .scVector c i) => if c.val < 1 then kit U I d c i else iprop(emp)
    | _ => iprop(emp)
  ox := fun _ thr => match thr with
    | (d, .scVector c _) => if c.val < 1 then oxB d c 1 + oxB d c 0 else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · rw [Pi.add_apply, Finsupp.add_apply] at h
        rcases Nat.eq_zero_or_pos (oxB d c 1 g ι) with h1 | h1
        · rw [h1, zero_add] at h
          obtain ⟨j, rfl, rfl⟩ := oxB_pos h
          rw [lev_bar]; exact ⟨by decide, by decide⟩
        · obtain ⟨j, rfl, rfl⟩ := oxB_pos h1
          rw [lev_bar]; exact ⟨by decide, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P U I).IsStorable where
  st q d _ := match q with | 0 => (inferInstance : BI.Storable (upEmb : UEmb _ 𝕄) (stP U I d))
  dn q d c := match q with | 0 => (inferInstance : BI.Storable (upEmb : UEmb _ 𝕄) (dnP U I d c))
  go q d c i := match q with | 0 => (inferInstance : BI.Storable (upEmb : UEmb _ 𝕄) (goP U I d (coreOf c) (Fin.cast nSub_zero i)))
  td q d c i := match q with
    | 0 => (inferInstance : BI.Storable (upEmb : UEmb _ 𝕄)
      iprop(tdP U I d (coreOf c) (Fin.cast nSub_zero i) ∗ semVal (bcell d (coreOf c) ((K (F := F)).sub 0 i)) 0))

/-! ## The task -/

/-- The tile's program from what its launch hands it. -/
theorem tile_body (hI : ∀ d, ∀ k < 32768, (I d k).toNat < 16) (O : CellTallies nD τ sig (HIx 2)) (W : Waits sig (HIx 2)) (hO : ∀ g, O g none = 0)
    (hOlev : ∀ g ι, 0 < O g ι → 14 ≤ (K (F := F)).lev g ι) :
    iprop(levAts (K (F := F)).L (K (F := F)).lev ∗ kit U I d (cV L) (jV L) ∗ goP U I d (cV L) (jL L)
        ∗ scopedBufs (V d (cV L) (jV L)) ∗ scopedSems0 (V d (cV L) (jV L)) ∗ owes (V d (cV L) (jV L)) (O + (oxB d (cV L) 1 + oxB d (cV L) 0)) W)
      ⊢ wp frame (wpE (defs₀ (F := F)) 𝒱₀ (V d (cV L) (jV L)) none) Set.univ (cc1__sc_softmax (F := F) L uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6)
          fun _ => iprop((tdP U I d (cV L) (jL L) ∗ semVal (bcell d (cV L) (jV L)) 0)
            ∗ scopedBufs (V d (cV L) (jV L)) ∗ scopedSems0 (V d (cV L) (jV L))
            ∗ ∃ W', ⌜∀ p ∈ W', p ∈ W ∨ p.2 = none ∨ ∃ q : Fin 2, p.2 = some q⌝ ∗ owes (V d (cV L) (jV L)) O W') := by
  rw [(K (F := F)).scopedBufs_V facts d (cV L) (jV L), SparseCore.Cfg.scopedSems0_V (Val := Elt F) d (cV L) (jV L), ownSems0_tile, ownBufs_tile,
    ← add_assoc]
  iintro ⟨#Hlv, Hkit, ⟨Hu, Hi, Ho, Ha, Hb⟩, ⟨⟨B0, B1, B2, B3, B4, B5, B6, B7, B8⟩, Hbufs⟩, ⟨⟨S0, S1, S2, S3, S4, S5, S6⟩, Hsems⟩, HO⟩
  iapply (wp_softmax d L U I (hI d) O W hO hOlev) $$ [Hkit Hu Hi Ho Ha Hb B0 B1 B2 B3 B4 B5 B6 B7 B8 S0 S1 S2 S3 S4 S5 S6 HO]
  · isplitr; · iexact Hlv
    isplitl [Hkit]; · iexact Hkit
    isplitl [Hu]; · iexact Hu
    isplitl [Hi]; · iexact Hi
    isplitl [Ho]; · iexact Ho
    isplitl [Ha]; · iexact Ha
    isplitl [Hb]; · iexact Hb
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro ⟨Hu, Hi, Ho, Ha, Hb, Hbar, B0, B1, B2, B3, B4, B5, B6, B7, B8, S0, S1, S2, S3, S4, S5, S6, HO⟩
  isplitl [Hu Hi Ho Ha Hb Hbar]
  · isplitr [Hbar]; swap; · iexact Hbar
    isplitl [Hu]; · iexact Hu
    isplitl [Hi]; · iexact Hi
    isplitl [Ho]; · iexact Ho
    isplitl [Ha] <;> iassumption
  isplitl [B0 B1 B2 B3 B4 B5 B6 B7 B8 Hbufs]
  · isplitr [Hbufs]; swap; · iexact Hbufs
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  isplitl [S0 S1 S2 S3 S4 S5 S6 Hsems]
  · isplitr [Hsems]; swap; · iexact Hsems
    isplitl [S0]; · iexact S0
    isplitl [S1]; · iexact S1
    isplitl [S2]; · iexact S2
    isplitl [S3]; · iexact S3
    isplitl [S4]; · iexact S4
    isplitl [S5]; · iexact S5
    iexact S6
  iexact HO

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_softmax (F := F) (coordsV c s) uV (Memref.isWhole_whole _) iV (Memref.isWhole_whole _) oV (Memref.isWhole_whole _) ub (Memref.isWhole_whole _)
    idb (Memref.isWhole_whole _) lrb (Memref.isWhole_whole _) allb (Memref.isWhole_whole _) gb (Memref.isWhole_whole _)
    ob (Memref.isWhole_whole _) tb (Memref.isWhole_whole _) totb (Memref.isWhole_whole _) offb (Memref.isWhole_whole _)
    shA (Memref.isWhole_whole _) shB (Memref.isWhole_whole _) cc1_scoped0 cc1_scoped1 cc1_scoped2 cc1_scoped3 cc1_scoped4 cc1_scoped5 cc1_scoped6) ⟨⟩ c s := rfl

set_option maxRecDepth 16384 in
theorem tileObl (hI : ∀ d, ∀ k < 32768, (I d k).toNat < 16) : (K (F := F)).TileObl (D (F := F)) 𝒱 (P U I) v₀ 0 := by
  intro d c i O W hO hOlev _
  have hc : ((K (F := F)).core 0 c).val < 1 := c.isLt
  have hci : ((K (F := F)).core 0 c).val < grid1.bound 0 ∧ ((K (F := F)).sub 0 i).val < grid1.bound 1 := ⟨c.isLt, i.isLt⟩
  rw [show (P U I).ox 0 (V d ((K (F := F)).core 0 c) ((K (F := F)).sub 0 i)) = oxB d ((K (F := F)).core 0 c) 1 + oxB d ((K (F := F)).core 0 c) 0 from if_pos hc,
    show (P U I).x 0 (V d ((K (F := F)).core 0 c) ((K (F := F)).sub 0 i)) = kit U I d ((K (F := F)).core 0 c) ((K (F := F)).sub 0 i) from if_pos hc]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) U I hI O W hO hOlev

end Cert.Proof.Sc

end
-- ==== Proof.Split.lean ====
module

public import proofs.«01_k».proof.Proof.TileObl

@[expose] public section

/-! # The arrays dealt to the tasks by rows, and joined again -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

open Idealize.ShloMosaic.SparseCore.Cfg (ownBufs ownSems0 ownCells ownRefs mem_ownCells mem_ownRefs)

attribute [local instance] stages

variable [FloatOps F]

/-! ## The rows split and join -/

theorem u_rows (d : Dev nD) (f : Buf (Elt F) (uLoc d)) :
    (uLoc d ↦[Finset.univ]{fullShare} f : sProp 𝕄) = bigSep Finset.univ fun j : Fin 16 => uLoc d ↦[rowU j]{fullShare} f := by
  rw [← pointsTo_biUnion Finset.univ (ℓ := uLoc d) rowU rowU_disjoint, rowU_cover]; try rfl
theorem i_rows (d : Dev nD) (f : Buf (Elt F) (iLoc d)) :
    (iLoc d ↦[Finset.univ]{fullShare} f : sProp 𝕄) = bigSep Finset.univ fun j : Fin 16 => iLoc d ↦[rowU j]{fullShare} f := by
  rw [← pointsTo_biUnion Finset.univ (ℓ := iLoc d) rowU rowU_disjoint, rowU_cover]; try rfl
theorem o_rows (d : Dev nD) (f : Buf (Elt F) (oLoc d)) :
    (oLoc d ↦[Finset.univ]{fullShare} f : sProp 𝕄) = bigSep Finset.univ fun j : Fin 16 => oLoc d ↦[rowU j]{fullShare} f := by
  rw [← pointsTo_biUnion Finset.univ (ℓ := oLoc d) rowU rowU_disjoint, rowU_cover]; try rfl
theorem shA_rows (d : Dev nD) (c : Fin τ.nSC) (f : Buf (Elt F) (shALoc d c)) :
    (shALoc d c ↦{fullShare} f : sProp 𝕄) = bigSep Finset.univ fun j : Fin 16 => shALoc d c ↦[rowS j]{fullShare} f := by
  rw [← pointsTo_biUnion Finset.univ (ℓ := shALoc d c) rowS rowS_disjoint, rowS_cover]; try rfl
theorem shB_rows (d : Dev nD) (c : Fin τ.nSC) (f : Buf (Elt F) (shBLoc d c)) :
    (shBLoc d c ↦{fullShare} f : sProp 𝕄) = bigSep Finset.univ fun j : Fin 16 => shBLoc d c ↦[rowS j]{fullShare} f := by
  rw [← pointsTo_biUnion Finset.univ (ℓ := shBLoc d c) rowS rowS_disjoint, rowS_cover]; try rfl

theorem o_any_rows (d : Dev nD) : (oAny d Finset.univ : sProp 𝕄) ⊢ bigSep Finset.univ fun j : Fin 16 => oAny (F := F) d (rowU j) := by
  iintro ⟨%f, H⟩
  iapply (show (oLoc d ↦[Finset.univ]{fullShare} f : sProp 𝕄) ⊢ bigSep Finset.univ fun j : Fin 16 => oAny (F := F) d (rowU j) from
    (Entails.of_eq (o_rows d f)).trans (SparseCore.ent (bigSep_mono (Φ := fun j : Fin 16 => (oLoc d ↦[rowU j]{fullShare} f : sProp 𝕄))
      (Ψ := fun j => oAny (F := F) d (rowU j))
      fun j _ => BI.BIClass.exists_intro (Φ := fun f => (oLoc d ↦[rowU j]{fullShare} f : sProp 𝕄)) f)))
  iexact H
theorem shA_any_rows (d : Dev nD) (c : Fin τ.nSC) : (iprop(∃ f, shALoc d c ↦{fullShare} f) : sProp 𝕄)
    ⊢ bigSep Finset.univ fun j : Fin 16 => iprop(∃ f, shALoc d c ↦[rowS j]{fullShare} f) := by
  iintro ⟨%f, H⟩
  iapply (show (shALoc d c ↦{fullShare} f : sProp 𝕄) ⊢ bigSep Finset.univ fun j : Fin 16 => iprop(∃ f, shALoc d c ↦[rowS j]{fullShare} f) from
    (Entails.of_eq (shA_rows d c f)).trans (SparseCore.ent (bigSep_mono (Φ := fun j : Fin 16 => (shALoc d c ↦[rowS j]{fullShare} f : sProp 𝕄))
      (Ψ := fun j => iprop(∃ f, shALoc d c ↦[rowS j]{fullShare} f))
      fun j _ => BI.BIClass.exists_intro (Φ := fun f => (shALoc d c ↦[rowS j]{fullShare} f : sProp 𝕄)) f)))
  iexact H
theorem shB_any_rows (d : Dev nD) (c : Fin τ.nSC) : (iprop(∃ f, shBLoc d c ↦{fullShare} f) : sProp 𝕄)
    ⊢ bigSep Finset.univ fun j : Fin 16 => iprop(∃ f, shBLoc d c ↦[rowS j]{fullShare} f) := by
  iintro ⟨%f, H⟩
  iapply (show (shBLoc d c ↦{fullShare} f : sProp 𝕄) ⊢ bigSep Finset.univ fun j : Fin 16 => iprop(∃ f, shBLoc d c ↦[rowS j]{fullShare} f) from
    (Entails.of_eq (shB_rows d c f)).trans (SparseCore.ent (bigSep_mono (Φ := fun j : Fin 16 => (shBLoc d c ↦[rowS j]{fullShare} f : sProp 𝕄))
      (Ψ := fun j => iprop(∃ f, shBLoc d c ↦[rowS j]{fullShare} f))
      fun j _ => BI.BIClass.exists_intro (Φ := fun f => (shBLoc d c ↦[rowS j]{fullShare} f : sProp 𝕄)) f)))
  iexact H

theorem bigSep_tasks (Φ : Fin 16 → sProp (MT nD τ sig (HIx 2) (Elt F) ℕ UU ℕ)) :
    (bigSep Finset.univ fun i : Fin ((K (F := F)).nSub 0) => Φ (Fin.cast nSub_zero i)) = bigSep Finset.univ Φ :=
  bigSep_congr fun _ _ => congrArg Φ (Fin.ext rfl)

/-- The two shared arrays are among the sequencer's own buffers. -/
theorem ownBufs_S (d : Dev nD) (c : Fin τ.nSC) :
    (ownBufs (S d c) : sProp 𝕄)
      = iprop((∃ f, shALoc d c ↦{fullShare} f) ∗ (∃ f, shBLoc d c ↦{fullShare} f)
          ∗ bigSep (((ownRefs (τ := τ) (sig := sig) (.scScalar c)).erase (shARef c)).erase (shBRef c)) fun b => iprop(∃ f, ((d, b) : Loc nD τ sig) ↦{fullShare} f)) := by
  unfold SparseCore.Cfg.ownBufs
  have hA : shARef c ∈ ownRefs (τ := τ) (sig := sig) (.scScalar c) := (mem_ownRefs (p := Proc.scScalar c) (b := shARef c)).mpr rfl
  have hB : shBRef c ∈ ownRefs (τ := τ) (sig := sig) (.scScalar c) := (mem_ownRefs (p := Proc.scScalar c) (b := shBRef c)).mpr rfl
  have hne : shBRef c ≠ shARef c := fun e => absurd (congrArg (fun b : DevRef τ sig => b.idx.val) e) (show (1 : ℕ) ≠ 0 by decide)
  rw [SparseCore.bigSep_erase' hA, SparseCore.bigSep_erase' (Finset.mem_erase.mpr ⟨hne, hB⟩)]

variable (U : Dev nD → ℕ → F .f32) (I : Dev nD → ℕ → BitVec 32)

/-- The call's operands and the shared arrays are dealt out by rows; the tasks' rows of the result and the tiles' shares
    of the shared arrays join to the whole. -/
theorem vecSplit : (K (F := F)).VecSplit (P U I) 0 := by
  intro d c
  show iprop(stP U I d ∗ ownBufs (S d (coreOf c))) ⊢ |={Set.univ}=> iprop(
      (bigSep Finset.univ fun i : Fin ((K (F := F)).nSub 0) => goP U I d (coreOf c) (Fin.cast nSub_zero i))
      ∗ ((bigSep Finset.univ fun i : Fin ((K (F := F)).nSub 0) => iprop(tdP U I d (coreOf c) (Fin.cast nSub_zero i)
            ∗ semVal (bcell d (coreOf c) ((K (F := F)).sub 0 i)) 0))
          -∗ iprop(dnP U I d c ∗ ownBufs (S d (coreOf c)))))
  rw [bigSep_sep' _ (fun i : Fin ((K (F := F)).nSub 0) => tdP U I d (coreOf c) (Fin.cast nSub_zero i)),
    bigSep_tasks (F := F) (fun i => goP U I d (coreOf c) i), bigSep_tasks (F := F) (fun i => tdP U I d (coreOf c) i),
    bigSep_sep', bigSep_sep', bigSep_sep', bigSep_sep', bigSep_sep', bigSep_sep', bigSep_sep', bigSep_sep', ownBufs_S]
  iintro ⟨⟨Hu, Hi, Ho⟩, HA, HB, Hrest⟩; imodintro
  isplitl [Hu Hi Ho HA HB]
  · isplitl [Hu]; · iapply (Entails.of_eq (u_rows d _)); iexact Hu
    isplitl [Hi]; · iapply (Entails.of_eq (i_rows d _)); iexact Hi
    isplitl [Ho]; · iapply (o_any_rows d); iexact Ho
    isplitl [HA]; · iapply (shA_any_rows d (coreOf c)); iexact HA
    iapply (shB_any_rows d (coreOf c)); iexact HB
  iintro ⟨⟨Hu, Hi, Ho, HA, HB⟩, Hbars⟩
  isplitl [Hu Hi Ho Hbars]
  · isplitr [Hbars]; swap; · iexact Hbars
    isplitl [Hu]; · iapply (Entails.of_eq (u_rows d _).symm); iexact Hu
    isplitl [Hi]; · iapply (Entails.of_eq (i_rows d _).symm); iexact Hi
    iapply (Entails.of_eq (o_rows d _).symm); iexact Ho
  isplitl [HA]
  · iexists (fun i => tabMax (U d) (I d) (i 0).val); iapply (Entails.of_eq (pieces16 (ℓ := shALoc d (coreOf c)) Finset.univ _).symm); iexact HA
  isplitl [HB]
  · iexists (fun i => tabSum (U d) (I d) (i 0).val); iapply (Entails.of_eq (pieces16 (ℓ := shBLoc d (coreOf c)) Finset.univ _).symm); iexact HB
  iexact Hrest

end Cert.Proof.Sc

end
-- ==== Proof.Deal.lean ====
module

public import proofs.«01_k».proof.Proof.TileObl
public import Idealize.ShloMosaic.Lib.Pipeline.Sound

@[expose] public section

/-! # What the launch allocates -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

attribute [local instance] stages

variable [FloatOps F]

/-! ## The launch element -/

/-- A tile of the grid: a tile of SparseCore 0. -/
abbrev TK : Type := Dev nD × Fin τ.nSub
abbrev c0 : Fin τ.nSC := ⟨0, by decide⟩
abbrev bc (x : TK) : GSem nD τ sig := bcell x.1 c0 x.2
def bCells : Finset (GSem nD τ sig) := Finset.univ.image bc
/-- The marks a tile leaves at the two barriers. -/
def mark (i : ℕ) (p : Fin 2) : ℕ := ![i, 16 + i] p
def bToks : Finset (GSem nD τ sig × ℕ × ℕ) :=
  (Finset.univ ×ˢ Finset.univ).image fun x : (TK × Fin 2) × Fin (grid1.bound 1) =>
    (bcell x.1.1.1 c0 (x.2.castLE hsub1), 0, mark x.1.1.2.val x.1.2)
def mCells : Finset MKey := Finset.univ
def mToks : Finset (MKey × ℕ × ℕ) := Finset.univ.image fun x : MKey => (x, 0, 0)

/-- The TensorCore call has no table. -/
abbrev adm : (p : Fin 1) → (pcfgs (F := F) p).Adm := fun p => (cfgs p).toPCfg_adm
theorem ghost_inj : Function.Injective (Pipeline.cellOf (nD := nD) (τ := τ) (Pipeline.pin (pcfgs (F := F)) adm)) := cellOf_inj

def uP : UP := initOf (Pipeline.cells (Pipeline.pin (pcfgs (F := F)) adm) ghost_inj) (Pipeline.launchToks (Pipeline.pin (pcfgs (F := F)) adm) ghost_inj)
def u₀ : UU := (initOf (K (F := F)).hsCells (K (F := F)).hsToks, (initOf bCells bToks, (initOf mCells mToks, (uP (F := F), 1))))

theorem bc_injective : Function.Injective bc := fun a b e => by
  obtain ⟨h1, h2⟩ := Prod.mk.inj (Prod.mk.inj e).1; obtain ⟨h3, h4⟩ := Proc.scVector.inj h2
  exact Prod.ext h1 h4

theorem ownU_split (a : UH) (b : UB) (m : UM) (p : UP) :
    (ownU ((a, (b, (m, (p, 1)))) : UU) : sProp 𝕄) ⊢ iprop(BI.own (EH a) ∗ BI.own (EB b) ∗ BI.own (EM m) ∗ BI.own (EP p)) := by
  have h1 : (ownU ((a, (b, (m, (p, 1)))) : UU) : sProp 𝕄) ⊢ iprop(BI.own (EH a)
      ∗ BI.own ((uEmb (nD := nD) (sig := sig) (Ix := HIx 2) (Val := Elt F) (Name := ℕ) (U := UU) (Lvl := ℕ)).toEmb ((1, (b, (m, (p, 1)))) : UU))) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (b, (m, (p, (1 : Counters)))))))
  have h2 : (BI.own ((uEmb (nD := nD) (sig := sig) (Ix := HIx 2) (Val := Elt F) (Name := ℕ) (U := UU) (Lvl := ℕ)).toEmb ((1, (b, (m, (p, 1)))) : UU)) : sProp 𝕄)
      ⊢ iprop(BI.own (EB b) ∗ BI.own ((uEmb (nD := nD) (sig := sig) (Ix := HIx 2) (Val := Elt F) (Name := ℕ) (U := UU) (Lvl := ℕ)).toEmb ((1, (1, (m, (p, 1)))) : UU))) :=
    BI.own_op_elim ((uEmb (nD := nD) (sig := sig) (Ix := HIx 2) (Val := Elt F) (Name := ℕ) (U := UU) (Lvl := ℕ)).toEmb.op_of_mem
      (Prod.mk_mem_op (URA.mem_op_one (1 : UH)) (Prod.mk_mem_op (URA.mem_op_one b) (URA.mem_one_op (m, (p, (1 : Counters)))))))
  have h3 : (BI.own ((uEmb (nD := nD) (sig := sig) (Ix := HIx 2) (Val := Elt F) (Name := ℕ) (U := UU) (Lvl := ℕ)).toEmb ((1, (1, (m, (p, 1)))) : UU)) : sProp 𝕄)
      ⊢ iprop(BI.own (EM m) ∗ BI.own (EP p)) :=
    BI.own_op_elim ((uEmb (nD := nD) (sig := sig) (Ix := HIx 2) (Val := Elt F) (Name := ℕ) (U := UU) (Lvl := ℕ)).toEmb.op_of_mem
      (Prod.mk_mem_op (URA.mem_op_one (1 : UH)) (Prod.mk_mem_op (URA.mem_op_one (1 : UB)) (Prod.mk_mem_op (URA.mem_op_one m) (URA.mem_one_op (p, (1 : Counters)))))))
  exact h1.trans (sep_mono_right (h2.trans (sep_mono_right h3)))

theorem bigSep_two (Φ : Fin 2 → sProp (MT nD τ sig (HIx 2) (Elt F) ℕ UU ℕ)) : bigSep Finset.univ Φ = iprop(Φ 0 ∗ Φ 1) :=
  bigSep_univ_eq_bigSepL [(0 : Fin 2), 1] (by decide) (by decide) Φ

/-! ## The barrier cells -/

theorem bCells_eq (Φ : GSem nD τ sig → sProp (MT nD τ sig (HIx 2) (Elt F) ℕ UU ℕ)) : bigSep bCells Φ = bigSep Finset.univ fun x : TK => Φ (bc x) := by
  unfold bCells; exact SparseCore.bigSep_image_of_injOn (fun a _ b _ e => bc_injective e) Φ

theorem bc_mem (x : TK) : bc x ∈ bCells := Finset.mem_image_of_mem bc (Finset.mem_univ x)

/-- Every barrier semaphore of the grid at zero, out of the free semaphores. -/
theorem sems_b : ((K (F := F)).freeOn (· ∈ bCells) : sProp 𝕄) ⊢ bigSep bCells fun g => semVal g 0 := by
  rw [bCells_eq]
  unfold SparseCore.Cfg.freeOn
  refine sep_elim_right.trans ?_
  rw [bigSep_univ_prod, bigSep_univ_prod (fun x : TK => (semVal (bc x) 0 : sProp 𝕄))]
  refine bigSep_mono fun d _ => ?_
  rw [bigSep_univ_prod]
  refine (bigSep_elim (Finset.mem_univ c0)).trans (bigSep_mono fun i _ => ?_)
  exact bigSep_elim (Φ := fun sm : SemLoc sig => (semVal (V d c0 i, sm) 0 : sProp 𝕄)) (Finset.mem_filter.mpr
    ⟨Finset.mem_erase.mpr ⟨fun h => bar_ne_go (SemLoc.reg.inj h), Finset.mem_filter.mpr ⟨Finset.mem_univ _, by decide⟩⟩, bc_mem (d, i)⟩)

/-- The barrier cells' invariants, allocated at once. -/
theorem invs_b : iprop((bigSep bCells fun g => (semVal g 0 : sProp 𝕄)) ∗ bigSep bCells fun g => roundState EB (bRd (F := F)) g 0)
    ⊢ |={Set.univ}=> iprop(∃ κ : GSem nD τ sig → ℕ, bigSep bCells fun g => cellInv EB (bRd (F := F)) (κ g) g) := by
  refine (Rounds.bodies_intro EB (bRd (F := F)) bCells).trans ((inv_alloc_family bCells (Rounds.body EB (bRd (F := F))) ∅ (E := Set.univ)).trans ?_)
  iintro H
  imod H with ⟨%κ, -, Hinv⟩
  imodintro; iexists κ; iexact Hinv

theorem sum_units (g : GSem nD τ sig) (ι : HIx 2) (n : ℕ) : ∑ _ : Fin n, tallyAt g ι 1 = (tallyAt g ι n : CellTallies nD τ sig (HIx 2)) := by
  induction n with
  | zero => rw [tallyAt_zero]; rfl
  | succ n ih => rw [Fin.sum_univ_castSucc, ih, tallyAt_add]

variable (U : Dev nD → ℕ → F .f32) (I : Dev nD → ℕ → BitVec 32)

/-- The units of one stage that a device's tiles owe, regrouped by the cell they go to. -/
theorem creds_stage (d : Dev nD) (p : Fin 2) :
    (bigSep Finset.univ fun _ : Fin τ.nSub => (cred (oxB d c0 p) : sProp 𝕄)) ⊢ bigSep Finset.univ fun i : Fin τ.nSub => cred (tallyAt (bcell d c0 i) (some p) 16) := by
  unfold oxB
  simp only [SparseCore.Cfg.cred_finsum]
  rw [bigSep_univ_comm]
  refine bigSep_mono (Φ := fun j : Fin (grid1.bound 1) => _) fun j _ => ?_
  rw [← SparseCore.Cfg.cred_finsum, sum_units]; exact BI.Entails.refl _

/-- The credit for the tiles' own debts, regrouped: each tile sixteen units of its own cell at either stage. -/
theorem creds_b : ((P (F := F) U I).oxCred : sProp 𝕄)
    ⊢ iprop((bigSep Finset.univ fun x : TK => cred (tallyAt (bc x) (some 1) 16)) ∗ bigSep Finset.univ fun x : TK => cred (tallyAt (bc x) (some 0) 16)) := by
  unfold SparseCore.Cfg.Pay.oxCred
  rw [SparseCore.Cfg.bigSep_threads (fun thr : Thread nD τ => (cred ((P (F := F) U I).oxFrom 0 thr) : sProp 𝕄))]
  refine sep_elim_right.trans (sep_elim_right.trans ?_)
  rw [bigSep_univ_prod, bigSep_univ_prod (fun x : TK => (cred (tallyAt (bc x) (some 1) 16) : sProp 𝕄)),
    bigSep_univ_prod (fun x : TK => (cred (tallyAt (bc x) (some 0) 16) : sProp 𝕄)), ← bigSep_sep']
  refine bigSep_mono fun d _ => ?_
  rw [bigSep_univ_prod]
  refine (bigSep_elim (Finset.mem_univ c0)).trans ?_
  have hox : ∀ i, (P (F := F) U I).oxFrom 0 (V d c0 i) = oxB d c0 1 + oxB d c0 0 := fun i => by
    rw [show (0 : ℕ) = (0 : Fin 1).val from rfl, (P U I).oxFrom_step, (P U I).oxFrom_end _ (n := (0 : Fin 1).val + 1) le_rfl, add_zero];
    exact (if_pos (show (c0 : Fin τ.nSC).val < 1 by decide) : (if (c0 : Fin τ.nSC).val < 1 then oxB d c0 1 + oxB d c0 0 else 0) = _)
  dsimp only
  simp only [hox, SparseCore.Cfg.cred_add_eq]
  rw [bigSep_sep']
  exact BI.Laws.sep_mono (creds_stage d 1) (creds_stage d 0)

theorem mark_injective {i i' : ℕ} {p p' : Fin 2} (hi : i < 16) (hi' : i' < 16) (e : mark i p = mark i' p') : i = i' ∧ p = p' := by
  unfold mark at e
  match p, p' with
  | 0, 0 => exact ⟨e, rfl⟩
  | 1, 1 => exact ⟨Nat.add_left_cancel (show 16 + i = 16 + i' from e), rfl⟩
  | 0, 1 => exact absurd (show i = 16 + i' from e) (by omega)
  | 1, 0 => exact absurd (show 16 + i = i' from e) (by omega)

theorem toks_eq : (bigSep bToks fun x => (dutyTok EB x.1 x.2.1 x.2.2 : sProp 𝕄))
    = bigSep Finset.univ fun x : TK => iprop((bigSep Finset.univ fun j : Fin (grid1.bound 1) => dutyTok EB (bcell x.1 c0 (j.castLE hsub1)) 0 x.2.val)
        ∗ bigSep Finset.univ fun j : Fin (grid1.bound 1) => dutyTok EB (bcell x.1 c0 (j.castLE hsub1)) 0 (16 + x.2.val)) := by
  unfold bToks
  rw [SparseCore.bigSep_image_of_injOn, SparseCore.bigSep_product, bigSep_univ_prod]
  · refine bigSep_congr fun x _ => ?_
    rw [bigSep_two]
    rfl
  rintro ⟨⟨⟨d, i⟩, p⟩, j⟩ - ⟨⟨⟨d', i'⟩, p'⟩, j'⟩ - e
  have e1 := (Prod.mk.inj (Prod.mk.inj e).1).1
  obtain ⟨hi', hp'⟩ := mark_injective i.isLt i'.isLt (Prod.mk.inj (Prod.mk.inj e).2).2
  obtain ⟨rfl, h⟩ := Prod.mk.inj e1
  obtain ⟨-, hj⟩ := Proc.scVector.inj h
  have hj' : j = j' := Fin.ext (congrArg Fin.val hj)
  have hi : i = i' := Fin.ext hi'
  subst hj' hi hp'
  rfl

/-! ## The boxes -/

/-- The positions of the boxes, by the tile that fills them. -/
theorem boxes_at : (bigSep mCells fun x => (atPos EM x 0 ∅ 0 : sProp 𝕄))
    = bigSep Finset.univ fun x : TK => iprop((bigSep Finset.univ fun j : Fin 16 => atPos EM (x.1, 0, Fin.cast nSub_eq x.2, j) 0 ∅ 0)
        ∗ bigSep Finset.univ fun j : Fin 16 => atPos EM (x.1, 1, Fin.cast nSub_eq x.2, j) 0 ∅ 0) := by
  unfold mCells
  rw [bigSep_univ_prod, bigSep_univ_prod (fun x : TK => (iprop((bigSep Finset.univ fun j : Fin 16 => atPos EM (x.1, 0, Fin.cast nSub_eq x.2, j) 0 ∅ 0)
        ∗ bigSep Finset.univ fun j : Fin 16 => atPos EM (x.1, 1, Fin.cast nSub_eq x.2, j) 0 ∅ 0) : sProp 𝕄))]
  refine bigSep_congr fun d _ => ?_
  rw [bigSep_univ_prod, bigSep_two, bigSep_sep', bigSep_univ_prod, bigSep_univ_prod]
  rfl

/-- The marks of the boxes, by the tile that empties them. -/
theorem boxes_tok : (bigSep mToks fun x => (dutyTok EM x.1 x.2.1 x.2.2 : sProp 𝕄))
    = bigSep Finset.univ fun x : TK => iprop((bigSep Finset.univ fun k : Fin 16 => dutyTok EM (x.1, 0, k, Fin.cast nSub_eq x.2) 0 0)
        ∗ bigSep Finset.univ fun k : Fin 16 => dutyTok EM (x.1, 1, k, Fin.cast nSub_eq x.2) 0 0) := by
  unfold mToks
  rw [SparseCore.bigSep_image_of_injOn (fun a _ b _ e => (Prod.mk.inj e).1), bigSep_univ_prod,
    bigSep_univ_prod (fun x : TK => (iprop((bigSep Finset.univ fun k : Fin 16 => dutyTok EM (x.1, 0, k, Fin.cast nSub_eq x.2) 0 0)
        ∗ bigSep Finset.univ fun k : Fin 16 => dutyTok EM (x.1, 1, k, Fin.cast nSub_eq x.2) 0 0) : sProp 𝕄))]
  refine bigSep_congr fun d _ => ?_
  rw [bigSep_univ_prod, bigSep_two, bigSep_sep', bigSep_univ_prod, bigSep_univ_prod, bigSep_univ_comm, bigSep_univ_comm (fun k : Fin 16 => fun j : Fin 16 => (dutyTok EM (d, (1 : Fin 2), k, j) 0 0 : sProp 𝕄))]
  rfl

/-- The boxes' invariants, allocated at once, every box unfilled. -/
theorem invs_m (sh : MKey → sProp (MT nD τ sig (HIx 2) (Elt F) ℕ UU ℕ)) [∀ x, BI.Storable (upEmb : UEmb _ 𝕄) (sh x)] :
    (bigSep mCells fun x => (initState EM x : sProp 𝕄)) ⊢ |={Set.univ}=> iprop(∃ κ : MKey → ℕ, boxes sh κ) := by
  refine (show (bigSep mCells fun x => (initState EM x : sProp 𝕄)) ⊢ bigSep mCells (box sh) from bigSep_mono fun x _ => ?_).trans
    ((inv_alloc_family mCells (box sh) ∅ (E := Set.univ)).trans ?_)
  · show iprop(roundAuth EM x 0 ∅ 0 ∗ ledgerAuth EM x 0 ∅ fun x => 0) ⊢ (iprop(roundAuth EM x 0 ∅ 0 ∨ (roundAuth EM x 1 ∅ 0 ∗ (sh x ∨ dutyTok EM x 0 0))) : sProp 𝕄)
    iintro ⟨Ha, -⟩
    ileft; iexact Ha
  iintro H
  imod H with ⟨%κ, -, Hinv⟩
  imodintro; iexists κ; unfold boxes; iexact Hinv

end Cert.Proof.Sc

end
-- ==== Proof.Kits.lean ====
module

public import proofs.«01_k».proof.Proof.Deal

@[expose] public section

/-! # What each tile is handed -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

attribute [local instance] stages

variable [FloatOps F]
variable (U : Dev nD → ℕ → F .f32) (I : Dev nD → ℕ → BitVec 32)

/-! ## Each tile's kit -/

/-- A persistent resource gives what each of its readings gives. -/
theorem each_of {J : Type} [DecidableEq J] {R : sProp (MT nD τ sig (HIx 2) (Elt F) ℕ UU ℕ)} [BI.Persistent R] {s : Finset J}
    {Ψ : J → sProp (MT nD τ sig (HIx 2) (Elt F) ℕ UU ℕ)} (h : ∀ j ∈ s, R ⊢ Ψ j) : R ⊢ bigSep s Ψ := bigSep_of_persistent h

/-- What every tile is handed alike. -/
abbrev alike : sProp 𝕄 :=
  iprop((∃ κ : GSem nD τ sig → ℕ, bigSep Finset.univ fun x : TK => cellInv EB (bRd (F := F)) (κ (bc x)) (bc x))
    ∗ (∃ κ : MKey → ℕ, boxes (shr (fun d => tabMax (U d) (I d)) (fun d => tabSum (U d) (I d)) c0) κ)
    ∗ bigSep Finset.univ fun x : TK => reached EB (bc x) 0)
/-- What a tile is handed of its own. -/
abbrev mine (x : TK) : sProp 𝕄 :=
  iprop(atPos EB (bc x) 0 ∅ 0
    ∗ ((bigSep Finset.univ fun j : Fin (grid1.bound 1) => dutyTok EB (bcell x.1 c0 (j.castLE hsub1)) 0 x.2.val)
        ∗ bigSep Finset.univ fun j : Fin (grid1.bound 1) => dutyTok EB (bcell x.1 c0 (j.castLE hsub1)) 0 (16 + x.2.val))
    ∗ cred (tallyAt (bc x) (some 1) 16) ∗ cred (tallyAt (bc x) (some 0) 16)
    ∗ ((bigSep Finset.univ fun j : Fin 16 => atPos EM (x.1, 0, Fin.cast nSub_eq x.2, j) 0 ∅ 0)
        ∗ bigSep Finset.univ fun j : Fin 16 => atPos EM (x.1, 1, Fin.cast nSub_eq x.2, j) 0 ∅ 0)
    ∗ ((bigSep Finset.univ fun k : Fin 16 => dutyTok EM (x.1, 0, k, Fin.cast nSub_eq x.2) 0 0)
        ∗ bigSep Finset.univ fun k : Fin 16 => dutyTok EM (x.1, 1, k, Fin.cast nSub_eq x.2) 0 0))

theorem kit_intro (x : TK) : iprop(alike (F := F) U I ∗ mine x) ⊢ (kit (F := F) U I x.1 c0 x.2 : sProp 𝕄) := by
  obtain ⟨d, i⟩ := x
  iintro ⟨⟨#Hinv, #Hbox, #Hr⟩, Hat, ⟨Ht0, Ht1⟩, Hc1, Hc0, ⟨Hp0, Hp1⟩, Hk0, Hk1⟩
  unfold kit bkit
  isplitr
  · icases Hinv with ⟨%κ, Hinv⟩
    iexists κ
    iapply (SparseCore.ent (each_of (s := (Finset.univ : Finset (Fin (grid1.bound 1))))
      (R := bigSep Finset.univ fun x : TK => cellInv EB (bRd (F := F)) (κ (bc x)) (bc x)) fun j _ =>
        bigSep_elim (Φ := fun x : TK => (cellInv EB (bRd (F := F)) (κ (bc x)) (bc x) : sProp 𝕄)) (Finset.mem_univ (d, Fin.castLE hsub1 j))))
    iexact Hinv
  isplitr; · iexact Hbox
  isplitr
  · iapply (SparseCore.ent (each_of (s := (Finset.univ : Finset (Fin (grid1.bound 1))))
      (R := bigSep Finset.univ fun x : TK => reached EB (bc x) 0) fun j _ =>
        bigSep_elim (Φ := fun x : TK => (reached EB (bc x) 0 : sProp 𝕄)) (Finset.mem_univ (d, Fin.castLE hsub1 j))))
    iexact Hr
  isplitl [Ht0]; · iexact Ht0
  isplitl [Ht1]; · iexact Ht1
  isplitl [Hat]; · iexact Hat
  isplitl [Hc0]; · iexact Hc0
  isplitl [Hc1]; · iexact Hc1
  isplitl [Hp0]; · iexact Hp0
  isplitl [Hp1]; · iexact Hp1
  isplitl [Hk0]; · iexact Hk0
  iexact Hk1

theorem Px_T (d : Dev nD) : (bigSep Finset.univ fun q : Fin 1 => (P (F := F) U I).x q (SparseCore.T d)) = iprop(emp) :=
  bigSep_univ_of_subsingleton (0 : Fin 1)
theorem Px_S (d : Dev nD) (c : Fin τ.nSC) : (bigSep Finset.univ fun q : Fin 1 => (P (F := F) U I).x q (S d c)) = iprop(emp) :=
  bigSep_univ_of_subsingleton (0 : Fin 1)
theorem Px_V (d : Dev nD) (c : Fin τ.nSC) (i : Fin τ.nSub) :
    (bigSep Finset.univ fun q : Fin 1 => (P (F := F) U I).x q (V d c i)) = if c.val < 1 then kit U I d c i else iprop(emp) :=
  bigSep_univ_of_subsingleton (0 : Fin 1)

/-- The tiles of the grid's SparseCore get their kits, the others nothing. -/
theorem kits_core (d : Dev nD) : (bigSep Finset.univ fun i : Fin τ.nSub => (kit (F := F) U I d c0 i : sProp 𝕄))
    ⊢ bigSep Finset.univ fun ci : Fin τ.nSC × Fin τ.nSub => if ci.1.val < 1 then kit (F := F) U I d ci.1 ci.2 else iprop(emp) := by
  rw [bigSep_univ_prod, SparseCore.bigSep_erase' (Finset.mem_univ c0)]
  have hrest : (bigSep (Finset.univ.erase c0) fun c : Fin τ.nSC => bigSep Finset.univ fun i : Fin τ.nSub =>
      if (c, i).1.val < 1 then kit (F := F) U I d (c, i).1 (c, i).2 else iprop(emp)) = (iprop(emp) : sProp 𝕄) := by
    rw [show (bigSep (Finset.univ.erase c0) fun c : Fin τ.nSC => bigSep Finset.univ fun i : Fin τ.nSub =>
        if (c, i).1.val < 1 then kit (F := F) U I d (c, i).1 (c, i).2 else iprop(emp)) = bigSep (Finset.univ.erase c0) fun _ => (iprop(emp) : sProp 𝕄) from
      bigSep_congr fun c hc => by
        have h : ¬ c.val < 1 := fun h => (Finset.mem_erase.mp hc).1 (Fin.ext (Nat.lt_one_iff.mp h))
        simp only [h, if_false]; exact bigSep_nothing _]
    exact bigSep_nothing _
  rw [hrest]
  have hone : (bigSep Finset.univ fun i : Fin τ.nSub => if (c0, i).1.val < 1 then kit (F := F) U I d (c0, i).1 (c0, i).2 else (iprop(emp) : sProp 𝕄))
      = bigSep Finset.univ fun i : Fin τ.nSub => kit (F := F) U I d c0 i :=
    bigSep_congr fun i _ => if_pos (show (c0 : Fin τ.nSC).val < 1 by decide)
  rw [hone]
  iintro H
  isplitl [H]; · iexact H
  iempintro

theorem kits_deal : iprop(alike (F := F) U I ∗ bigSep Finset.univ fun x : TK => mine (F := F) x)
      ⊢ (bigSep Finset.univ fun thr : Thread nD τ => bigSep Finset.univ fun q : Fin 1 => (P (F := F) U I).x q thr : sProp 𝕄) := by
  rw [SparseCore.Cfg.bigSep_threads (fun thr : Thread nD τ => bigSep Finset.univ fun q : Fin 1 => (P U I).x q thr)]
  simp only [Px_T, Px_S, Px_V, bigSep_nothing]
  have h : iprop(alike (F := F) U I ∗ bigSep Finset.univ fun x : TK => mine (F := F) x)
      ⊢ (bigSep Finset.univ fun x : TK => kit (F := F) U I x.1 c0 x.2 : sProp 𝕄) := bigSep_beside fun x _ => kit_intro U I x
  iintro H
  isplitr; · iempintro
  isplitr; · iempintro
  ihave H := h $$ H
  iapply (show (bigSep Finset.univ fun x : TK => kit (F := F) U I x.1 c0 x.2 : sProp 𝕄) ⊢ _ from by
    rw [bigSep_univ_prod, bigSep_univ_prod (fun x : Dev nD × Fin τ.nSC × Fin τ.nSub => if x.2.1.val < 1 then kit (F := F) U I x.1 x.2.1 x.2.2 else (iprop(emp) : sProp 𝕄))]
    exact bigSep_mono fun d _ => kits_core U I d)
  iexact H

end Cert.Proof.Sc

end
-- ==== Proof.Fund.lean ====
module

public import proofs.«01_k».proof.Proof.Kits

@[expose] public section

/-! # The launch element pays for what the threads are handed -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

attribute [local instance] stages

variable [FloatOps F]
variable (U : Dev nD → ℕ → F .f32) (I : Dev nD → ℕ → BitVec 32)
/-! ## The launch -/

/-- The TensorCore call's cells on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem ghost_deal : (BI.own (EP (uP (F := F))) : sProp 𝕄) ⊢ iprop(|==> bigSep Finset.univ fun d : Dev nD => G (F := F) d) := by
  refine (Pipeline.fund_ghost (Pipeline.pin (pcfgs (F := F)) adm) EP ghost_inj).trans ?_
  have h0 : ∀ d : Dev nD, (bigSep Finset.univ fun p : Fin 1 => (Pipeline.cellsGhost (Pipeline.pin (pcfgs (F := F)) adm) EP p d : sProp 𝕄))
      = Pipeline.cellsGhost (Pipeline.pin (pcfgs (F := F)) adm) EP 0 d := fun d => bigSep_univ_of_subsingleton (0 : Fin 1)
  have h1 : ∀ d : Dev nD, (bigSep Finset.univ fun p : Fin 1 => (Pipeline.toksInit (Pipeline.pin (pcfgs (F := F)) adm) EP p d : sProp 𝕄))
      = Pipeline.toksInit (Pipeline.pin (pcfgs (F := F)) adm) EP 0 d := fun d => bigSep_univ_of_subsingleton (0 : Fin 1)
  simp only [h0, h1]
  rw [← bigSep_sep']

theorem mine_split : (bigSep Finset.univ fun x : TK => mine (F := F) x)
    = iprop((bigSep Finset.univ fun x : TK => atPos EB (bc x) 0 ∅ 0)
      ∗ (bigSep Finset.univ fun x : TK => iprop((bigSep Finset.univ fun j : Fin (grid1.bound 1) => dutyTok EB (bcell x.1 c0 (j.castLE hsub1)) 0 x.2.val)
        ∗ bigSep Finset.univ fun j : Fin (grid1.bound 1) => dutyTok EB (bcell x.1 c0 (j.castLE hsub1)) 0 (16 + x.2.val)))
      ∗ (bigSep Finset.univ fun x : TK => cred (tallyAt (bc x) (some 1) 16)) ∗ (bigSep Finset.univ fun x : TK => cred (tallyAt (bc x) (some 0) 16))
      ∗ (bigSep Finset.univ fun x : TK => iprop((bigSep Finset.univ fun j : Fin 16 => atPos EM (x.1, 0, Fin.cast nSub_eq x.2, j) 0 ∅ 0)
        ∗ bigSep Finset.univ fun j : Fin 16 => atPos EM (x.1, 1, Fin.cast nSub_eq x.2, j) 0 ∅ 0))
      ∗ (bigSep Finset.univ fun x : TK => iprop((bigSep Finset.univ fun k : Fin 16 => dutyTok EM (x.1, 0, k, Fin.cast nSub_eq x.2) 0 0)
        ∗ bigSep Finset.univ fun k : Fin 16 => dutyTok EM (x.1, 1, k, Fin.cast nSub_eq x.2) 0 0))) := by
  unfold mine
  simp only [BI.bigSep_sep']

theorem hu₀ : iprop(ownU (u₀ (F := F)) ∗ (P (F := F) U I).oxCred ∗ (K (F := F)).freeOn (· ∈ bCells))
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P U I).x q thr) : sProp 𝕄) := by
  unfold u₀
  iintro ⟨Hu, Hcred, Hfree⟩
  ihave H := (ownU_split _ _ _ _) $$ Hu
  icases H with ⟨HH, HB, HM, HP⟩
  imod (Rounds.fund EB (bRd (F := F)) bCells bToks) $$ HB with ⟨Hst, #Hr, Hat, Htok⟩
  imod (Rounds.fund_init EM mCells mToks) $$ HM with ⟨Hmst, -, Hmat, Hmtok⟩
  imod (ghost_deal (F := F)) $$ HP with HG
  ihave Hsems := (sems_b (F := F)) $$ Hfree
  imod (invs_b (F := F)) $$ [Hsems Hst] with ⟨%κ, #Hinv⟩
  · isplitl [Hsems] <;> iassumption
  imod (invs_m (F := F) (shr (fun d => tabMax (U d) (I d)) (fun d => tabSum (U d) (I d)) c0)) $$ Hmst with ⟨%κ', #Hbox⟩
  ihave Hcred' := (creds_b U I) $$ Hcred
  icases Hcred' with ⟨Hc1, Hc0⟩
  ihave Hinv' := (Entails.of_eq (bCells_eq (F := F) fun g => cellInv EB (bRd (F := F)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  ihave Hmat' := (Entails.of_eq (boxes_at (F := F))) $$ Hmat
  ihave Hmtok' := (Entails.of_eq (boxes_tok (F := F))) $$ Hmtok
  imodintro
  isplitl [HH]; · iexact HH
  isplitl [HG]; · iexact HG
  iapply (kits_deal U I)
  isplitr
  · isplitl; · iexists κ; iexact Hinv'
    isplitr; · iexists κ'; iexact Hbox
    iexact Hr'
  iapply (Entails.of_eq (mine_split (F := F)).symm)
  isplitl [Hat']; · iexact Hat'
  isplitl [Htok']; · iexact Htok'
  isplitl [Hc1]; · iexact Hc1
  isplitl [Hc0]; · iexact Hc0
  isplitl [Hmat']; · iexact Hmat'
  iexact Hmtok'

end Cert.Proof.Sc

end
-- ==== Proof.Region.lean ====
module

public import proofs.«01_k».proof.Proof.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Tactic
public import Idealize.ShloMosaic.Lib.VecWindow

@[expose] public section

/-! # The TensorCore call: the utilities, block by block -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

open Idealize.ShloMosaic.TcCoe
open Idealize.ShloMosaic.Pipeline (Dat Cfg Window BodyObligation)

variable [FloatOps F]

/-! ## The body, at either point -/

abbrev Bf (c : Dev nD) {sp : Space} {sh : Shape} {e : EltTy} (M : Memref sig .tc sp sh e) : Type := Buf (Elt F) (M.view.loc (c : Thread nD τ))
abbrev pt (c : Dev nD) {sp : Space} {sh : Shape} {e : EltTy} (M : Memref sig .tc sp sh e) (f : Bf (F := F) c M) : sProp 𝕄 :=
  M.view.loc (c : Thread nD τ) ↦{fullShare} f

abbrev WT (c : Dev nD) (p : Prog (TpuEff nD τ sig (Elt F) Λ₀ .tc) PUnit) (Q : PUnit → sProp (MT nD τ sig (HIx 2) (Elt F) ℕ UU ℕ)) :
    sProp (MT nD τ sig (HIx 2) (Elt F) ℕ UU ℕ) :=
  wp frame (wpE (defs₀ (F := F)) 𝒱₀ (c : Thread nD τ) none) Set.univ p Q

variable (c : Dev nD)

theorem read_w (f : Bf (F := F) c (stage0_1 0)) :
    View.readAt (Elt F) (stage0_1 0).view (Rect.unit (s := S1x32) ![0, 0] S1x32.size inb_S1x32_S1x32_0_0).toLoadRect f = f :=
  funext fun x => congrArg f (Rect.emb_unit_full _ x)

theorem read_x0 (f : Bf (F := F) c (stage0_0 0)) :
    View.readAt (Elt F) (stage0_0 0).view (Rect.unit (s := S32x16384) ![0, 0] S32x16384.size inb_S32x16384_S32x16384_0_0).toLoadRect f = f :=
  funext fun x => congrArg f (Rect.emb_unit_full _ x)

theorem write_u0 (g : Bf (F := F) c (stage0_2 0)) (p : S16384.Idx → Elt F .f32) :
    (stage0_2 0).view.writes (Elt F) g [⟨Rect.unit (s := S16384) ![0] S16384.size inb_S16384_S16384_0, p⟩] = p := by
  funext i
  refine (congrFun (View.read_whole (Val := Elt F) cc0_stg2_0 _) i).symm.trans ?_
  exact View.read_writes_cons_hit_of_coords (stage0_2 0).view _ (Rect.unit (s := S16384) ![0] S16384.size inb_S16384_S16384_0) p [] i i
    fun a => by
      obtain rfl : a = 0 := Subsingleton.elim _ _
      change _ = 0 + 1 * (i 0).val
      omega

/-- The body on the first pair of staging buffers. -/
theorem matvec_run0 (i : grid0.Coords) (f0 : Bf (F := F) c (stage0_0 0)) (f1 : Bf (F := F) c (stage0_1 0)) (f2 : Bf (F := F) c (stage0_2 0))
    (Q : PUnit → sProp 𝕄) :
    iprop(pt c (stage0_0 0) f0 ∗ pt c (stage0_1 0) f1 ∗ pt c (stage0_2 0) f2
        ∗ (iprop(pt c (stage0_0 0) f0 ∗ pt c (stage0_1 0) f1 ∗ pt c (stage0_2 0) (k0_pay1 f0 f1)) -∗ Q ⟨⟩))
      ⊢ WT c (cc0__tc_matvec i (stage0_0 0) (hstage0_0 0) (stage0_1 0) (hstage0_1 0) (stage0_2 0) (hstage0_2 0)) Q := by
  unfold WT
  rw [cc0__tc_matvec_eq_skeleton]
  unfold cc0__tc_matvec_skel
  iintro ⟨H0, H1, H2, Hk⟩
  sl_exec!
  sl_step
  iapply Hk
  isplitl [H0]; · iexact H0
  isplitl [H1]; · iexact H1
  sl_unfold_run_names
  rw [write_u0 c, read_x0 c, read_w c]
  iexact H2

theorem read_x1 (f : Bf (F := F) c (stage0_0 1)) :
    View.readAt (Elt F) (stage0_0 1).view (Rect.unit (s := S32x16384) ![0, 0] S32x16384.size inb_S32x16384_S32x16384_0_0).toLoadRect f = f :=
  funext fun x => congrArg f (Rect.emb_unit_full _ x)

theorem write_u1 (g : Bf (F := F) c (stage0_2 1)) (p : S16384.Idx → Elt F .f32) :
    (stage0_2 1).view.writes (Elt F) g [⟨Rect.unit (s := S16384) ![0] S16384.size inb_S16384_S16384_0, p⟩] = p := by
  funext i
  refine (congrFun (View.read_whole (Val := Elt F) cc0_stg2_1 _) i).symm.trans ?_
  exact View.read_writes_cons_hit_of_coords (stage0_2 1).view _ (Rect.unit (s := S16384) ![0] S16384.size inb_S16384_S16384_0) p [] i i
    fun a => by
      obtain rfl : a = 0 := Subsingleton.elim _ _
      change _ = 0 + 1 * (i 0).val
      omega

/-- The body on the second pair of staging buffers. -/
theorem matvec_run1 (i : grid0.Coords) (f0 : Bf (F := F) c (stage0_0 1)) (f1 : Bf (F := F) c (stage0_1 0)) (f2 : Bf (F := F) c (stage0_2 1))
    (Q : PUnit → sProp 𝕄) :
    iprop(pt c (stage0_0 1) f0 ∗ pt c (stage0_1 0) f1 ∗ pt c (stage0_2 1) f2
        ∗ (iprop(pt c (stage0_0 1) f0 ∗ pt c (stage0_1 0) f1 ∗ pt c (stage0_2 1) (k0_pay1 f0 f1)) -∗ Q ⟨⟩))
      ⊢ WT c (cc0__tc_matvec i (stage0_0 1) (hstage0_0 1) (stage0_1 0) (hstage0_1 0) (stage0_2 1) (hstage0_2 1)) Q := by
  unfold WT
  rw [cc0__tc_matvec_eq_skeleton]
  unfold cc0__tc_matvec_skel
  iintro ⟨H0, H1, H2, Hk⟩
  sl_exec!
  sl_step
  iapply Hk
  isplitl [H0]; · iexact H0
  isplitl [H1]; · iexact H1
  sl_unfold_run_names
  rw [write_u1 c, read_x1 c, read_w c]
  iexact H2

/-! ## The proof data -/

variable (X : (c : Dev nD) → Buf (Elt F) ((c : Thread nD τ).loc main_v0)) (A : (c : Dev nD) → Buf (Elt F) ((c : Thread nD τ).loc main_arg2))
  (Y : (c : Dev nD) → Buf (Elt F) ((c : Thread nD τ).loc main_v1))

/-- The block of the transposed utilities' inputs that point `t` stages. -/
abbrev stgX (t : Fin cfg0.N) : (cfg0.win 0).block.Idx → Elt F (cfg0.win 0).elt := ((cfg0.win 0).blk t).view.read (Elt F) (X c)
/-- The weights, as either point has them staged. -/
abbrev stgA (t : Fin cfg0.N) : (cfg0.win 1).block.Idx → Elt F (cfg0.win 1).elt := ((cfg0.win 1).blk t).view.read (Elt F) (A c)

/-- The pairs the TensorCore's waits may have recorded by then: those at the lowest level. -/
def low (c : Dev nD) : Set (SemLoc sig × HIx 2) := {p | (K (F := F)).lev (SparseCore.T c, p.1) p.2 ≤ 0}

/-- The arrays at their entry contents; after the body the inputs as staged and the result's block computed from them;
    the start signals of the SparseCore call owed throughout. -/
def dat : Dat τ (Elt F) (HIx 2) ℕ UU ℕ cfg0 c where
  A w := match w with
    | ⟨0, _⟩ => X c
    | ⟨1, _⟩ => A c
    | ⟨2, _⟩ => Y c
  after w t := match w with
    | ⟨0, _⟩ => stgX c X t
    | ⟨1, _⟩ => stgA c A t0_0
    | ⟨2, _⟩ => k0_pay1 (stgX c X t) (stgA c A t0_0)
  Φ _ := iprop(emp)
  q _ := fullShare
  owed _ := (K (F := F)).Otc c 0
  recorded _ := low (F := F) c

def pdats (adm : (p : Fin 1) → (pcfgs (F := F) p).Adm) : (p : Fin 1) → (c : Dev nD) → Dat τ (Elt F) (HIx 2) ℕ UU ℕ (Pipeline.pin (pcfgs (F := F)) adm p) c
  | ⟨0, _⟩ => fun c => dat c X A Y

theorem before_x (t : Fin cfg0.N) (d : (cfg0.win 0).block.Idx → Elt F (cfg0.win 0).elt) : (dat c X A Y).before 0 t d = stgX c X t := by
  unfold Dat.before; rw [if_pos (fetch0_0 t)]; rfl

theorem before_w0 (d : (cfg0.win 1).block.Idx → Elt F (cfg0.win 1).elt) : (dat c X A Y).before 1 t0_0 d = stgA c A t0_0 := by
  unfold Dat.before; rw [if_pos ((fetch0_1 t0_0).mpr rfl)]; rfl

theorem before_w1 (d : (cfg0.win 1).block.Idx → Elt F (cfg0.win 1).elt) : (dat c X A Y).before 1 t0_1 d = stgA c A t0_0 := by
  unfold Dat.before; rw [if_neg (fun h => by have := (fetch0_1 t0_1).mp h; simp [t0_1] at this), if_neg (by simp [t0_1])]
  dsimp only
  rw [if_neg (by decide)]
  rfl

theorem own_x0 (Z : (cfg0.win 0).block.Idx → Elt F (cfg0.win 0).elt) :
    (owns (c : Thread nD τ) ((cfg0.win 0).stage (cfg0.slots t0_0 0)) fullShare Z : sProp 𝕄) = iprop(∃ f : Bf (F := F) c (stage0_0 0), ⌜f = Z⌝ ∗ pt c (stage0_0 0) f) :=
  owns_whole_eq (c : Thread nD τ) cc0_stg0_0 fullShare Z

theorem own_x1 (Z : (cfg0.win 0).block.Idx → Elt F (cfg0.win 0).elt) :
    (owns (c : Thread nD τ) ((cfg0.win 0).stage (cfg0.slots t0_1 0)) fullShare Z : sProp 𝕄) = iprop(∃ f : Bf (F := F) c (stage0_0 1), ⌜f = Z⌝ ∗ pt c (stage0_0 1) f) :=
  owns_whole_eq (c : Thread nD τ) cc0_stg0_1 fullShare Z

theorem own_w0 (Z : (cfg0.win 1).block.Idx → Elt F (cfg0.win 1).elt) :
    (owns (c : Thread nD τ) ((cfg0.win 1).stage (cfg0.slots t0_0 1)) fullShare Z : sProp 𝕄) = iprop(∃ f : Bf (F := F) c (stage0_1 0), ⌜f = Z⌝ ∗ pt c (stage0_1 0) f) :=
  owns_whole_eq (c : Thread nD τ) cc0_stg1_0 fullShare Z

theorem own_w1 (Z : (cfg0.win 1).block.Idx → Elt F (cfg0.win 1).elt) :
    (owns (c : Thread nD τ) ((cfg0.win 1).stage (cfg0.slots t0_1 1)) fullShare Z : sProp 𝕄) = iprop(∃ f : Bf (F := F) c (stage0_1 0), ⌜f = Z⌝ ∗ pt c (stage0_1 0) f) :=
  owns_whole_eq (c : Thread nD τ) cc0_stg1_0 fullShare Z

theorem own_u0 (Z : (cfg0.win 2).block.Idx → Elt F (cfg0.win 2).elt) :
    (owns (c : Thread nD τ) ((cfg0.win 2).stage (cfg0.slots t0_0 2)) fullShare Z : sProp 𝕄) = iprop(∃ f : Bf (F := F) c (stage0_2 0), ⌜f = Z⌝ ∗ pt c (stage0_2 0) f) :=
  owns_whole_eq (c : Thread nD τ) cc0_stg2_0 fullShare Z

theorem own_u1 (Z : (cfg0.win 2).block.Idx → Elt F (cfg0.win 2).elt) :
    (owns (c : Thread nD τ) ((cfg0.win 2).stage (cfg0.slots t0_1 2)) fullShare Z : sProp 𝕄) = iprop(∃ f : Bf (F := F) c (stage0_2 1), ⌜f = Z⌝ ∗ pt c (stage0_2 1) f) :=
  owns_whole_eq (c : Thread nD τ) cc0_stg2_1 fullShare Z

theorem body_obligation : BodyObligation (dat c X A Y) (defs₀ (F := F)) 𝒱₀ (none : HIx 2) Set.univ := fun t => by
  rcases fin_N0 t with rfl | rfl
  · rw [bigSep_W0, bigSep_W0]
    rw [show (dat c X A Y).owesAt none t0_0.succ = (dat c X A Y).owesAt none t0_0.castSucc from rfl]
    iintro ⟨HΦ, Howes, H0, H1, H2⟩
    icases H0 with ⟨%d0, H0⟩
    icases H1 with ⟨%d1, H1⟩
    icases H2 with ⟨%d2, H2⟩
    ihave H0 := (Entails.of_eq (own_x0 c ((dat c X A Y).before 0 t0_0 d0))) $$ H0
    ihave H1 := (Entails.of_eq (own_w0 c ((dat c X A Y).before 1 t0_0 d1))) $$ H1
    ihave H2 := (Entails.of_eq (own_u0 c ((dat c X A Y).before 2 t0_0 d2))) $$ H2
    icases H0 with ⟨%f0, %hf0, H0⟩
    icases H1 with ⟨%f1, %hf1, H1⟩
    icases H2 with ⟨%f2, -, H2⟩
    rw [before_x] at hf0
    rw [before_w0] at hf1
    subst hf0; subst hf1
    iapply (matvec_run0 c (grid0.coords t0_0) (stgX c X t0_0) (stgA c A t0_0) f2 _)
    isplitl [H0]; · iexact H0
    isplitl [H1]; · iexact H1
    isplitl [H2]; · iexact H2
    iintro ⟨H0, H1, H2⟩
    isplitl [HΦ]
    · iapply (show (dat c X A Y).Φ t0_0.castSucc ⊢ (dat c X A Y).Φ t0_0.succ from BI.Entails.refl _); iexact HΦ
    isplitl [Howes]; · iexact Howes
    isplitl [H0]
    · iapply (Entails.of_eq (own_x0 c (stgX c X t0_0)).symm)
      iexists _; isplitr; swap; (· iexact H0); ipureintro; rfl
    isplitl [H1]
    · iapply (Entails.of_eq (own_w0 c (stgA c A t0_0)).symm)
      iexists _; isplitr; swap; (· iexact H1); ipureintro; rfl
    iapply (Entails.of_eq (own_u0 c (k0_pay1 (stgX c X t0_0) (stgA c A t0_0))).symm)
    iexists _; isplitr; swap; (· iexact H2); ipureintro; rfl
  · rw [bigSep_W0, bigSep_W0]
    rw [show (dat c X A Y).owesAt none t0_1.succ = (dat c X A Y).owesAt none t0_1.castSucc from rfl]
    iintro ⟨HΦ, Howes, H0, H1, H2⟩
    icases H0 with ⟨%d0, H0⟩
    icases H1 with ⟨%d1, H1⟩
    icases H2 with ⟨%d2, H2⟩
    ihave H0 := (Entails.of_eq (own_x1 c ((dat c X A Y).before 0 t0_1 d0))) $$ H0
    ihave H1 := (Entails.of_eq (own_w1 c ((dat c X A Y).before 1 t0_1 d1))) $$ H1
    ihave H2 := (Entails.of_eq (own_u1 c ((dat c X A Y).before 2 t0_1 d2))) $$ H2
    icases H0 with ⟨%f0, %hf0, H0⟩
    icases H1 with ⟨%f1, %hf1, H1⟩
    icases H2 with ⟨%f2, -, H2⟩
    rw [before_x] at hf0
    rw [before_w1] at hf1
    subst hf0; subst hf1
    iapply (matvec_run1 c (grid0.coords t0_1) (stgX c X t0_1) (stgA c A t0_0) f2 _)
    isplitl [H0]; · iexact H0
    isplitl [H1]; · iexact H1
    isplitl [H2]; · iexact H2
    iintro ⟨H0, H1, H2⟩
    isplitl [HΦ]
    · iapply (show (dat c X A Y).Φ t0_1.castSucc ⊢ (dat c X A Y).Φ t0_1.succ from BI.Entails.refl _); iexact HΦ
    isplitl [Howes]; · iexact Howes
    isplitl [H0]
    · iapply (Entails.of_eq (own_x1 c (stgX c X t0_1)).symm)
      iexists _; isplitr; swap; (· iexact H0); ipureintro; rfl
    isplitl [H1]
    · iapply (Entails.of_eq (own_w1 c (stgA c A t0_0)).symm)
      iexists _; isplitr; swap; (· iexact H1); ipureintro; rfl
    iapply (Entails.of_eq (own_u1 c (k0_pay1 (stgX c X t0_1) (stgA c A t0_0))).symm)
    iexists _; isplitr; swap; (· iexact H2); ipureintro; rfl

/-! ## The region -/

/-- The utilities the call leaves. -/
def uRes : Buf (Elt F) ((c : Thread nD τ).loc main_v1) := (dat c X A Y).arrAt 2 cfg0.N

/-- What the TensorCore owes around the region. -/
abbrev owing (c : Dev nD) : sProp 𝕄 :=
  iprop(∃ W, ⌜(K (F := F)).WBelow (SparseCore.T c) W 0⌝ ∗ owes (SparseCore.T c) ((K (F := F)).Otc c 0) W)

theorem Otc_low (g : GSem nD τ sig) : (K (F := F)).Otc (N := 2) c 0 g none = 0 := by
  by_contra h
  have := SparseCore.Cfg.lev_of_Otc_pos (Nat.pos_of_ne_zero h)
  rw [SparseCore.Cfg.lev_none] at this
  omega

theorem within_low {W : Waits sig (HIx 2)} (h : (K (F := F)).WBelow (SparseCore.T c) W 0) : ∀ p ∈ W, p ∈ (dat c X A Y).bound (none : HIx 2) 0 :=
  fun p hp => Or.inl (h p hp)

theorem low_within {W : Waits sig (HIx 2)} (h : ∀ p ∈ W, p ∈ (dat c X A Y).bound (none : HIx 2) (Fin.last _)) :
    (K (F := F)).WBelow (SparseCore.T c) W 0 := fun p hp => by
  rcases h p hp with h | ⟨w, s, rfl⟩
  · exact h
  · exact le_rfl

variable (adm : (p : Fin 1) → (pcfgs (F := F) p).Adm)

theorem arrays_three (G : (w : Fin cfg0.W) → Buf (Elt F) ((cfg0.win w).arr.view.loc (c.tc : Thread nD τ))) :
    ((pdats X A Y adm 0 c).arrays G : sProp 𝕄)
      = iprop(((SparseCore.T c).loc main_v0 ↦{fullShare} G 0) ∗ ((SparseCore.T c).loc main_arg2 ↦{fullShare} G 1) ∗ ((SparseCore.T c).loc main_v1 ↦{fullShare} G 2)) :=
  (Pipeline.arrays_eq (Pipeline.pin (pcfgs (F := F)) adm) (pdats X A Y adm) 0 c arr_whole0 ((dat c X A Y).share_full fun _ => rfl) G).trans (bigSep_W0 _)

set_option backward.isDefEq.respectTransparency.types false in
/-- The TensorCore call as a region of the program: from its three arrays and what the core owes to the same, the
    utilities written. -/
def reg : Pipeline.RegionSeg (pcfgs (F := F)) adm (pdats X A Y adm) (none : HIx 2) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation c X A Y).loose
  hwaits c := Pipeline.cellsWaits_intro (Pipeline.pin (pcfgs (F := F)) adm) (pdats X A Y adm) (none : HIx 2) 0 c fun w s t =>
    (K (F := F)).mayWait_none _ (Otc_low c) _
  pre c := iprop(((SparseCore.T c).loc main_v0 ↦{fullShare} X c) ∗ ((SparseCore.T c).loc main_arg2 ↦{fullShare} A c)
    ∗ ((SparseCore.T c).loc main_v1 ↦{fullShare} Y c) ∗ owing c)
  post c := iprop(((SparseCore.T c).loc main_v0 ↦{fullShare} X c) ∗ ((SparseCore.T c).loc main_arg2 ↦{fullShare} A c)
    ∗ ((SparseCore.T c).loc main_v1 ↦{fullShare} uRes c X A Y) ∗ owing c)
  X _ := BI.emp
  Y _ := BI.emp
  Z _ := BI.emp
  hentry c := by
    rw [Pipeline.ownSems0_none]
    iintro ⟨⟨H0, H1, H2, HO⟩, -, -⟩
    imodintro
    isplitl [H0 H1 H2]
    · iapply (Entails.of_eq (arrays_three c X A Y adm ((pdats X A Y adm 0 c).arrAt · 0)).symm)
      isplitl [H0]; · iexact H0
      isplitl [H1]; · iexact H1
      iexact H2
    isplitr; · unfold Pipeline.prefHeld; rw [show (Finset.univ : Finset (Fin 0)) = ∅ from rfl, BI.bigSep_empty]; iempintro
    isplitl [HO]
    · icases HO with ⟨%W, %hW, HO⟩
      unfold Pipeline.Dat.owesAt Pipeline.owesWithin
      iexists W; isplitr; · ipureintro; exact within_low c X A Y hW
      iexact HO
    isplitr <;> iempintro
  hin c := by
    iintro -; iempintro
  hout c := by
    rw [Pipeline.ownSems0_none]
    iintro -
    isplitr; · iempintro
    isplitr; · iempintro
    iapply (Entails.of_eq (scopedRest0_eq c).symm)
    iempintro
  hexit c := by
    iintro ⟨Ha, HO, -, -⟩
    imodintro
    ihave Ha := (Entails.of_eq (arrays_three c X A Y adm ((pdats X A Y adm 0 c).arrAt · cfg0.N))) $$ Ha
    icases Ha with ⟨H0, H1, H2⟩
    isplitl [H0]
    · rw [show X c = (pdats X A Y adm 0 c).arrAt 0 cfg0.N from ((dat c X A Y).arrAt_in 0 rfl _).symm]; iexact H0
    isplitl [H1]
    · rw [show A c = (pdats X A Y adm 0 c).arrAt 1 cfg0.N from ((dat c X A Y).arrAt_in 1 rfl _).symm]; iexact H1
    isplitl [H2]; · iexact H2
    unfold Pipeline.Dat.owesAt Pipeline.owesWithin
    icases HO with ⟨%W, %hW, HO⟩; iexists W; isplitr; · ipureintro; exact low_within c X A Y hW
    iexact HO

end Cert.Proof.Sc

end
-- ==== Proof.Main.lean ====
module

public import proofs.«01_k».proof.Proof.Split
public import proofs.«01_k».proof.Proof.Fund
public import proofs.«01_k».proof.Proof.Region

@[expose] public section

/-! # The program on the TensorCore, and the whole run -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

attribute [local instance] stages

variable [FloatOps F]

/-! ## A host operation of one operand -/

section Host

variable {Λ : Labels} (defs : Defs nD τ sig (Elt F) Λ) (𝒱' : Variants) (d : Dev nD)

theorem wp_unary {x y : Ref sig .tc} (f : x.ty.Contents (Elt F) → y.ty.Contents (Elt F)) (hx hy) (hxy : x ≠ y) (V : Valuation τ sig (Elt F))
    {k : ((b : (StableHlo.unary (τ := τ) x y f hx hy).writes) → b.1.ty.Contents (Elt F)) → Prog (TpuEff nD τ sig (Elt F) Λ .tc) PUnit}
    {Q : PUnit → sProp (MT nD τ sig (HIx 2) (Elt F) ℕ UU ℕ)} :
    iprop(boundary (SparseCore.T d) ∗ (((SparseCore.T d : Thread nD τ).loc x ↦{fullShare} V (Proc.devRef .tc x)) ∗ ((SparseCore.T d : Thread nD τ).loc y ↦{fullShare} V (Proc.devRef .tc y))))
      ⊢ iprop(((boundary (SparseCore.T d) ∗ (((SparseCore.T d : Thread nD τ).loc x ↦{fullShare} V (Proc.devRef .tc x)) ∗ ((SparseCore.T d : Thread nD τ).loc y ↦{fullShare} f (V (Proc.devRef .tc x)))))
          -∗ wp frame (wpE defs 𝒱' (SparseCore.T d) none) Set.univ (k ((StableHlo.unary x y f hx hy).fn fun b => V b.1)) Q)
        -∗ wp frame (wpE defs 𝒱' (SparseCore.T d) none) Set.univ (hlo rfl (StableHlo.unary x y f hx hy) k) Q) := by
  have hne : (Proc.devRef .tc x : DevRef τ sig) ∉ ({Proc.devRef .tc y} : Finset (DevRef τ sig)) := by
    rw [Finset.mem_singleton]; exact StableHlo.devRef_ne_of_ne hxy
  have hb : ∀ W : Valuation τ sig (Elt F), (bigSep (StableHlo.unary (τ := τ) x y f hx hy).bufs (fun b => ((SparseCore.T d : Thread nD τ).1, b) ↦{fullShare} W b) : sProp 𝕄)
      = iprop(((SparseCore.T d : Thread nD τ).loc x ↦{fullShare} W (Proc.devRef .tc x)) ∗ ((SparseCore.T d : Thread nD τ).loc y ↦{fullShare} W (Proc.devRef .tc y))) := fun W => by
    rw [StableHlo.unary_bufs, SparseCore.bigSep_insert' hne, bigSep_singleton]
  have h := wp_hlo 𝒱' (SparseCore.T d) none Set.univ (defs := defs) (hp := rfl) (op := StableHlo.unary (τ := τ) x y f hx hy) (k := k) (Q := Q)
    (q := fun _ => fullShare) (F := V) (fun _ _ => rfl) (Ix := HIx 2) (Name := ℕ) (U := UU) (Lvl := ℕ) (Γ := .empty)
  rw [hb V, hb ((StableHlo.unary (τ := τ) x y f hx hy).result V), StableHlo.unary_result_ne x y f hx hy V hxy, StableHlo.unary_result'] at h
  exact h

end Host

/-! ## The TensorCore call -/

variable (X : (c : Dev nD) → Buf (Elt F) ((SparseCore.T c : Thread nD τ).loc main_v0)) (A : (c : Dev nD) → Buf (Elt F) ((SparseCore.T c : Thread nD τ).loc main_arg2))
  (Y : (c : Dev nD) → Buf (Elt F) ((SparseCore.T c : Thread nD τ).loc main_v1))

theorem wp_doneT {Λ : Labels} {defs : Defs nD τ sig (Elt F) Λ} {𝒱' : Variants} {d : Dev nD} {α : Type} {Q : α → sProp (MT nD τ sig (HIx 2) (Elt F) ℕ UU ℕ)} {a : α} :
    Q a ⊢ wp frame (wpE defs 𝒱' (SparseCore.T d : Thread nD τ) none) Set.univ (Prog.ret a) Q := by
  rw [wp_ret]
  iintro H
  imodintro
  iexact H

theorem region_inner [∀ e, Nonempty (Elt F e)] (d : Dev nD) (Q : PUnit → sProp (MT nD τ sig (HIx 2) (Elt F) ℕ UU ℕ)) :
    iprop((iprop(boundary (SparseCore.T d : Thread nD τ) ∗ (reg X A Y adm).post d) -∗ wp frame (wpE (D (F := F)) 𝒱 (SparseCore.T d : Thread nD τ) none) Set.univ (Prog.ret ⟨⟩) Q)
        ∗ boundary (SparseCore.T d : Thread nD τ) ∗ (reg X A Y adm).pre d ∗ levAts (K (F := F)).L (K (F := F)).lev ∗ G (F := F) d)
      ⊢ wp frame (wpE (D (F := F)) 𝒱 (SparseCore.T d : Thread nD τ) none) Set.univ
          (Prog.op (.customCall (Pipeline.entry 0) ()) fun x => Prog.ret x) Q :=
  Pipeline.RegionSeg.wp (pcfgs (F := F)) adm (pdats X A Y adm) (none : HIx 2) ghost_inj EP defs₀ 𝒱₀ (K (F := F)).L (K (F := F)).lev
    (reg X A Y adm) d none (fun _ hu => by cases hu) (fun x => Prog.ret x) Q

theorem lift_inner (d : Dev nD) (Q : PUnit → sProp (MT nD τ sig (HIx 2) (Elt F) ℕ UU ℕ)) :
    wp frame (wpE (D (F := F)) 𝒱 (SparseCore.T d : Thread nD τ) none) Set.univ (Prog.op (.customCall (Pipeline.entry 0) ()) fun x => Prog.ret x) Q
      ⊢ wp frame (wpE ((K (F := F)).defs (D (F := F))) 𝒱 (SparseCore.T d : Thread nD τ) none) Set.univ
          (Prog.lift (.customCall (SparseCore.inner (Pipeline.entry 0)) ())) Q := by
  have h := (K (F := F)).wp_liftProg (D (F := F)) 𝒱 (SparseCore.T d : Thread nD τ) Set.univ none
    (Prog.op (TpuEff.customCall (Pipeline.entry 0) ()) fun x => Prog.ret x) Q
  exact h

theorem region_step [∀ e, Nonempty (Elt F e)] (d : Dev nD) (Q : PUnit → sProp (MT nD τ sig (HIx 2) (Elt F) ℕ UU ℕ)) :
    iprop((iprop(boundary (SparseCore.T d : Thread nD τ) ∗ (reg X A Y adm).post d) -∗ Q ⟨⟩)
        ∗ boundary (SparseCore.T d : Thread nD τ) ∗ (reg X A Y adm).pre d ∗ levAts (K (F := F)).L (K (F := F)).lev ∗ G (F := F) d)
      ⊢ wp frame (wpE ((K (F := F)).defs (D (F := F))) 𝒱 (SparseCore.T d : Thread nD τ) none) Set.univ
          (Prog.lift (.customCall (SparseCore.inner (Pipeline.entry 0)) ())) Q := by
  have h1 := lift_inner d Q
  refine BI.Entails.trans ?_ h1
  refine BI.Entails.trans ?_ (region_inner X A Y d Q)
  exact sep_mono_left (wand_mono (BI.Entails.refl _) wp_doneT)

theorem reg_pre (d : Dev nD) : (reg X A Y adm).pre d = iprop(((SparseCore.T d : Thread nD τ).loc main_v0 ↦{fullShare} X d) ∗ ((SparseCore.T d : Thread nD τ).loc main_arg2 ↦{fullShare} A d)
    ∗ ((SparseCore.T d : Thread nD τ).loc main_v1 ↦{fullShare} Y d) ∗ owing d) := rfl
theorem reg_post (d : Dev nD) : (reg X A Y adm).post d = iprop(((SparseCore.T d : Thread nD τ).loc main_v0 ↦{fullShare} X d) ∗ ((SparseCore.T d : Thread nD τ).loc main_arg2 ↦{fullShare} A d)
    ∗ ((SparseCore.T d : Thread nD τ).loc main_v1 ↦{fullShare} uRes d X A Y) ∗ owing d) := rfl

/-! ## @main on the TensorCore -/

variable (U : Dev nD → ℕ → F .f32) (I : Dev nD → ℕ → BitVec 32)

theorem unscopedBufs_eq (d : Dev nD) (W : (b : Ref sig .tc) → Buf (Elt F) ((d.tc : Thread nD τ).loc b)) :
    (unscopedBufs d W : sProp 𝕄) = iprop(((SparseCore.T d : Thread nD τ).loc main_arg0 ↦{fullShare} W main_arg0) ∗ ((SparseCore.T d : Thread nD τ).loc main_arg1 ↦{fullShare} W main_arg1)
      ∗ ((SparseCore.T d : Thread nD τ).loc main_arg2 ↦{fullShare} W main_arg2) ∗ ((SparseCore.T d : Thread nD τ).loc main_v0 ↦{fullShare} W main_v0)
      ∗ ((SparseCore.T d : Thread nD τ).loc main_v1 ↦{fullShare} W main_v1) ∗ ((SparseCore.T d : Thread nD τ).loc main_v2 ↦{fullShare} W main_v2)
      ∗ ((SparseCore.T d : Thread nD τ).loc main_v3 ↦{fullShare} W main_v3)) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem st0_eq (d : Dev nD) : (bigSep Finset.univ fun c : Fin ((K (F := F)).nCore 0) => (P U I).st 0 d c) = stP U I d :=
  bigSep_univ_of_subsingleton (0 : Fin 1)
theorem dn0_eq (d : Dev nD) : (bigSep Finset.univ fun c : Fin ((K (F := F)).nCore 0) => (P U I).dn 0 d c) = dnP U I d 0 :=
  bigSep_univ_of_subsingleton (0 : Fin 1)

variable (m : (ℓ : Loc nD τ sig) → Buf (Elt F) ℓ) (ρ : Dev nD → PrngReg)

/-- The array the TensorCore call reads: the items' attributes, transposed. -/
def xT (d : Dev nD) : FVec F S32x32768 .f32 :=
  transpose S32x32768 [1, 0] (m ((SparseCore.T d : Thread nD τ).loc main_arg0)) transposes_S32768x32_S32x32768_1_0
/-- The weights. -/
def wOf (d : Dev nD) : FVec F S1x32 .f32 := m ((SparseCore.T d : Thread nD τ).loc main_arg2)
/-- What the utilities' array holds at first. -/
def u0Of (d : Dev nD) : FVec F S32768 .f32 := m ((SparseCore.T d : Thread nD τ).loc main_v1)
/-- The utilities. -/
def utilBuf (d : Dev nD) : Buf (Elt F) (uLoc d) := uRes d (xT m) (wOf m) (u0Of m)
/-- The result. -/
def result (d : Dev nD) : FVec F S32768x1 .f32 :=
  broadcastInDim S32768x1 ![0] bcast_S32768_S32768x1_0 (fun i : S32768.Idx => outAll (U d) (I d) (i 0).val)

/-- A buffer of one axis by its position. -/
def posOf {n : ℕ} {α : Type} (hn : 0 < n) (f : (⟨1, ![n]⟩ : Shape).Idx → α) (k : ℕ) : α :=
  f (fun (a : Fin 1) => ⟨k % n, by obtain rfl : a = 0 := Subsingleton.elim _ _; exact Nat.mod_lt _ hn⟩)

theorem posOf_eq {n : ℕ} {α : Type} (hn : 0 < n) (f : (⟨1, ![n]⟩ : Shape).Idx → α) : f = fun i => posOf hn f (i 0).val := by
  refine funext fun i => congrArg f (funext fun (a : Fin 1) => ?_)
  obtain rfl : a = 0 := Subsingleton.elim _ _
  have hi : (i 0).val < n := (i 0).isLt
  exact Fin.ext (Nat.mod_eq_of_lt hi).symm

abbrev FIN (d : Dev nD) : sProp 𝕄 :=
  iprop(((SparseCore.T d : Thread nD τ).loc main_arg0 ↦{fullShare} m ((SparseCore.T d : Thread nD τ).loc main_arg0)) ∗ ((SparseCore.T d : Thread nD τ).loc main_arg1 ↦{fullShare} m ((SparseCore.T d : Thread nD τ).loc main_arg1))
    ∗ ((SparseCore.T d : Thread nD τ).loc main_arg2 ↦{fullShare} m ((SparseCore.T d : Thread nD τ).loc main_arg2)) ∗ ((SparseCore.T d : Thread nD τ).loc main_v3 ↦{fullShare} result U I d) ∗ bars d 0)

theorem tcSt_split (d : Dev nD) : (K (F := F)).tcSt EH d 0 ⊢ (iprop(owing d ∗ (owing d -∗ (K (F := F)).tcSt EH d 0)) : sProp (MT nD τ sig (HIx 2) (Elt F) ℕ UU ℕ)) := by
  unfold SparseCore.Cfg.tcSt
  iintro ⟨HO, H⟩
  isplitl [HO]; · iexact HO
  iintro HO
  isplitl [HO]; · iexact HO
  iexact H

theorem hmain [∀ e, Nonempty (Elt F e)] (hU : ∀ d, utilBuf m d = fun i => U d (i 0).val) (hI : ∀ d, m (iLoc d) = fun i => I d (i 0).val)
    (κ : GSem nD τ sig → ℕ) (d : Dev nD) :
    iprop((K (F := F)).ctx EH (P U I) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN U I m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, H0, H1, H2, H3⟩, Hts, -⟩, HG⟩
  iapply (wp_unary ((K (F := F)).defs (D (F := F))) 𝒱 d (x := main_arg0) (y := main_v0) _ _ _ (by decide) (fun b => m (d, b))) $$ [Hb Ha0 H0]
  · isplitl [Hb]; · iexact Hb
    isplitl [Ha0]; · iexact Ha0
    iexact H0
  iintro ⟨Hb, Ha0, H0⟩
  iapply wp_doneT
  ihave Hlev := ((K (F := F)).ctx_levAts κ) $$ Hctx
  ihave Hst' := (tcSt_split d) $$ Hst
  icases Hst' with ⟨HO, Hst⟩
  iapply (region_step (xT m) (wOf m) (u0Of m) d)
  rw [reg_pre, reg_post]
  isplitr [Hb H0 Ha2 H1 HO Hlev HG]
  swap
  · isplitl [Hb]; · iexact Hb
    isplitl [H0 Ha2 H1 HO]
    · isplitl [H0]; · iexact H0
      isplitl [Ha2]; · iexact Ha2
      isplitl [H1]; · iexact H1
      iexact HO
    isplitl [Hlev]; · iexact Hlev
    iexact HG
  iintro ⟨Hb, H0, Ha2, H1, HO⟩
  iapply ((K (F := F)).wp_run (D (F := F)) 𝒱 (EH := EH) (P := P U I) κ d 0) $$ [Hst HO Ha0 Ha1 Ha2 H1 H2 H3 Hb Hts]
  isplitr; · iexact Hctx
  isplitl [Hst HO]
  · iapply Hst $$ HO
  isplitl [Ha1 H1 H2]
  · rw [st0_eq]
    isplitl [H1]
    · iapply (Entails.of_eq (show ((uLoc d ↦{fullShare} utilBuf m d : sProp 𝕄)) = uPts U d Finset.univ by rw [hU]))
      iexact H1
    isplitl [Ha1]
    · iapply (Entails.of_eq (show ((iLoc d ↦{fullShare} m (iLoc d) : sProp 𝕄)) = iPts I d Finset.univ by rw [hI]))
      iexact Ha1
    iexists (m (oLoc d)); iexact H2
  iintro ⟨Hst, Hdn⟩
  ihave Hdn' := (Entails.of_eq (dn0_eq U I d)) $$ Hdn
  icases Hdn' with ⟨⟨-, Ha1, Ho⟩, Hbars⟩
  iapply (wp_unary ((K (F := F)).defs (D (F := F))) 𝒱 d (x := main_v2) (y := main_v3) _ _ _ (by decide)
    (Function.update (fun b => m (d, b)) (Proc.devRef .tc main_v2) (fun i : S32768.Idx => outAll (U d) (I d) (i 0).val))) $$ [Hb Ho H3]
  · isplitl [Hb]; · iexact Hb
    isplitl [Ho]
    · rw [Function.update_self]; iexact Ho
    rw [Function.update_of_ne (StableHlo.devRef_ne_of_ne (by decide))]; iexact H3
  iintro ⟨Hb, Ho, H3⟩
  iapply wp_doneT
  imodintro
  isplitl [Hst]; · iexact Hst
  isplitr [Hb Hts]
  · isplitl [Ha0]; · iexact Ha0
    isplitl [Ha1]
    · iapply (Entails.of_eq (show iPts I d Finset.univ = ((iLoc d ↦{fullShare} m (iLoc d) : sProp 𝕄)) by rw [hI]))
      iexact Ha1
    isplitl [Ha2]; · iexact Ha2
    isplitl [H3]
    · rw [Function.update_self]; iexact H3
    iexact Hbars
  isplitl [Hb] <;> iassumption

def fq (d : Dev nD) (s' : Phys nD τ sig (Elt F)) : Prop :=
  (s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)
    ∧ s'.mem.mem ((SparseCore.T d : Thread nD τ).loc main_arg2) = m ((SparseCore.T d : Thread nD τ).loc main_arg2)
    ∧ s'.mem.mem ((SparseCore.T d : Thread nD τ).loc main_v3) = result U I d)
  ∧ ∀ i : Fin ((K (F := F)).nSub 0), s'.mem.sem (bcell d (coreOf (F := F) 0) ((K (F := F)).sub 0 i)) = 0

theorem hfin_at (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN U I m d ∗ SI s') ⊢ (⌜fq U I m d s'⌝ : sProp 𝕄) :=
  fun x hx => ⟨⟨((sep_mono_left sep_elim_left).trans (hfin_at _ _ s')) x hx,
      ((sep_mono_left (sep_elim_right.trans sep_elim_left)).trans (hfin_at _ _ s')) x hx,
      ((sep_mono_left (sep_elim_right.trans (sep_elim_right.trans sep_elim_left))).trans (hfin_at _ _ s')) x hx,
      ((sep_mono_left (sep_elim_right.trans (sep_elim_right.trans (sep_elim_right.trans sep_elim_left)))).trans (hfin_at _ _ s')) x hx⟩, fun i =>
    ((sep_mono_left (sep_elim_right.trans (sep_elim_right.trans (sep_elim_right.trans (sep_elim_right.trans (SparseCore.ent (bigSep_elim (Finset.mem_univ i)))))))).trans
      (SparseCore.Cfg.semVal_zero_read _ s')) x hx⟩

/-- The cells taken at the launch end at zero. -/
theorem hA (s' : Phys nD τ sig (Elt F)) (h : ∀ d, fq U I m d s') (g : GSem nD τ sig) (hg : g ∈ bCells) : s'.mem.sem g = 0 := by
  obtain ⟨⟨d, i⟩, hx, rfl⟩ := Finset.mem_image.mp hg
  exact (h d).2 ⟨i.val, i.isLt⟩

/-! ## The program's run -/

def QC : PUnit × MemSt nD τ sig (Elt F) → Prop := fun r =>
  (∀ c : Dev nD, r.2.mem ((SparseCore.T c : Thread nD τ).loc main_arg0) = m ((SparseCore.T c : Thread nD τ).loc main_arg0)
    ∧ r.2.mem ((SparseCore.T c : Thread nD τ).loc main_arg1) = m ((SparseCore.T c : Thread nD τ).loc main_arg1)
    ∧ r.2.mem ((SparseCore.T c : Thread nD τ).loc main_arg2) = m ((SparseCore.T c : Thread nD τ).loc main_arg2)
    ∧ r.2.mem ((SparseCore.T c : Thread nD τ).loc main_v3) = result U I c) ∧ r.2.sem = fun _ => 0

theorem run_main [∀ e, Nonempty (Elt F e)] (hU : ∀ d, utilBuf m d = fun i => U d (i 0).val) (hI : ∀ d, m (iLoc d) = fun i => I d (i 0).val)
    (hr : ∀ d, ∀ k < 32768, (I d k).toNat < 16) :
    θ_run (Cert.KernelIdeal.defs (F := F)) (Cert.KernelIdeal.threads (F := F)) ⟨m, fun _ => 0, ρ⟩ (QC U I m) :=
  SparseCore.Cfg.θ_run_sc_quiescent (K := K (F := F)) (D := D (F := F)) (𝒱 := 𝒱) (EH := EH) (P := P U I) (hA := hA U I m) facts v₀
    (fun q hq => match q with | 0 => nomatch hq)
    (fun q _ => match q with | 0 => tileObl U I hr)
    (fun q _ => match q with | 0 => vecSplit U I)
    m ρ main (G (F := F)) (FIN U I m) (u₀ (F := F)) (hu₀ U I) (hmain U I m ρ hU hI) (fq U I m) (hfin U I m) (QC U I m) (fun _ h hz => ⟨fun c => (h c).1, hz⟩)

/-- What the kernel leaves, by the utilities and the segments' names of the memory it starts in. -/
def outBuf (d : Dev nD) : FVec F S32768x1 .f32 :=
  result (fun d => posOf (n := 32768) (by decide) (utilBuf m d)) (fun d => posOf (n := 32768) (by decide) (m (iLoc d))) d

theorem run_all [∀ e, Nonempty (Elt F e)] (hr : ∀ d, ∀ k, (posOf (n := 32768) (by decide) (m (iLoc d)) k : BitVec 32).toNat < 16) :
    θ_run (Cert.KernelIdeal.defs (F := F)) (Cert.KernelIdeal.threads (F := F)) ⟨m, fun _ => 0, ρ⟩
      (QC (fun d => posOf (n := 32768) (by decide) (utilBuf m d)) (fun d => posOf (n := 32768) (by decide) (m (iLoc d))) m) :=
  run_main _ _ m ρ (fun d => posOf_eq (n := 32768) (by decide) (utilBuf m d)) (fun d => posOf_eq (n := 32768) (by decide) (m (iLoc d))) (fun d k _ => hr d k)

end Cert.Proof.Sc

end
-- ==== Proof.Pre.lean ====
module

public import proofs.«01_k».proof.Pre_finite_sorted_ids
public import Idealize.ShloMosaic.Lib.ReduceAll
public import Idealize.ShloMosaic.Lib.WordCmp
public import Idealize.ShloMosaic.Lib.Decide
public import Idealize.ShloMosaic.PureOps.Ideal

@[expose] public section

/-! # What the precondition says -/

noncomputable section

namespace Cert.Proof.Pre

open Cert.Pre_finite_sorted_ids
open Idealize.ShloMosaic

theorem small {b : BitVec 32} (h0 : IntOp.cmpi .sge b 0#32 = 1#1) (h1 : IntOp.cmpi .slt b 16#32 = 1#1) : b.toNat < 16 := by
  rw [IntOp.cmpi_sge] at h0
  rw [IntOp.cmpi_slt] at h1
  have e0 : (0#32 : BitVec 32).toInt = 0 := by decide
  have e1 : (16#32 : BitVec 32).toInt = 16 := by decide
  rw [e0] at h0; rw [e1] at h1
  have := BitVec.toInt_eq_toNat_cond b
  split at this <;> omega

section
variable [Facts]
variable {F : FTy → Type} [FloatOps F] (x : FVec F S32768x32 .f32) (ids : IVec S32768 32) (w : FVec F S1x32 .f32)

/-- Every segment's name is below sixteen. -/
theorem range (h : (fn x ids w).1 = fun _ => 1#1) (i : S32768.Idx) : (ids i).toNat < 16 := by
  obtain ⟨h0, h1⟩ := IntOp.andi_eq_one.1 (congrFun h i)
  exact small h0 h1

instance : Subsingleton S_.Idx := ⟨fun a b => funext fun (k : Fin 0) => k.elim0⟩

theorem all_i (v : IVec S32767 1) (h : Host.reduce IntOp.andi v (constantI S_ 1 1#1) Facts.reducesTo_S32767_S_d0 Facts.h_S_ = fun _ => 1#1) (i) : v i = 1#1 :=
  Host.reduce_andi_all _ _ _ _ (Shape.Idx.first Facts.h_S_) (congrFun h _) i
def ordI : IVec S32767 1 := cmpi .sle (extractStridedSlice S32767 ![0] ids Facts.slices_S32768_S32767_0) (extractStridedSlice S32767 ![1] ids Facts.slices_S32768_S32767_1)
/-- The names are in order. -/
theorem sorted (h : (fn x ids w).2.1 = fun _ => 1#1) (i : S32767.Idx) : ordI ids i = 1#1 := by
  unfold fn at h
  dsimp only at h
  unfold ordI
  exact all_i _ h i
theorem all_x (v : IVec S32768x32 1) (h : Host.reduce IntOp.andi v (constantI S_ 1 1#1) Facts.reducesTo_S32768x32_S_d0_1 Facts.h_S_ = fun _ => 1#1) (i) : v i = 1#1 :=
  Host.reduce_andi_all _ _ _ _ (Shape.Idx.first Facts.h_S_) (congrFun h _) i
theorem all_w (v : IVec S1x32 1) (h : Host.reduce IntOp.andi v (constantI S_ 1 1#1) Facts.reducesTo_S1x32_S_d0_1 Facts.h_S_ = fun _ => 1#1) (i) : v i = 1#1 :=
  Host.reduce_andi_all _ _ _ _ (Shape.Idx.first Facts.h_S_) (congrFun h _) i

/-- The items' attributes are finite. -/
theorem finite_x (h : (fn x ids w).2.2.1 = fun _ => 1#1) (i : S32768x32.Idx) :
    FloatOps.cmpf .olt (FloatOps.hostAbsf (x i)) (FloatOps.ofBits (F := F) .f32 0x7F800000#32) = 1#1 := by
  unfold fn at h
  dsimp only at h
  have := all_x _ h i
  exact this
/-- The weights are finite. -/
theorem finite_w (h : (fn x ids w).2.2.2 = fun _ => 1#1) (i : S1x32.Idx) :
    FloatOps.cmpf .olt (FloatOps.hostAbsf (w i)) (FloatOps.ofBits (F := F) .f32 0x7F800000#32) = 1#1 := by
  unfold fn at h
  dsimp only at h
  have := all_w _ h i
  exact this
end

instance facts : Cert.Pre_finite_sorted_ids.Facts where
  bcast_S_S32768 := by decide
  slices_S32768_S32767_0 := by decide
  slices_S32768_S32767_1 := by decide
  reducesTo_S32767_S_d0 := by decide
  h_S_ := by decide
  bcast_S_S32768x32 := by decide
  reducesTo_S32768x32_S_d0_1 := by decide
  bcast_S_S1x32 := by decide
  reducesTo_S1x32_S_d0_1 := by decide

end Cert.Proof.Pre

end
-- ==== Proof.Frames.lean ====
module

public import proofs.«01_k».proof.Proof.Main
public import proofs.«01_k».proof.Proof.Pre
public import proofs.«01_k».proof.Defs
public import proofs.«01_k».proof.Proof.Gen.Kernel
public import proofs.«01_k».proof.Proof.Gen.ReferenceIdeal
public import proofs.«01_k».proof.Proof.Gen.ReferenceIdeal.Run

@[expose] public section

/-! # The frames -/

noncomputable section

namespace Cert.Proof

open Idealize.ShloMosaic Idealize.SL.Sem

/-- `Cert.quiescent_KernelIdeal`: the run, read at the arguments. -/
theorem frame_ideal : Cert.quiescent_KernelIdeal := fun m ρ hp =>
  (θ_run Cert.KernelIdeal.defs _ _).mono (fun _ h => ⟨fun c => ⟨(h.1 c).1, (h.1 c).2.1, (h.1 c).2.2.1⟩, h.2⟩)
    (Sc.run_all (F := Ideal) m ρ fun d k => Pre.range _ _ _ (hp d).1 _)

/-! The two printed kernels have one text: their bodies agree, case by case. -/

theorem defs₀_eq : Cert.Kernel.defs₀ (F := Bits) = Cert.KernelIdeal.defs₀ := by
  funext p ℓ a
  rcases p with _ | _ | _
  · match ℓ with
    | 0 => rfl
    | 1 => rfl
  · match ℓ with
    | 0 => rfl
    | 1 => rfl
  · match ℓ with
    | 0 => rfl
    | 1 => rfl

theorem defs_eq : Cert.Kernel.defs (F := Bits) = Cert.KernelIdeal.defs := by
  unfold Cert.Kernel.defs Cert.KernelIdeal.defs
  rw [defs₀_eq]
  rfl

/-- `Cert.quiescent_Kernel`: the same run, at the floats' bits. -/
theorem frame_kernel : Cert.quiescent_Kernel := fun m ρ hp => by
  rw [defs_eq]
  refine (θ_run Cert.KernelIdeal.defs _ _).mono ?_ (Sc.run_all (F := Bits) m ρ fun d k => Pre.range _ _ _ (hp d).1 _)
  exact fun _ h => ⟨fun c => ⟨(h.1 c).1, (h.1 c).2.1, (h.1 c).2.2.1⟩, h.2⟩

/-- `Cert.quiescent_ReferenceIdeal`: the reference's run, read at the arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Util.lean ====
module

public import proofs.«01_k».proof.Proof.Main
public import Idealize.ShloMosaic.Lib.Pipeline.ValueKit
public import Idealize.ShloMosaic.Lib.Pointwise
public import Idealize.ShloMosaic.PureOps.Ideal

@[expose] public section

/-! # The utilities the TensorCore call computes -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

/-- An item's utility: its attributes weighted, summed, and raised by the constant. -/
def utilAt (x : FVec Ideal S32768x32 .f32) (w : FVec Ideal S1x32 .f32) (k : Fin 32768) : EReal :=
  (∑ j : Fin 32, (x (ix2 k j) : EReal) * w (ix2 (0 : Fin 1) j)) + Ideal.ofBits .f32 0x40000000#32

/-- What the body computes of one block, read at an index. -/
theorem pay1_at (v0 : FVec Ideal S32x16384 .f32) (v2 : FVec Ideal S1x32 .f32) (i : S16384.Idx) :
    (k0_pay1 (F := Ideal) v0 v2 i : EReal) = (∑ j : Fin 32, (v0 (ix2 j (i 0)) : EReal) * v2 (ix2 (0 : Fin 1) j)) + Ideal.ofBits .f32 0x40000000#32 := by
  unfold k0_pay1
  pointwise

variable (m : (ℓ : Loc nD τ sig) → Buf (Elt Ideal) ℓ)

/-- A block of the attributes: the items from the block's first on. -/
theorem stgX_at (X : (d : Dev nD) → FVec Ideal S32x32768 .f32) (d : Dev nD) (t : Fin cfg0.N) (j : Fin 32) (y : Fin 16384) (k : Fin 32768) (hk : k.val = t.val * 16384 + y.val) :
    stgX (F := Ideal) d X t (ix2 j y) = X d (ix2 j k) := by
  unfold stgX
  blk_simp
  refine congrArg (X d) (funext fun a => Fin.ext ?_)
  have e : win0_0.index t 0 = 0 ∧ win0_0.index t 1 = t.val := by rcases fin_N0 t with rfl | rfl <;> decide +kernel
  match a with
  | ⟨0, _⟩ => blk_simp; rw [e.1]; omega
  | ⟨1, _⟩ => blk_simp; rw [e.2]; omega

theorem utilBuf_eq (d : Dev nD) : utilBuf m d = fun i : S32768.Idx =>
    utilAt (m ((SparseCore.T d : Thread nD τ).loc main_arg0)) (m ((SparseCore.T d : Thread nD τ).loc main_arg2)) (i 0) := by
  unfold utilBuf uRes
  refine (dat d (xT m) (wOf m) (u0Of m)).arrAt_eq_of_covers 2 _ (by decide +kernel) fun t hf y => ?_
  have ha : (dat d (xT m) (wOf m) (u0Of m)).after 2 t = k0_pay1 (stgX d (xT m) t) (stgA d (wOf m) t0_0) := rfl
  rw [ha]
  blk_simp
  refine (pay1_at _ _ _).trans ?_
  unfold utilAt
  refine congrArg (· + _) (Finset.sum_congr rfl fun j _ => ?_)
  have e : win0_2.index t 0 = t.val := by rcases fin_N0 t with rfl | rfl <;> decide +kernel
  rw [stgX_at (xT m) d t j (y 0) (((win0_2.blk t).view.emb y) 0) (by blk_simp; rw [e])]
  have ew : stgA (F := Ideal) d (wOf m) t0_0 (ix2 (0 : Fin 1) j) = wOf m d (ix2 (0 : Fin 1) j) := by
    unfold stgA
    blk_simp
    refine congrArg (wOf m d) (funext fun a => Fin.ext ?_)
    have e : win0_1.index t0_0 0 = 0 ∧ win0_1.index t0_0 1 = 0 := by decide +kernel
    match a with
    | ⟨0, _⟩ => blk_simp; rw [e.1]; omega
    | ⟨1, _⟩ => blk_simp; rw [e.2]; omega
  rw [ew]
  unfold xT wOf
  refine congrArg (· * _) ?_
  pointwise

end Cert.Proof.Sc

end
-- ==== Proof.Lanes.lean ====
module

public import proofs.«01_k».proof.Proof.Scatter
public import Idealize.ShloMosaic.Lib.IdealHost
public import Idealize.ShloMosaic.Lib.WordCmp

@[expose] public section

/-! # The lane chains over the extended reals

The program adds and compares sixteen lanes one after another. Over the extended reals each of these chains
is a finite sum or a finite maximum, and this module says which. -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

/-- Lane values over the extended reals. -/
abbrev LV : Type := FVec Ideal S16 .f32

theorem cut_lane {α : Type} (v : S16.Idx → α) (k : ℕ) (h) (h') :
    extractAt ![0] (extractStridedSlice (s := S16) S1 ![k] v h) h' = v (lane k) := by
  refine congrArg v (lane_ext ?_)
  have hk : k + 1 ≤ 16 := h.2 0
  change k + 0 = k % 16
  omega

theorem cut1 {α : Type} (w : S1.Idx → α) (k : ℕ) (v : S16.Idx → α) (h) (hw : w = extractStridedSlice (s := S16) S1 ![k] v h) (h') :
    extractAt ![0] w h' = v (lane k) := by subst hw; exact cut_lane v k h h'

theorem add_at (a b : LV) (x : S16.Idx) : addf a b x = ((a x + b x : EReal)) := rfl
theorem sub_at (a b : LV) (x : S16.Idx) : subf a b x = ((a x - b x : EReal)) := rfl
theorem mul_at (a b : LV) (x : S16.Idx) : mulf a b x = ((a x * b x : EReal)) := rfl
theorem max_at (a b : LV) (x : S16.Idx) : maximumf a b x = (max (a x) (b x) : EReal) := rfl
theorem sel_at {α : Type} (m : IVec S16 1) (a b : S16.Idx → α) (x : S16.Idx) : select m a b x = if m x = 1 then a x else b x := rfl
theorem bro_at {α : Type} (c : α) (x : S16.Idx) : broadcast S16 c x = c := rfl
theorem sadd (a b : Ideal .f32) : Scalar.addf a b = (a + b : EReal) := rfl
theorem smax (a b : Ideal .f32) : Scalar.maximumf a b = (max a b : EReal) := rfl

theorem bits_zero : (Scalar.ofBits .f32 0x00000000#32 : Ideal .f32) = (0 : EReal) := Ideal.ofBits_zero_f32
theorem bits_one : (Scalar.ofBits .f32 0x3F800000#32 : Ideal .f32) = (1 : EReal) := Ideal.ofBits_one_f32
theorem bits_bot : (Scalar.ofBits .f32 0xFF800000#32 : Ideal .f32) = (⊥ : EReal) := by
  change Ideal.ofBits .f32 0xFF800000#32 = ⊥
  simp [Ideal.ofBits, Ideal.ieee]

theorem bit_iff {p : Prop} [Decidable p] : BitVec.ofBool (decide p) = 1 ↔ p := by
  by_cases h : p <;> simp [h]

theorem ge_iff (k : ℕ) (hk : k < 16) (x : S16.Idx) : (cmpi .sge V1 (broadcast S16 (BitVec.ofNat 32 k)) : IVec S16 1) x = 1 ↔ k ≤ (x 0).val := by
  have hx := lane_lt x
  change IntOp.cmpi .sge (V1 x) (BitVec.ofNat 32 k) = 1 ↔ _
  rw [V1_apply, WordCmp.cmpi_sge_ofNat (by norm_num; omega) (by norm_num; omega), bit_iff]

theorem eqv_iff (a b : IVec S16 32) (x : S16.Idx) : (cmpi .eq a b : IVec S16 1) x = 1 ↔ a x = b x := by
  change BitVec.ofBool (a x == b x) = 1 ↔ _
  rw [show (a x == b x) = decide (a x = b x) from rfl, bit_iff]

theorem nev_iff (a b : IVec S16 32) (x : S16.Idx) : (cmpi .ne a b : IVec S16 1) x = 1 ↔ a x ≠ b x := by
  change BitVec.ofBool (a x != b x) = 1 ↔ _
  rw [show (a x != b x) = decide (a x ≠ b x) from (by simp [bne, BEq.beq]), bit_iff]

theorem v1_zero (x : S16.Idx) : V1 x = 0#32 ↔ (x 0).val = 0 := by
  have hx := lane_lt x
  rw [V1_apply]
  constructor
  · intro h
    have := congrArg BitVec.toNat h
    rw [BitVec.toNat_ofNat, Nat.mod_eq_of_lt (by omega)] at this
    exact this
  · intro h; rw [h]

/-! ## Sums -/

/-- The sum of a group, on every lane. -/
theorem totRow_eq (g : LV) (u : ℕ → Ideal .f32) (ib : ℕ → BitVec 32) (t : ℕ) (x : S16.Idx) :
    totRow g u ib t x = (∑ j ∈ Finset.range 16, (eRow g u ib t (lane j) : EReal)) := by
  unfold totRow eRow k1_pay53 k1_pay27 k1_pay26
  simp only [bro_at, sadd, cut_lane, Finset.sum_range_succ, Finset.sum_range_zero, zero_add]

theorem preRow_eq (v : LV) (x : S16.Idx) :
    preRow v x = (∑ j ∈ Finset.range 16, if j ≤ (x 0).val then (v (lane j) : EReal) else 0) := by
  unfold preRow k1_pay32 k1_pay31 k1_pay30 k1_pay29 k1_pay28
  simp (discharger := decide) only [bro_at, add_at, sel_at, bits_zero, cut_lane, ge_iff, Finset.sum_range_succ, Finset.sum_range_zero, zero_add, Nat.zero_le, if_true]

theorem cumRow_eq (e o : ℕ → Ideal .f32) (t : ℕ) (x : S16.Idx) :
    cumRow e o t x = (∑ j ∈ Finset.range 16, if j ≤ (x 0).val then (vec e (16 * t) (lane j) : EReal) else 0)
      + (o (BitVec.ofNat 32 t).toNat : EReal) := by
  unfold cumRow k1_pay57 k1_pay41 k1_pay40 k1_pay39 k1_pay38 k1_pay37 k1_pay36
  simp (discharger := decide) only [gat, bro_at, add_at, sel_at, bits_zero, cut_lane, ge_iff, Finset.sum_range_succ, Finset.sum_range_zero, zero_add, Nat.zero_le, if_true]

theorem carry_succ (T : ℕ → Ideal .f32) (t : ℕ) (x : S16.Idx) :
    carry T (t + 1) x = (carry T t x : EReal) + ∑ j ∈ Finset.range 16, (vec T (16 * t) (lane j) : EReal) := by
  rw [carry]
  unfold k1_pay56 k1_pay35
  simp only [bro_at, sadd, add_at, cut_lane, Finset.sum_range_succ, Finset.sum_range_zero, zero_add]

theorem carry_zero (T : ℕ → Ideal .f32) (x : S16.Idx) : carry T 0 x = (0 : EReal) := by
  rw [carry]; unfold k1_pay55; rw [bro_at, bits_zero]

theorem glbInv_eq (B : ℕ → Ideal .f32) (x : S16.Idx) :
    glbInv B x = Ideal.div 1 (∑ r ∈ Finset.range 16, (B (16 * r + (x 0).val) : EReal)) := by
  unfold glbInv k1_pay69 k1_pay68
  change Ideal.div (Scalar.ofBits .f32 0x3F800000#32 : Ideal .f32) _ = _
  rw [bits_one]
  refine congrArg _ ?_
  simp only [add_at, vec, Finset.sum_range_succ, Finset.sum_range_zero, zero_add, Nat.mul_zero, Nat.reduceMul]

theorem outRow_eq (r : LV) (e : ℕ → Ideal .f32) (ib : ℕ → BitVec 32) (t : ℕ) (x : S16.Idx) :
    outRow r e ib t x = (e (16 * t + (x 0).val) * r (lane (ib (16 * t + (x 0).val)).toNat) : EReal) := by
  unfold outRow k1_pay70
  rw [mul_at]
  rfl

/-! ## Maxima -/

/-- A finite maximum lies below a bound just when every one of its terms does. -/
theorem maxRow_le (a : LV × LV × LV × LV) (x : S16.Idx) (c : EReal) :
    (maxRow a x : EReal) ≤ c ↔ ∀ j < 16, (a.1 (lane j) : EReal) ≤ c ∧ (a.2.1 (lane j) : EReal) ≤ c ∧ (a.2.2.1 (lane j) : EReal) ≤ c
      ∧ (a.2.2.2 (lane j) : EReal) ≤ c := by
  have h : (maxRow a x : EReal) = (Finset.range 16).sup fun j => (k1_pay10 a.1 a.2.1 a.2.2.1 a.2.2.2 (lane j) : EReal) := by
    unfold maxRow k1_pay46 k1_pay12 k1_pay11
    simp only [bro_at, smax, cut_lane, Finset.range_add_one, Finset.sup_insert, Finset.range_zero, Finset.sup_empty]
    simp only [max_comm, max_left_comm, bot_le, sup_of_le_left, sup_of_le_right, max_assoc]
  rw [h, Finset.sup_le_iff]
  refine forall_congr' fun j => ?_
  rw [Finset.mem_range]
  refine imp_congr_right fun _ => ?_
  unfold k1_pay10
  rw [max_at, max_at, max_at, max_le_iff, max_le_iff, max_le_iff, _root_.and_assoc]

theorem topRow_le (v : LV) (x : S16.Idx) (c : EReal) : (topRow (F := Ideal) v x : EReal) ≤ c ↔ ∀ j ≤ (x 0).val, (v (lane j) : EReal) ≤ c := by
  have hx := lane_lt x
  have h : (topRow (F := Ideal) v x : EReal) ≤ c ↔ ∀ j < 16, (if j ≤ (x 0).val then (v (lane j) : EReal) else ⊥) ≤ c := by
    unfold topRow k1_pay65 k1_pay64 k1_pay63 k1_pay62 k1_pay61 k1_pay60 k1_pay59
    simp (discharger := decide) only [bro_at, max_at, sel_at, bits_bot, cut_lane, ge_iff, max_le_iff, Nat.forall_lt_succ_right, Nat.not_lt_zero, IsEmpty.forall_iff, implies_true, true_and, Nat.zero_le, if_true]
  rw [h]
  refine ⟨fun hh j hj => ?_, fun hh j _ => ?_⟩
  · have := hh j (by omega)
    rwa [if_pos hj] at this
  · split
    · exact hh j (by assumption)
    · exact bot_le

theorem glbMax_le (A : ℕ → Ideal .f32) (x : S16.Idx) (c : EReal) :
    (glbMax (F := Ideal) A x : EReal) ≤ c ↔ ∀ r < 16, (A (16 * r + (x 0).val) : EReal) ≤ c := by
  unfold glbMax k1_pay51 k1_pay50
  simp only [max_at, max_le_iff, vec, Nat.forall_lt_succ_right, Nat.not_lt_zero, IsEmpty.forall_iff, implies_true, true_and, Nat.mul_zero, Nat.reduceMul]

end Cert.Proof.Sc

end
-- ==== Proof.Prefix.lean ====
module

public import proofs.«01_k».proof.Proof.Lanes

@[expose] public section

/-! # Running sums, and where the segments end

Facts about finite sums and about sorted segment numbers, and the running sums of a tile: the sum of each
group, the sum before each group, and the sum up to each row. -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

/-! ## Finite sums -/

theorem sum_upTo (f : ℕ → EReal) {i : ℕ} (hi : i < 16) :
    (∑ j ∈ Finset.range 16, if j ≤ i then f j else 0) = ∑ j ∈ Finset.range (i + 1), f j := by
  rw [← Finset.sum_filter]
  refine Finset.sum_congr (Finset.ext fun j => ?_) fun _ _ => rfl
  rw [Finset.mem_filter, Finset.mem_range, Finset.mem_range]
  omega

theorem sum_blocks (f : ℕ → EReal) (m n : ℕ) :
    (∑ r ∈ Finset.range n, ∑ j ∈ Finset.range m, f (m * r + j)) = ∑ k ∈ Finset.range (m * n), f k := by
  induction n with
  | zero => simp
  | succ n ih => rw [Finset.sum_range_succ, ih, Nat.mul_succ, Finset.sum_range_add]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The segments of a sorted tile -/

/-- A tile's segment numbers: below sixteen, and in order. -/
structure Ordered (ib : ℕ → BitVec 32) (n : ℕ) : Prop where
  lt : ∀ k < n, (ib k).toNat < 16
  mono : ∀ k l, k ≤ l → l < n → (ib k).toNat ≤ (ib l).toNat

theorem exists_cut {ib : ℕ → BitVec 32} {n : ℕ} (h : Ordered ib n) (y : ℕ) : ∃ a ≤ n, ∀ k < n, ((ib k).toNat < y ↔ k < a) := by
  classical
  have hex : ∃ a, n ≤ a ∨ y ≤ (ib a).toNat := ⟨n, Or.inl (le_refl _)⟩
  refine ⟨Nat.find hex, Nat.find_min' hex (Or.inl (le_refl _)), fun k hk => ⟨fun hlt => ?_, fun hlt => ?_⟩⟩
  · by_contra hge
    rcases Nat.find_spec hex with h1 | h1
    · omega
    · have := h.mono _ k (Nat.le_of_not_lt hge) hk
      omega
  · have := Nat.find_min hex hlt
    omega

/-- Where each segment begins: the number of rows whose segment comes before it. -/
structure Cuts (ib : ℕ → BitVec 32) (n : ℕ) (A : ℕ → ℕ) : Prop where
  le : ∀ y, A y ≤ n
  lt_iff : ∀ y, ∀ k < n, ((ib k).toNat < y ↔ k < A y)

theorem exists_cuts {ib : ℕ → BitVec 32} {n : ℕ} (h : Ordered ib n) : ∃ A, Cuts ib n A := by
  choose A h1 h2 using exists_cut h
  exact ⟨A, h1, h2⟩

theorem Cuts.eq_iff {ib : ℕ → BitVec 32} {n : ℕ} {A : ℕ → ℕ} (h : Cuts ib n A) {y k : ℕ} (hk : k < n) :
    (ib k).toNat = y ↔ A y ≤ k ∧ k < A (y + 1) := by
  have h1 := h.lt_iff y k hk
  have h2 := h.lt_iff (y + 1) k hk
  omega

theorem Cuts.zero {ib : ℕ → BitVec 32} {n : ℕ} {A : ℕ → ℕ} (h : Cuts ib n A) : A 0 = 0 := by
  by_contra hne
  have h0 := h.le 0
  have := (h.lt_iff 0 0 (by omega)).mpr (by omega)
  omega

theorem Cuts.mono {ib : ℕ → BitVec 32} {n : ℕ} {A : ℕ → ℕ} (h : Cuts ib n A) {y z : ℕ} (hyz : y ≤ z) : A y ≤ A z := by
  by_contra hlt
  have hy := h.le y
  have h1 := h.lt_iff y (A z) (by omega)
  have h2 := h.lt_iff z (A z) (by omega)
  omega

/-- The last row of a segment is the one whose successor has another segment number. -/
theorem Cuts.end_iff {ib : ℕ → BitVec 32} {n : ℕ} {A : ℕ → ℕ} (h : Cuts ib n A) (hn : 16 ≤ (ib n).toNat) {y k : ℕ} (hy : y < 16) (hk : k < n) :
    (ib k ≠ ib (k + 1) ∧ (ib k).toNat = y) ↔ A y < A (y + 1) ∧ k + 1 = A (y + 1) := by
  have h1 := h.eq_iff (y := y) hk
  have hle := h.le (y + 1)
  constructor
  · rintro ⟨hne, hs⟩
    have h2 := h1.mp hs
    refine ⟨by omega, ?_⟩
    by_contra hne2
    have h3 := (h.eq_iff (y := y) (k := k + 1) (by omega)).mpr ⟨by omega, by omega⟩
    exact hne (BitVec.eq_of_toNat_eq (hs.trans h3.symm))
  · rintro ⟨hlt, he⟩
    have hs := h1.mpr ⟨by omega, by omega⟩
    refine ⟨fun heq => ?_, hs⟩
    have h4 : (ib (k + 1)).toNat = y := by rw [← heq]; exact hs
    by_cases hkn : k + 1 < n
    · have h5 := (h.eq_iff (y := y) hkn).mp h4
      omega
    · obtain rfl : k + 1 = n := by omega
      omega

/-! ## The running sums of a tile -/

/-- The exponential of row `k`. -/
def expAt (g : LV) (u : ℕ → Ideal .f32) (ib : ℕ → BitVec 32) (k : ℕ) : EReal := Ideal.exp ((u k : EReal) - g (lane (ib k).toNat))

theorem eRow_eq (g : LV) (u : ℕ → Ideal .f32) (ib : ℕ → BitVec 32) (t : ℕ) (x : S16.Idx) :
    (eRow g u ib t x : EReal) = expAt g u ib (16 * t + (x 0).val) := rfl

theorem eUpTo_eq (g : LV) (u : ℕ → Ideal .f32) (ib : ℕ → BitVec 32) {k : ℕ} (hk : k < 2048) :
    (eUpTo g u ib 128 k : EReal) = expAt g u ib k := by
  unfold eUpTo rowsUpTo
  rw [if_pos (by omega), eRow_eq, lane_val, Nat.div_add_mod]

theorem tot_eq (g : LV) (u : ℕ → Ideal .f32) (ib : ℕ → BitVec 32) (t : ℕ) :
    (tot g u ib t : EReal) = ∑ j ∈ Finset.range 16, expAt g u ib (16 * t + j) := by
  unfold tot
  rw [totRow_eq]
  refine Finset.sum_congr rfl fun j hj => ?_
  rw [eRow_eq, lane_val, Nat.mod_eq_of_lt (Finset.mem_range.mp hj)]

theorem vec_lane {α : Type} (T : ℕ → α) (o : ℕ) {j : ℕ} (hj : j < 16) : vec T o (lane j) = T (o + j) := by
  unfold vec
  rw [lane_val, Nat.mod_eq_of_lt hj]

theorem carry_eq (T : ℕ → Ideal .f32) (t : ℕ) (x : S16.Idx) : (carry T t x : EReal) = ∑ j ∈ Finset.range (16 * t), (T j : EReal) := by
  induction t with
  | zero => rw [carry_zero]; simp
  | succ t ih =>
    rw [carry_succ, ih, Nat.mul_succ, Finset.sum_range_add]
    refine congrArg _ (Finset.sum_congr rfl fun j hj => ?_)
    exact vec_lane T _ (Finset.mem_range.mp hj)

theorem pred_all : ∀ a : Fin 16, (IntOp.maxsi (IntOp.subi (BitVec.ofNat 32 a.val) 1#32) 0#32).toNat = a.val - 1 := by decide +kernel

theorem pred_eq (x : S16.Idx) : (k1_pay33 V1 x).toNat = (x 0).val - 1 := by
  have := pred_all ⟨(x 0).val, lane_lt x⟩
  rw [← V1_apply x] at this
  exact this

theorem pred_eq' (x : S16.Idx) : (k1_pay66 V1 x).toNat = (x 0).val - 1 := pred_eq x

theorem preRow_sum (v : LV) (x : S16.Idx) : (preRow (F := Ideal) v x : EReal) = ∑ j ∈ Finset.range ((x 0).val + 1), (v (lane j) : EReal) := by
  rw [preRow_eq]
  exact sum_upTo (fun j => (v (lane j) : EReal)) (lane_lt x)

theorem offRow_eq (T : ℕ → Ideal .f32) (t : ℕ) (x : S16.Idx) :
    (offRow T t x : EReal) = ∑ j ∈ Finset.range (16 * t + (x 0).val), (T j : EReal) := by
  have hx := lane_lt x
  unfold offRow k1_pay34
  rw [add_at, carry_eq, sel_at, bro_at, bits_zero, Finset.sum_range_add]
  refine congrArg _ ?_
  by_cases h0 : (x 0).val = 0
  · rw [if_pos ((eqv_iff _ _ _).mpr ((v1_zero x).mpr h0)), h0, Finset.sum_range_zero]
  · rw [if_neg fun h => h0 ((v1_zero x).mp ((eqv_iff _ _ _).mp h))]
    unfold gat onLanes
    rw [pred_eq, preRow_sum, lane_val, Nat.mod_eq_of_lt (by omega), Nat.sub_add_cancel (by omega)]
    exact Finset.sum_congr rfl fun j hj => vec_lane T _ (by have := Finset.mem_range.mp hj; omega)

theorem offs_eq (T : ℕ → Ideal .f32) (k : ℕ) : (offs T k : EReal) = ∑ j ∈ Finset.range k, (T j : EReal) := by
  unfold offs
  rw [offRow_eq, lane_val, Nat.div_add_mod]

/-- The running sum at a row is the sum of the exponentials up to and with that row. -/
theorem cumRow_sum (g : LV) (u : ℕ → Ideal .f32) (ib : ℕ → BitVec 32) {t : ℕ} (ht : t < 128) (x : S16.Idx) :
    (cumRow (eUpTo g u ib 128) (offs (tot g u ib)) t x : EReal) = ∑ k ∈ Finset.range (16 * t + (x 0).val + 1), expAt g u ib k := by
  have hx := lane_lt x
  have hT : (∑ j ∈ Finset.range t, (tot g u ib j : EReal)) = ∑ k ∈ Finset.range (16 * t), expAt g u ib k := by
    rw [← sum_blocks]
    exact Finset.sum_congr rfl fun j _ => tot_eq g u ib j
  rw [cumRow_eq, sum_upTo (fun j => (vec (eUpTo g u ib 128) (16 * t) (lane j) : EReal)) hx, BitVec.toNat_ofNat, Nat.mod_eq_of_lt (by omega), offs_eq,
    hT, Nat.add_assoc, Finset.sum_range_add _ (16 * t)]
  refine (add_comm (_ : EReal) _).trans (congrArg (HAdd.hAdd (_ : EReal)) (Finset.sum_congr rfl fun j hj => ?_))
  have hj := Finset.mem_range.mp hj
  rw [vec_lane _ _ (by omega), eUpTo_eq g u ib (by omega)]

end Cert.Proof.Sc

end
-- ==== Proof.SegSum.lean ====
module

public import proofs.«01_k».proof.Proof.Prefix

@[expose] public section

/-! # The segment sums of a tile

The tile keeps the running sum at the last row of each segment, takes the running maximum of these over the
segments, and subtracts. What it gets is the sum of the exponentials of each segment. -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

/-- The table of running sums: at a segment with rows, the running sum at its last row; otherwise nothing. -/
def lastSum (A : ℕ → ℕ) (C : ℕ → EReal) (y : ℕ) : EReal := if A y < A (y + 1) then C (A (y + 1)) else 0

theorem cumTab_eq {g : LV} {u : ℕ → Ideal .f32} {ib : ℕ → BitVec 32} {A : ℕ → ℕ} (ho : Ordered ib 2048) (hA : Cuts ib 2048 A)
    (hl : 16 ≤ (ib 2048).toNat) (t : ℕ) (ht : t ≤ 128) (x : S16.Idx) :
    (cumTab (eUpTo g u ib 128) (offs (tot g u ib)) ib t x : EReal)
      = if A (x 0).val < A ((x 0).val + 1) ∧ A ((x 0).val + 1) ≤ 16 * t then ∑ k ∈ Finset.range (A ((x 0).val + 1)), expAt g u ib k else 0 := by
  have hx := lane_lt x
  induction t with
  | zero =>
    rw [cumTab]
    unfold k1_pay52
    rw [bro_at, bits_zero, if_neg (by omega)]
  | succ t ih =>
    have hidx : ∀ y : S16.Idx, (vec ib (16 * t) y).toNat < 16 := fun y => ho.lt _ (by have := lane_lt y; omega)
    have hend : ∀ y : S16.Idx, (k1_pay58 (F := Ideal) (vec ib (16 * t)) (vec ib (16 * t + 1)) y = 1 ∧ (x 0).val = (vec ib (16 * t) y).toNat)
        ↔ A (x 0).val < A ((x 0).val + 1) ∧ 16 * t + (y 0).val + 1 = A ((x 0).val + 1) := by
      intro y
      have hy := lane_lt y
      rw [← hA.end_iff hl hx (k := 16 * t + (y 0).val) (by omega)]
      unfold k1_pay58
      rw [nev_iff]
      unfold vec
      rw [show 16 * t + 1 + (y 0).val = 16 * t + (y 0).val + 1 by omega]
      exact and_congr_right fun _ => eq_comm
    rw [cumTab, sca, dif_pos (idx_lt hidx)]
    by_cases hh : A (x 0).val < A ((x 0).val + 1) ∧ 16 * t < A ((x 0).val + 1) ∧ A ((x 0).val + 1) ≤ 16 * t + 16
    · have hlv : (lane (A ((x 0).val + 1) - 1 - 16 * t) 0).val = A ((x 0).val + 1) - 1 - 16 * t := by rw [lane_val]; omega
      have hm := (hend (lane (A ((x 0).val + 1) - 1 - 16 * t))).mpr ⟨hh.1, by rw [hlv]; omega⟩
      rw [storeIdx_hit _ _ _ _ _ x (lane (A ((x 0).val + 1) - 1 - 16 * t)) hm.1 hm.2 (fun y hy hy' => lane_ext (by
          have := (hend y).mp ⟨hy, hy'⟩
          rw [hlv]; omega)),
        cumRow_sum g u ib (by omega), hlv, if_pos ⟨hh.1, by omega⟩,
        show 16 * t + (A ((x 0).val + 1) - 1 - 16 * t) + 1 = A ((x 0).val + 1) by omega]
    · rw [storeIdx_miss _ _ _ _ _ x (fun y hy hy' => hh (by
          have := (hend y).mp ⟨hy, hy'⟩
          have := lane_lt y
          omega)), ih (by omega)]
      by_cases h2 : A (x 0).val < A ((x 0).val + 1) ∧ A ((x 0).val + 1) ≤ 16 * t
      · rw [if_pos h2, if_pos (by omega)]
      · rw [if_neg h2, if_neg (by omega)]

theorem exists_top {A : ℕ → ℕ} {C : ℕ → EReal} (h0 : A 0 = 0) (hC : C 0 = 0) (hm : ∀ y, A y ≤ A (y + 1)) (i : ℕ) :
    ∃ j ≤ i, lastSum A C j = C (A (i + 1)) := by
  unfold lastSum
  induction i with
  | zero =>
    refine ⟨0, le_refl _, ?_⟩
    by_cases h : A 0 < A (0 + 1)
    · rw [if_pos h]
    · rw [if_neg h, show A (0 + 1) = 0 by omega, hC]
  | succ i ih =>
    by_cases h : A (i + 1) < A (i + 1 + 1)
    · exact ⟨i + 1, le_refl _, if_pos h⟩
    · obtain ⟨j, hj, e⟩ := ih
      refine ⟨j, by omega, ?_⟩
      rw [e, show A (i + 1 + 1) = A (i + 1) by have := hm (i + 1); omega]

theorem topRow_eq {c : LV} {A : ℕ → ℕ} {C : ℕ → EReal} (h0 : A 0 = 0) (hC : C 0 = 0) (hm : ∀ y, A y ≤ A (y + 1)) (hCm : ∀ a b, a ≤ b → C a ≤ C b)
    (hc : ∀ x : S16.Idx, (c x : EReal) = lastSum A C (x 0).val) (x : S16.Idx) : (topRow (F := Ideal) c x : EReal) = C (A ((x 0).val + 1)) := by
  have hx := lane_lt x
  have hmono : ∀ y z, y ≤ z → A y ≤ A z := fun y z h => monotone_nat_of_le_succ hm h
  refine le_antisymm ((topRow_le c x _).mpr fun j hj => ?_) ?_
  · rw [hc, lane_val, Nat.mod_eq_of_lt (by omega)]
    unfold lastSum
    split
    · exact hCm _ _ (hmono _ _ (by omega))
    · rw [← hC]; exact hCm _ _ (Nat.zero_le _)
  · obtain ⟨j, hj, e⟩ := exists_top h0 hC hm (x 0).val
    have := (topRow_le c x (topRow (F := Ideal) c x : EReal)).mp (le_refl _) j hj
    rw [hc, lane_val, Nat.mod_eq_of_lt (by omega), e] at this
    exact this

theorem diffs_at (c : LV) (x : S16.Idx) : (diffs (F := Ideal) c x : EReal)
    = if (c x : EReal) = 0 then 0 else (c x : EReal) - (if (x 0).val = 0 then 0 else (topRow (F := Ideal) c (lane ((x 0).val - 1)) : EReal)) := by
  unfold diffs k1_pay67
  have hz : (FloatOps.ofBits (F := Ideal) .f32 0x00000000#32 : EReal) = 0 := bits_zero
  rw [sel_at, sub_at, sel_at]
  change (if (cmpf .oeq c (broadcast S16 (FloatOps.ofBits (F := Ideal) .f32 0x00000000#32)) : IVec S16 1) x = 1 then (FloatOps.ofBits (F := Ideal) .f32 0x00000000#32 : EReal)
    else (c x : EReal) - (if (cmpi .eq V1 (broadcast S16 0#32) : IVec S16 1) x = 1 then (FloatOps.ofBits (F := Ideal) .f32 0x00000000#32 : EReal) else gat (onLanes (topRow c)) (k1_pay66 V1) x)) = _
  rw [hz]
  have h1 : (cmpf .oeq c (broadcast S16 (0 : EReal)) : IVec S16 1) x = 1 ↔ (c x : EReal) = 0 := bit_iff
  have h2 : (cmpi .eq V1 (broadcast S16 0#32) : IVec S16 1) x = 1 ↔ (x 0).val = 0 := (eqv_iff _ _ _).trans (v1_zero x)
  have h3 : (gat (onLanes (topRow (F := Ideal) c)) (k1_pay66 V1) x : EReal) = topRow (F := Ideal) c (lane ((x 0).val - 1)) := by
    unfold gat onLanes
    rw [pred_eq']
  rw [h3]
  simp only [h1, h2]

theorem diffs_sum {c : LV} {ib : ℕ → BitVec 32} {n : ℕ} {A : ℕ → ℕ} (hA : Cuts ib n A) {E : ℕ → EReal} {r : ℕ → ℝ} (hr0 : ∀ k, 0 ≤ r k)
    (hr : ∀ k < n, 0 < r k ∧ E k = (r k : EReal))
    (hc : ∀ x : S16.Idx, (c x : EReal) = lastSum A (fun a => ((∑ k ∈ Finset.range a, r k : ℝ) : EReal)) (x 0).val) (x : S16.Idx) :
    (diffs (F := Ideal) c x : EReal) = ∑ k ∈ Finset.range n, if (ib k).toNat = (x 0).val then E k else 0 := by
  have hx := lane_lt x
  have hCm : ∀ a b : ℕ, a ≤ b → ((∑ k ∈ Finset.range a, r k : ℝ) : EReal) ≤ ((∑ k ∈ Finset.range b, r k : ℝ) : EReal) := fun a b hab =>
    EReal.coe_le_coe_iff.mpr (Finset.sum_le_sum_of_subset_of_nonneg (Finset.range_subset_range.mpr hab) fun k _ _ => hr0 k)
  have hC0 : ((∑ k ∈ Finset.range 0, r k : ℝ) : EReal) = 0 := by rw [Finset.sum_range_zero]; rfl
  have htop := topRow_eq (c := c) hA.zero hC0 (fun y => hA.mono (Nat.le_succ y)) hCm hc
  have hprev : (if (x 0).val = 0 then (0 : EReal) else (topRow (F := Ideal) c (lane ((x 0).val - 1)) : EReal))
      = ((∑ k ∈ Finset.range (A (x 0).val), r k : ℝ) : EReal) := by
    by_cases h : (x 0).val = 0
    · rw [if_pos h, h, hA.zero, hC0]
    · rw [if_neg h, htop, lane_val, Nat.mod_eq_of_lt (by omega), Nat.sub_add_cancel (by omega)]
  have hRHS : (∑ k ∈ Finset.range n, if (ib k).toNat = (x 0).val then E k else 0)
      = ((∑ k ∈ Finset.Ico (A (x 0).val) (A ((x 0).val + 1)), r k : ℝ) : EReal) := by
    rw [coe_sum, ← Finset.sum_filter]
    have hle := hA.le ((x 0).val + 1)
    refine Finset.sum_congr (Finset.ext fun k => ?_) fun k hk => ?_
    · rw [Finset.mem_filter, Finset.mem_range, Finset.mem_Ico]
      constructor
      · rintro ⟨h1, h2⟩; exact (hA.eq_iff h1).mp h2
      · intro h; exact ⟨by omega, (hA.eq_iff (by omega)).mpr h⟩
    · exact (hr k (by have := (Finset.mem_Ico.mp hk).2; omega)).2
  rw [diffs_at, hprev, hRHS, hc]
  unfold lastSum
  have hm := hA.mono (Nat.le_succ (x 0).val)
  by_cases h : A (x 0).val < A ((x 0).val + 1)
  · have hpos : (0 : ℝ) < ∑ k ∈ Finset.range (A ((x 0).val + 1)), r k :=
      Finset.sum_pos (fun k hk => (hr k (by have := Finset.mem_range.mp hk; have := hA.le ((x 0).val + 1); omega)).1)
        ⟨A (x 0).val, Finset.mem_range.mpr h⟩
    rw [if_pos h, if_neg (by rw [EReal.coe_eq_zero]; exact ne_of_gt hpos), ← EReal.coe_sub, Finset.sum_Ico_eq_sub _ hm]
  · rw [if_neg h, if_pos rfl, Finset.Ico_eq_empty (by omega), Finset.sum_empty]
    rfl

theorem exists_real {n : ℕ} {E : ℕ → EReal} (hE : ∀ k < n, ∃ r : ℝ, 0 < r ∧ E k = (r : EReal)) :
    ∃ r : ℕ → ℝ, (∀ k, 0 ≤ r k) ∧ ∀ k < n, 0 < r k ∧ E k = (r k : EReal) := by
  choose r hr using hE
  refine ⟨fun k => if h : k < n then r k h else 0, fun k => ?_, fun k hk => ?_⟩
  · dsimp only; split
    · exact le_of_lt (hr k _).1
    · exact le_refl _
  · dsimp only; rw [dif_pos hk]; exact hr k hk

/-- The tile's table of segment sums. -/
theorem locSum_eq {g : LV} {u : ℕ → Ideal .f32} {ib : ℕ → BitVec 32} (ho : Ordered ib 2048) (hl : 16 ≤ (ib 2048).toNat)
    (hE : ∀ k < 2048, ∃ r : ℝ, 0 < r ∧ expAt g u ib k = (r : EReal)) (x : S16.Idx) :
    (locSum g u ib x : EReal) = ∑ k ∈ Finset.range 2048, if (ib k).toNat = (x 0).val then expAt g u ib k else 0 := by
  obtain ⟨A, hA⟩ := exists_cuts ho
  obtain ⟨r, hr0, hr⟩ := exists_real hE
  refine diffs_sum hA hr0 hr (fun x => ?_) x
  have hle := hA.le ((x 0).val + 1)
  have hcoe : (∑ k ∈ Finset.range (A ((x 0).val + 1)), expAt g u ib k) = ((∑ k ∈ Finset.range (A ((x 0).val + 1)), r k : ℝ) : EReal) := by
    rw [coe_sum]
    exact Finset.sum_congr rfl fun k hk => (hr k (by have := Finset.mem_range.mp hk; omega)).2
  rw [cumTab_eq ho hA hl 128 (le_refl _), hcoe]
  unfold lastSum
  by_cases h : A (x 0).val < A ((x 0).val + 1)
  · rw [if_pos ⟨h, by omega⟩, if_pos h]
  · rw [if_neg (by omega), if_neg h]

end Cert.Proof.Sc

end
-- ==== Proof.MaxVal.lean ====
module

public import proofs.«01_k».proof.Proof.Prefix
public import proofs.«01_k».proof.Proof.Range
public import proofs.«01_k».proof.Proof.LoopMax

@[expose] public section

/-! # The segment maxima

Over the extended reals each tile's table holds, for every segment, the maximum of the tile's scores in that
segment, and the table that the tiles agree on holds the maxima over all the rows. A maximum is described by
the bounds that lie above it. -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

/-! ## The lowest and the highest segment number of a tile bound all of them -/

theorem flip_small : ∀ a : Fin 16, (BitVec.ofNat 32 a.val ^^^ 2147483648#32).toNat = a.val + 2147483648 := by decide +kernel

theorem flip_nat {b : BitVec 32} (h : b.toNat < 16) : (b ^^^ 2147483648#32).toNat = b.toNat + 2147483648 := by
  have := flip_small ⟨b.toNat, h⟩
  rwa [BitVec.ofNat_toNat, BitVec.setWidth_eq] at this

theorem foldl_min_le {α : Type} (v : α → BitVec 32) (l : List α) (r : BitVec 32) :
    (l.foldl (fun r k => ScanKind.min.step r (v k)) r).toNat ≤ r.toNat := by
  induction l generalizing r with
  | nil => exact le_refl _
  | cons a t ih =>
    rw [List.foldl_cons]
    refine (ih _).trans ?_
    show (IntOp.minui r (v a)).toNat ≤ _
    unfold IntOp.minui
    split
    · exact le_refl _
    · rename_i h
      rw [BitVec.ult] at h
      simpa using h

theorem foldl_max_ge {α : Type} (v : α → BitVec 32) (l : List α) (r : BitVec 32) :
    r.toNat ≤ (l.foldl (fun r k => ScanKind.max.step r (v k)) r).toNat
      ∧ ∀ k ∈ l, (v k).toNat ≤ (l.foldl (fun r k => ScanKind.max.step r (v k)) r).toNat := by
  induction l generalizing r with
  | nil => exact ⟨le_refl _, fun k hk => by cases hk⟩
  | cons a t ih =>
    rw [List.foldl_cons]
    have hs : r.toNat ≤ (ScanKind.max.step r (v a)).toNat ∧ (v a).toNat ≤ (ScanKind.max.step r (v a)).toNat := by
      show r.toNat ≤ (IntOp.maxui r (v a)).toNat ∧ (v a).toNat ≤ (IntOp.maxui r (v a)).toNat
      unfold IntOp.maxui
      split
      · rename_i h
        rw [BitVec.ult] at h
        exact ⟨le_refl _, by simpa using le_of_lt (of_decide_eq_true h)⟩
      · rename_i h
        rw [BitVec.ult] at h
        exact ⟨by simpa using h, le_refl _⟩
    refine ⟨hs.1.trans (ih _).1, fun k hk => ?_⟩
    rcases List.mem_cons.mp hk with rfl | hk
    · exact hs.2.trans (ih _).1
    · exact (ih _).2 k hk

theorem lo_le {ib : ℕ → BitVec 32} (h : Ordered ib 2048) : ∀ k < 2048, (lo Ideal ib).toNat ≤ (ib k).toNat := by
  intro k hk
  refine le_trans ?_ (h.mono 0 k (Nat.zero_le _) hk)
  have h16 := lo_lt Ideal h.lt
  have h1 : ((lo Ideal ib) ^^^ 2147483648#32).toNat ≤ (ib 0 ^^^ 2147483648#32).toNat := by
    unfold lo k1_pay44 extractAt
    show ((_ ^^^ 2147483648#32) ^^^ 2147483648#32).toNat ≤ _
    rw [flip_twice]
    exact foldl_min_le _ _ _
  rw [flip_nat h16, flip_nat (h.lt 0 (by decide))] at h1
  omega

theorem le_hi {ib : ℕ → BitVec 32} (h : Ordered ib 2048) : ∀ k < 2048, (ib k).toNat ≤ (hi Ideal ib).toNat := by
  intro k hk
  refine le_trans (h.mono k 2047 (by omega) (by decide)) ?_
  have h16 := hi_lt Ideal h.lt
  have h1 : (ib 2047 ^^^ 2147483648#32).toNat ≤ ((hi Ideal ib) ^^^ 2147483648#32).toNat := by
    unfold hi k1_pay45 extractAt
    show _ ≤ ((_ ^^^ 2147483648#32) ^^^ 2147483648#32).toNat
    rw [flip_twice]
    exact (foldl_max_ge (fun k : Fin 16 => xori (vec ib 2032) (broadcast S16 2147483648#32) (Shape.ofLane k)) _ _).2 15
      (List.mem_filter.mpr ⟨List.mem_finRange _, rfl⟩)
  rw [flip_nat h16, flip_nat (h.lt 2047 (by decide))] at h1
  omega

/-! ## The maximum of one segment of a tile -/

theorem acc_le (u : ℕ → Ideal .f32) (ib : ℕ → BitVec 32) (s : BitVec 32) (c : EReal) (x : S16.Idx) (t : ℕ) :
    (((maxAcc u ib s t).1 x : EReal) ≤ c ↔ ∀ i < t, ib (64 * i + (x 0).val) = s → (u (64 * i + (x 0).val) : EReal) ≤ c)
    ∧ (((maxAcc u ib s t).2.1 x : EReal) ≤ c ↔ ∀ i < t, ib (64 * i + 16 + (x 0).val) = s → (u (64 * i + 16 + (x 0).val) : EReal) ≤ c)
    ∧ (((maxAcc u ib s t).2.2.1 x : EReal) ≤ c ↔ ∀ i < t, ib (64 * i + 32 + (x 0).val) = s → (u (64 * i + 32 + (x 0).val) : EReal) ≤ c)
    ∧ (((maxAcc u ib s t).2.2.2 x : EReal) ≤ c ↔ ∀ i < t, ib (64 * i + 48 + (x 0).val) = s → (u (64 * i + 48 + (x 0).val) : EReal) ≤ c) := by
  have hsel : ∀ o : ℕ, (select (cmpi .eq (vec ib o) (broadcast S16 s)) (vec u o) (broadcast S16 (Scalar.ofBits .f32 0xFF800000#32 : Ideal .f32)) x : EReal) ≤ c
      ↔ (ib (o + (x 0).val) = s → (u (o + (x 0).val) : EReal) ≤ c) := by
    intro o
    rw [sel_at, bro_at, bits_bot]
    by_cases hh : ib (o + (x 0).val) = s
    · rw [if_pos ((eqv_iff _ _ _).mpr hh)]
      exact ⟨fun h _ => h, fun h => h hh⟩
    · rw [if_neg fun h => hh ((eqv_iff _ _ _).mp h)]
      exact ⟨fun _ h => absurd h hh, fun _ => bot_le⟩
  have hz : (broadcast S16 (Scalar.ofBits .f32 0xFF800000#32 : Ideal .f32) x : EReal) ≤ c := by
    rw [bro_at, bits_bot]; exact bot_le
  induction t with
  | zero =>
    refine ⟨⟨fun _ i hi => absurd hi (Nat.not_lt_zero _), fun _ => hz⟩, ⟨fun _ i hi => absurd hi (Nat.not_lt_zero _), fun _ => hz⟩,
      ⟨fun _ i hi => absurd hi (Nat.not_lt_zero _), fun _ => hz⟩, ⟨fun _ i hi => absurd hi (Nat.not_lt_zero _), fun _ => hz⟩⟩
  | succ t ih =>
    have step : ∀ (a : LV) (o : ℕ) (P : ℕ → Prop), ((a x : EReal) ≤ c ↔ ∀ i < t, P i) →
        (P t ↔ (ib (o + (x 0).val) = s → (u (o + (x 0).val) : EReal) ≤ c)) →
        ((maximumf a (select (cmpi .eq (vec ib o) (broadcast S16 s)) (vec u o) (broadcast S16 (Scalar.ofBits .f32 0xFF800000#32 : Ideal .f32))) x : EReal) ≤ c
          ↔ ∀ i < t + 1, P i) := by
      intro a o P ha hP
      rw [max_at, max_le_iff, hsel, ← hP, ha, Nat.forall_lt_succ_right]
    exact ⟨step _ _ _ ih.1 Iff.rfl, step _ _ _ ih.2.1 Iff.rfl, step _ _ _ ih.2.2.1 Iff.rfl, step _ _ _ ih.2.2.2 Iff.rfl⟩

theorem segRow_le (u : ℕ → Ideal .f32) (ib : ℕ → BitVec 32) (s : BitVec 32) (c : EReal) (x : S16.Idx) :
    (maxRow (maxAcc u ib s 32) x : EReal) ≤ c ↔ ∀ k < 2048, ib k = s → (u k : EReal) ≤ c := by
  rw [maxRow_le]
  constructor
  · intro h k hk hs
    obtain ⟨h1, h2, h3, h4⟩ := h (k % 16) (by omega)
    rw [(acc_le u ib s c _ 32).1] at h1
    rw [(acc_le u ib s c _ 32).2.1] at h2
    rw [(acc_le u ib s c _ 32).2.2.1] at h3
    rw [(acc_le u ib s c _ 32).2.2.2] at h4
    have hl : (lane (k % 16) 0).val = k % 16 := by rw [lane_val]; omega
    rw [hl] at h1 h2 h3 h4
    have hc : k % 64 / 16 = 0 ∨ k % 64 / 16 = 1 ∨ k % 64 / 16 = 2 ∨ k % 64 / 16 = 3 := by omega
    rcases hc with hc | hc | hc | hc
    · have e : 64 * (k / 64) + k % 16 = k := by omega
      have := h1 (k / 64) (by omega)
      rw [e] at this; exact this hs
    · have e : 64 * (k / 64) + 16 + k % 16 = k := by omega
      have := h2 (k / 64) (by omega)
      rw [e] at this; exact this hs
    · have e : 64 * (k / 64) + 32 + k % 16 = k := by omega
      have := h3 (k / 64) (by omega)
      rw [e] at this; exact this hs
    · have e : 64 * (k / 64) + 48 + k % 16 = k := by omega
      have := h4 (k / 64) (by omega)
      rw [e] at this; exact this hs
  · intro h j hj
    have hl : (lane j 0).val < 16 := lane_lt _
    exact ⟨(acc_le u ib s c _ 32).1.mpr fun i hi => h _ (by omega), (acc_le u ib s c _ 32).2.1.mpr fun i hi => h _ (by omega),
      (acc_le u ib s c _ 32).2.2.1.mpr fun i hi => h _ (by omega), (acc_le u ib s c _ 32).2.2.2.mpr fun i hi => h _ (by omega)⟩

/-! ## The table of a tile -/

theorem seg_all : ∀ a b : Fin 16, (k1_t1_loop (BitVec.ofNat 32 a.val) (BitVec.ofNat 32 b.val)).trips = b.val + 1 - a.val := by decide +kernel

theorem iv_all : ∀ a t : Fin 16, (Scf.iv (BitVec.ofNat 32 a.val) 1#32 t.val).toNat = a.val + t.val := by decide +kernel

theorem seg_trips {v12 v19 : BitVec 32} (h12 : v12.toNat < 16) (h19 : v19.toNat < 16) :
    (k1_t1_loop v12 v19).trips = v19.toNat + 1 - v12.toNat := by
  have := seg_all ⟨v12.toNat, h12⟩ ⟨v19.toNat, h19⟩
  rwa [BitVec.ofNat_toNat, BitVec.setWidth_eq, BitVec.ofNat_toNat, BitVec.setWidth_eq] at this

theorem iv_nat {v12 : BitVec 32} (h12 : v12.toNat < 16) {t : ℕ} (ht : t < 16) : (Scf.iv v12 1#32 t).toNat = v12.toNat + t := by
  have := iv_all ⟨v12.toNat, h12⟩ ⟨t, ht⟩
  rwa [BitVec.ofNat_toNat, BitVec.setWidth_eq] at this

theorem maxTab_le (u : ℕ → Ideal .f32) (ib : ℕ → BitVec 32) (h16 : (lo Ideal ib).toNat < 16) (c : EReal) (x : S16.Idx) (t : ℕ)
    (ht : (lo Ideal ib).toNat + t ≤ 16) :
    (maxTab u ib t x : EReal) ≤ c ↔ ∀ k < 2048, (ib k).toNat = (x 0).val → (lo Ideal ib).toNat ≤ (x 0).val →
      (x 0).val < (lo Ideal ib).toNat + t → (u k : EReal) ≤ c := by
  induction t with
  | zero =>
    refine ⟨fun _ k _ _ h1 h2 => by omega, fun _ => ?_⟩
    rw [maxTab]
    unfold k1_pay43
    rw [bro_at, bits_bot]
    exact bot_le
  | succ t ih =>
    have hiv := iv_nat h16 (t := t) (by omega)
    rw [maxTab, sca, dif_pos (idx_lt fun y => by rw [bro_at, hiv]; omega)]
    by_cases hx : (x 0).val = (lo Ideal ib).toNat + t
    · rw [storeIdx_hit _ _ _ _ _ x (lane 0) ((first_lane (m := k1_pay47 V1) rfl _).mpr rfl) (by rw [bro_at, hiv]; exact hx)
        (fun y hy _ => (first_lane (m := k1_pay47 V1) rfl _).mp hy), segRow_le]
      refine forall_congr' fun k => imp_congr_right fun _ => ⟨fun h hk _ _ => h (BitVec.eq_of_toNat_eq (by rw [hiv, hk, hx])), fun h hk => h ?_ ?_ ?_⟩
      · rw [hk, hiv, hx]
      · omega
      · omega
    · rw [storeIdx_miss _ _ _ _ _ x (fun y _ => by rw [bro_at, hiv]; exact hx), ih (by omega)]
      refine forall_congr' fun k => imp_congr_right fun _ => imp_congr_right fun _ => imp_congr_right fun _ => ⟨fun h h2 => h (by omega), fun h h2 => h (by omega)⟩

/-- The tile's table: the maximum of the tile's scores in each segment. -/
theorem locMax_le {u : ℕ → Ideal .f32} {ib : ℕ → BitVec 32} (h : Ordered ib 2048) (c : EReal) (x : S16.Idx) :
    (locMax u ib x : EReal) ≤ c ↔ ∀ k < 2048, (ib k).toNat = (x 0).val → (u k : EReal) ≤ c := by
  have h16 := lo_lt Ideal h.lt
  have g16 := hi_lt Ideal h.lt
  unfold locMax
  rw [seg_trips h16 g16, maxTab_le u ib h16 c x _ (by omega)]
  refine forall_congr' fun k => imp_congr_right fun hk => imp_congr_right fun hs => ?_
  have h1 := lo_le h k hk
  have h2 := le_hi h k hk
  exact ⟨fun hh => hh (by omega) (by omega), fun hh _ _ => hh⟩

/-! ## All the tiles -/

theorem ordered_tile {I : ℕ → BitVec 32} (h : Ordered I 32768) {j : ℕ} (hj : j < 16) : Ordered (ibOf I j) 2048 where
  lt k hk := by
    unfold ibOf
    rw [if_neg (by omega)]
    exact h.lt _ (by omega)
  mono k l hkl hl := by
    unfold ibOf
    rw [if_neg (by omega), if_neg (by omega)]
    exact h.mono _ _ (by omega) (by omega)

/-- The agreed table: the maximum of all the scores in each segment. -/
theorem agreed_le {U : ℕ → Ideal .f32} {I : ℕ → BitVec 32} (h : Ordered I 32768) (c : EReal) (x : S16.Idx) :
    (glbMax (tabMax U I) x : EReal) ≤ c ↔ ∀ k < 32768, (I k).toNat = (x 0).val → (U k : EReal) ≤ c := by
  rw [glbMax_le]
  have hx := lane_lt x
  have hr : ∀ r < 16, ((tabMax U I (16 * r + (x 0).val) : EReal) ≤ c ↔
      ∀ k < 2048, (I (2048 * r + k)).toNat = (x 0).val → (U (2048 * r + k) : EReal) ≤ c) := by
    intro r hr
    unfold tabMax
    have e1 : (16 * r + (x 0).val) / 16 = r := by omega
    have e2 : lane (16 * r + (x 0).val) = x := lane_ext (by rw [lane_val]; omega)
    rw [e1, e2, locMax_le (ordered_tile h hr)]
    refine forall_congr' fun k => imp_congr_right fun hk => ?_
    unfold ibOf uOf
    rw [if_neg (by omega)]
  constructor
  · intro hh k hk hs
    have := (hr (k / 2048) (by omega)).mp (hh _ (by omega)) (k % 2048) (by omega)
    rw [show 2048 * (k / 2048) + k % 2048 = k by omega] at this
    exact this hs
  · intro hh r hr'
    exact (hr r hr').mpr fun k hk hs => hh _ (by omega) hs

end Cert.Proof.Sc

end
-- ==== Proof.OutVal.lean ====
module

public import proofs.«01_k».proof.Proof.SegSum
public import proofs.«01_k».proof.Proof.MaxVal

@[expose] public section

/-! # The result of the SparseCore call

The result at a row is the exponential of its score less the maximum of its segment, divided by the sum of
these exponentials over its segment. -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

/-- The segment maxima that the tiles agree on. -/
def segMax (U : ℕ → Ideal .f32) (I : ℕ → BitVec 32) : LV := glbMax (tabMax U I)

/-- The sum of the exponentials of segment `s`. -/
def segTotal (U : ℕ → Ideal .f32) (I : ℕ → BitVec 32) (s : ℕ) : EReal :=
  ∑ k ∈ Finset.range 32768, if (I k).toNat = s then expAt (segMax U I) U I k else 0

/-- The scores of all the rows are numbers. -/
def Finite (U : ℕ → Ideal .f32) : Prop := ∀ k < 32768, ∃ r : ℝ, (U k : EReal) = (r : EReal)

theorem segMax_le {U : ℕ → Ideal .f32} {I : ℕ → BitVec 32} (h : Ordered I 32768) (c : EReal) (x : S16.Idx) :
    (segMax U I x : EReal) ≤ c ↔ ∀ k < 32768, (I k).toNat = (x 0).val → (U k : EReal) ≤ c := agreed_le h c x

theorem finite_bound {U : ℕ → Ideal .f32} (hU : Finite U) : ∃ B : ℝ, ∀ k < 32768, (U k : EReal) ≤ (B : EReal) := by
  obtain ⟨B, hB⟩ := ((Finset.range 32768).image fun k => (U k : EReal).toReal).exists_le
  refine ⟨B, fun k hk => ?_⟩
  have h1 := hB _ (Finset.mem_image.mpr ⟨k, Finset.mem_range.mpr hk, rfl⟩)
  obtain ⟨r, hr⟩ := hU k hk
  rw [hr] at h1 ⊢
  exact EReal.coe_le_coe_iff.mpr h1

/-- The maximum of a segment that has a row is a number. -/
theorem segMax_real {U : ℕ → Ideal .f32} {I : ℕ → BitVec 32} (h : Ordered I 32768) (hU : Finite U) {x : S16.Idx} {k : ℕ} (hk : k < 32768)
    (hx : (I k).toNat = (x 0).val) : ∃ r : ℝ, (segMax U I x : EReal) = (r : EReal) := by
  obtain ⟨B, hB⟩ := finite_bound hU
  obtain ⟨r, hr⟩ := hU k hk
  have h1 : (segMax U I x : EReal) ≤ B := (segMax_le h _ x).mpr fun k hk _ => hB k hk
  have h2 : (U k : EReal) ≤ segMax U I x := (segMax_le h _ x).mp (le_refl _) k hk hx
  rw [hr] at h2
  exact ⟨_, (EReal.coe_toReal (ne_of_lt (lt_of_le_of_lt h1 (EReal.coe_lt_top B))) (ne_of_gt (lt_of_lt_of_le (EReal.bot_lt_coe r) h2))).symm⟩

theorem lane_of_lt {a : ℕ} (h : a < 16) : (lane a 0).val = a := by rw [lane_val, Nat.mod_eq_of_lt h]

/-- The exponential at a row is a positive number. -/
theorem expAt_real {U : ℕ → Ideal .f32} {I : ℕ → BitVec 32} (h : Ordered I 32768) (hU : Finite U) {k : ℕ} (hk : k < 32768) :
    ∃ r : ℝ, 0 < r ∧ expAt (segMax U I) U I k = (r : EReal) := by
  obtain ⟨r, hr⟩ := hU k hk
  obtain ⟨b, hb⟩ := segMax_real h hU (x := lane (I k).toNat) hk (lane_of_lt (h.lt k hk)).symm
  refine ⟨Real.exp (r - b), Real.exp_pos _, ?_⟩
  unfold expAt
  rw [hr, hb, ← EReal.coe_sub]
  rfl

theorem expAt_tile (g : LV) (U : ℕ → Ideal .f32) (I : ℕ → BitVec 32) (j : ℕ) {k : ℕ} (hk : k < 2048) :
    expAt g (uOf U j) (ibOf I j) k = expAt g U I (2048 * j + k) := by
  unfold expAt uOf ibOf
  rw [if_neg (by omega)]

theorem tabSum_eq {U : ℕ → Ideal .f32} {I : ℕ → BitVec 32} (h : Ordered I 32768) (hU : Finite U) {r : ℕ} (hr : r < 16) (x : S16.Idx) :
    (tabSum U I (16 * r + (x 0).val) : EReal)
      = ∑ k ∈ Finset.range 2048, if (I (2048 * r + k)).toNat = (x 0).val then expAt (segMax U I) U I (2048 * r + k) else 0 := by
  have hx := lane_lt x
  unfold tabSum
  have e1 : (16 * r + (x 0).val) / 16 = r := by omega
  have e2 : lane (16 * r + (x 0).val) = x := lane_ext (by rw [lane_val]; omega)
  have hl : 16 ≤ (ibOf I r 2048).toNat := by
    unfold ibOf
    rw [if_pos (le_refl _)]
    unfold k1_pay42
    rw [bro_at]
    decide
  rw [e1, e2]
  refine (locSum_eq (ordered_tile h hr) hl (fun k hk => ?_) x).trans (Finset.sum_congr rfl fun k hk => ?_)
  · rw [expAt_tile _ _ _ _ hk]
    exact expAt_real h hU (by omega)
  · have hk := Finset.mem_range.mp hk
    have hib : ibOf I r k = I (2048 * r + k) := by
      unfold ibOf
      rw [if_neg (by omega)]
    rw [hib]
    exact congrArg (fun z : EReal => if (I (2048 * r + k)).toNat = (x 0).val then z else 0) (expAt_tile _ _ _ _ hk)

theorem inverse_eq {U : ℕ → Ideal .f32} {I : ℕ → BitVec 32} (h : Ordered I 32768) (hU : Finite U) (x : S16.Idx) :
    (glbInv (tabSum U I) x : EReal) = Ideal.div 1 (segTotal U I (x 0).val) := by
  rw [glbInv_eq]
  refine congrArg _ ?_
  unfold segTotal
  rw [show (32768 : ℕ) = 2048 * 16 from rfl, ← sum_blocks (fun k => if (I k).toNat = (x 0).val then expAt (segMax U I) U I k else 0) 2048 16]
  exact Finset.sum_congr rfl fun r hr => tabSum_eq h hU (Finset.mem_range.mp hr) x

theorem segTotal_pos {U : ℕ → Ideal .f32} {I : ℕ → BitVec 32} (h : Ordered I 32768) (hU : Finite U) {k : ℕ} (hk : k < 32768) :
    0 < segTotal U I (I k).toNat := by
  have hpos : ∀ l < 32768, 0 < expAt (segMax U I) U I l := fun l hl => by
    obtain ⟨r, hr, e⟩ := expAt_real h hU hl
    rw [e]
    exact EReal.coe_pos.mpr hr
  have hle := Finset.single_le_sum (s := Finset.range 32768) (f := fun l => if (I l).toNat = (I k).toNat then expAt (segMax U I) U I l else 0)
    (fun l hl => by
      split
      · exact le_of_lt (hpos l (Finset.mem_range.mp hl))
      · exact le_refl _) (Finset.mem_range.mpr hk)
  rw [if_pos rfl] at hle
  exact lt_of_lt_of_le (hpos k hk) hle

/-- The result at row `k`. -/
theorem outAll_eq {U : ℕ → Ideal .f32} {I : ℕ → BitVec 32} (h : Ordered I 32768) (hU : Finite U) {k : ℕ} (hk : k < 32768) :
    (outAll U I k : EReal) = Ideal.div (expAt (segMax U I) U I k) (segTotal U I (I k).toNat) := by
  have hj : k % 2048 < 2048 := Nat.mod_lt _ (by decide)
  have hk16 : 16 * (k % 2048 / 16) + (lane (k % 2048) 0).val = k % 2048 := by rw [lane_val]; omega
  have hib : ibOf I (k / 2048) (k % 2048) = I k := by
    unfold ibOf
    rw [if_neg (by omega), Nat.div_add_mod]
  have he : expAt (segMax U I) (uOf U (k / 2048)) (ibOf I (k / 2048)) (k % 2048) = expAt (segMax U I) U I k := by
    rw [expAt_tile _ _ _ _ hj, Nat.div_add_mod]
  have hne := ne_of_gt (segTotal_pos h hU hk)
  unfold outAll outOf
  rw [outRow_eq, hk16, hib, eUpTo_eq _ _ _ hj, inverse_eq h hU, lane_of_lt (h.lt k hk)]
  refine (congrArg (fun z : EReal => z * Ideal.div 1 (segTotal U I (I k).toNat)) he).trans ?_
  unfold Ideal.div
  rw [if_neg hne, if_neg hne, one_mul]

end Cert.Proof.Sc

end
-- ==== Proof.Bounds.lean ====
module

public import proofs.«01_k».proof.Proof.Util
public import proofs.«01_k».proof.Proof.OutVal
public import proofs.«01_k».proof.Proof.Pre

@[expose] public section

/-! # What the preconditions give: ordered segments, finite utilities -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

theorem posOf_lt {n : ℕ} {α : Type} (hn : 0 < n) (f : (⟨1, ![n]⟩ : Shape).Idx → α) (k : Fin n) : posOf hn f k.val = f (ix1 k) :=
  congrArg f (funext fun (a : Fin 1) => by
    obtain rfl : a = 0 := Subsingleton.elim _ _
    exact Fin.ext (Nat.mod_eq_of_lt k.isLt))

/-- One name is at most the next. -/
theorem next_le (ids : IVec S32768 32) (hr : ∀ i, (ids i).toNat < 16) (h : ∀ i, Pre.ordI ids i = 1#1) (k : ℕ) (hk : k + 1 < 32768) :
    (ids (ix1 ⟨k, by omega⟩)).toNat ≤ (ids (ix1 ⟨k + 1, hk⟩)).toNat := by
  have e := h (ix1 ⟨k, by omega⟩)
  unfold Pre.ordI at e
  have e0 : extractStridedSlice Cert.Pre_finite_sorted_ids.S32767 ![0] ids Cert.Pre_finite_sorted_ids.Facts.slices_S32768_S32767_0 (ix1 ⟨k, by omega⟩) = ids (ix1 ⟨k, by omega⟩) := by
    pointwise
  have e1 : extractStridedSlice Cert.Pre_finite_sorted_ids.S32767 ![1] ids Cert.Pre_finite_sorted_ids.Facts.slices_S32768_S32767_1 (ix1 ⟨k, by omega⟩) = ids (ix1 ⟨k + 1, hk⟩) := by
    pointwise
    exact congrArg (fun a => ids (ix1 a)) (Fin.ext (Nat.add_comm 1 k))
  have e' : IntOp.cmpi .sle (ids (ix1 ⟨k, by omega⟩)) (ids (ix1 ⟨k + 1, hk⟩)) = 1#1 := by
    rw [← e0, ← e1]
    exact e
  rw [IntOp.cmpi_sle] at e'
  have a := hr (ix1 ⟨k, by omega⟩)
  have b := hr (ix1 ⟨k + 1, hk⟩)
  have ta := BitVec.toInt_eq_toNat_cond (ids (ix1 ⟨k, by omega⟩))
  have tb := BitVec.toInt_eq_toNat_cond (ids (ix1 ⟨k + 1, hk⟩))
  split at ta <;> split at tb <;> omega

theorem ordered_of (ids : IVec S32768 32) (hr : ∀ i, (ids i).toNat < 16) (h : ∀ i, Pre.ordI ids i = 1#1) :
    Ordered (posOf (n := 32768) (by decide) ids) 32768 where
  lt k _ := hr _
  mono k l hkl hl := by
    induction l, hkl using Nat.le_induction with
    | base => exact le_refl _
    | succ l hkl ih =>
      refine le_trans (ih (by omega)) ?_
      have := next_le ids hr h l hl
      rw [← posOf_lt (n := 32768) (by decide) ids, ← posOf_lt (n := 32768) (by decide) ids] at this
      exact this

/-- A number whose size is below infinity is a real one. -/
theorem real_of (y : EReal) (h : FloatOps.cmpf (F := Ideal) (φ := .f32) .olt (FloatOps.hostAbsf (F := Ideal) (φ := .f32) y) (FloatOps.ofBits (F := Ideal) .f32 0x7F800000#32) = 1#1) :
    ∃ r : ℝ, y = (r : EReal) := by
  have ht : FloatOps.ofBits (F := Ideal) .f32 0x7F800000#32 = (⊤ : EReal) := by
    show Ideal.ofBits .f32 0x7F800000#32 = ⊤
    simp [Ideal.ofBits, Ideal.ieee]
  rw [ht] at h
  have hlt : max y (-y) < (⊤ : EReal) := bit_iff.mp h
  have h1 : y ≠ ⊤ := fun e => by
    rw [e] at hlt
    simp at hlt
  have h2 : y ≠ ⊥ := fun e => by
    rw [e] at hlt
    simp at hlt
  exact ⟨y.toReal, (EReal.coe_toReal h1 h2).symm⟩

theorem utilAt_real (x : FVec Ideal S32768x32 .f32) (w : FVec Ideal S1x32 .f32) (hx : ∀ i, ∃ r : ℝ, (x i : EReal) = (r : EReal))
    (hw : ∀ i, ∃ r : ℝ, (w i : EReal) = (r : EReal)) (k : Fin 32768) : ∃ r : ℝ, utilAt x w k = (r : EReal) := by
  choose X hX using hx
  choose W hW using hw
  have h2 : ∃ b : ℝ, Ideal.ofBits .f32 0x40000000#32 = (b : EReal) := ⟨_, by simp [Ideal.ofBits, Ideal.ieee]; rfl⟩
  obtain ⟨b, hb⟩ := h2
  refine ⟨(∑ j : Fin 32, X (ix2 k j) * W (ix2 (0 : Fin 1) j)) + b, ?_⟩
  unfold utilAt
  rw [hb, EReal.coe_add]
  refine congrArg (· + (b : EReal)) ?_
  rw [coe_sum]
  exact Finset.sum_congr rfl fun j _ => by rw [hX, hW, EReal.coe_mul]

end Cert.Proof.Sc

end
-- ==== Proof.RefVal.lean ====
module

public import proofs.«01_k».proof.Proof.Gen.ReferenceIdeal
public import proofs.«01_k».proof.Proof.Gen.ReferenceIdeal.Run
public import Idealize.ShloMosaic.Lib.Pointwise
public import Idealize.ShloMosaic.Lib.KernelVsHost
public import Idealize.ShloMosaic.Lib.Routing.Ops
public import Idealize.ShloMosaic.Lib.Routing.OpsSet
public import Idealize.ShloMosaic.Lib.Routing.OpsPair
public import Idealize.ShloMosaic.Lib.WordCmp
public import Idealize.ShloMosaic.PureOps.Ideal

@[expose] public section

/-! # The reference's value, part by part -/

noncomputable section

namespace Cert.Proof.Ref

open Cert.ReferenceIdeal Cert.ReferenceIdeal.Gen
open Idealize.ShloMosaic Idealize.ShloMosaic.TcCoe

variable (x : FVec Ideal S32768x32 .f32) (ids : IVec S32768 32) (w : FVec Ideal S1x32 .f32)

/-- The utilities. -/
def util : FVec Ideal S32768 .f32 :=
  shapeCast S32768 (addf (Host.dotGeneral dot_S32768x32_S32x1_S32768x1_1_0_0_1_n_n none x (transpose S32x1 [1, 0] w transposes_S1x32_S32x1_1_0))
    (broadcastInDim S32768x1 ![] bcast_S_S32768x1 (constant S_ .f32 0x40000000#32))) shapeCasts_S32768x1_S32768

/-- The segment's number of each item, a negative one counted from the end. -/
def sel : IVec S32768x1 32 :=
  broadcastInDim S32768x1 ![0] bcast_S32768_S32768x1_0 (select (cmpi .slt ids (broadcastInDim S32768 ![] bcast_S_S32768 (constantI S_ 32 0#32)))
    (addi ids (broadcastInDim S32768 ![] bcast_S_S32768 (constantI S_ 32 16#32))) ids)

variable (u : FVec Ideal S32768 .f32)

/-- The utilities in the rows of their segments, −∞ elsewhere. -/
def masked : FVec Ideal S16x32768 .f32 :=
  select (cmpi .eq (broadcastInDim S16x32768 ![0, 1] bcast_S1x32768_S16x32768_0_1 (broadcastInDim S1x32768 ![1] bcast_S32768_S1x32768_1 ids))
      (broadcastInDim S16x32768 ![0, 1] bcast_S16x1_S16x32768_0_1 (broadcastInDim S16x1 ![0] bcast_S16_S16x1_0 (iotaInDim S16 32 0))))
    (broadcastInDim S16x32768 ![0, 1] bcast_S1x32768_S16x32768_0_1 (broadcastInDim S1x32768 ![1] bcast_S32768_S1x32768_1 u))
    (broadcastInDim S16x32768 ![] bcast_S_S16x32768 (id (constant S_ .f32 0xFF800000#32)))

/-- Each segment's greatest utility. -/
def maxes : FVec Ideal S16 .f32 :=
  Host.reduce FloatOps.maximumf (masked ids u) (constant S_ .f32 0xFF800000#32) reducesTo_S16x32768_S16_d1 h_S_

/-- The exponentials. -/
def exps : FVec Ideal S32768 .f32 :=
  Host.exp (subf u (Host.gather gather_S16_S32768x1_S32768_n_0_n_n_0_1_1 (maxes ids u) (sel ids)))

/-- Each segment's sum. -/
def totals (e : FVec Ideal S32768 .f32) : FVec Ideal S16 .f32 :=
  Host.scatterAdd scatter_S16_S32768x1_S32768_n_0_0_1 (broadcastInDim S16 ![] bcast_S_S16 (constant S_ .f32 0x00000000#32))
    (broadcastInDim S32768x1 ![0] bcast_S32768_S32768x1_0 ids) e

/-- The result. -/
def value (e : FVec Ideal S32768 .f32) : FVec Ideal S32768x1 .f32 :=
  broadcastInDim S32768x1 ![0] bcast_S32768_S32768x1_0
    (Host.divf e (Host.gather gather_S16_S32768x1_S32768_n_0_n_n_0_1_1 (totals ids e) (sel ids)))

theorem res_eq (m : (ℓ : Loc nD τ sig) → Buf (Elt Ideal) ℓ) (c : Dev nD) :
    Value.res_main_v34 m c = value (m ((c.tc : Thread nD τ).loc main_arg1))
      (exps (m ((c.tc : Thread nD τ).loc main_arg1)) (util (m ((c.tc : Thread nD τ).loc main_arg0)) (m ((c.tc : Thread nD τ).loc main_arg2)))) := rfl

theorem util_at (k : Fin 32768) :
    (util x w (ix1 k) : EReal) = (∑ j : Fin 32, (x (ix2 k j) : EReal) * w (ix2 (0 : Fin 1) j)) + Ideal.ofBits .f32 0x40000000#32 := by
  unfold util
  pointwise

variable (hr : ∀ k : Fin 32768, (ids (ix1 k)).toNat < 16)
include hr

theorem sel_at (k : Fin 32768) : sel ids (ix2 k (0 : Fin 1)) = BitVec.ofNat 32 (ids (ix1 k)).toNat := by
  unfold sel
  pointwise
  have h := hr k
  have h0 : IntOp.cmpi .slt (ids (ix1 k)) 0#32 ≠ 1 := fun e => by
    replace e : IntOp.cmpi .slt (ids (ix1 k)) 0#32 = 1#1 := e
    rw [IntOp.cmpi_slt, show (0#32 : BitVec 32).toInt = 0 by decide] at e
    have := BitVec.toInt_eq_toNat_cond (ids (ix1 k))
    split at this <;> omega
  unfold Scalar.select
  rw [if_neg h0, BitVec.ofNat_toNat, BitVec.setWidth_eq]

theorem take_at (M : FVec Ideal S16 .f32) (k : Fin 32768) :
    Host.gather gather_S16_S32768x1_S32768_n_0_n_n_0_1_1 M (sel ids) (ix1 k) = M (ix1 ⟨(ids (ix1 k)).toNat, hr k⟩) :=
  Routing.gather_take1 _ rfl rfl rfl rfl M (sel ids) k ⟨(ids (ix1 k)).toNat, hr k⟩ (sel_at ids hr k) (by decide)

theorem masked_at (s : Fin 16) (k : Fin 32768) :
    (masked ids u (ix2 s k) : EReal) = if (ids (ix1 k)).toNat = s.val then (u (ix1 k) : EReal) else ⊥ := by
  unfold masked
  pointwise
  have e : IntOp.cmpi .eq (ids (ix1 k)) (BitVec.ofNat 32 s.val) = 1 ↔ (ids (ix1 k)).toNat = s.val := by
    refine IntOp.cmpi_eq.trans ?_
    have hs := s.isLt
    constructor
    · intro h
      rw [h, BitVec.toNat_ofNat]
      omega
    · intro h
      rw [← h, BitVec.ofNat_toNat, BitVec.setWidth_eq]
  have hb : (constant (F := Ideal) S_ .f32 0xFF800000#32 ix0 : EReal) = ⊥ := by
    show Ideal.ofBits .f32 0xFF800000#32 = ⊥
    simp [Ideal.ofBits, Ideal.ieee]
  unfold Scalar.select
  by_cases h : (ids (ix1 k)).toNat = s.val
  · rw [if_pos (e.mpr h), if_pos h]
  · rw [if_neg fun h' => h (e.mp h'), if_neg h]
    exact hb

theorem maxes_le (s : Fin 16) (c : EReal) :
    (maxes ids u (ix1 s) : EReal) ≤ c ↔ ∀ k : Fin 32768, (ids (ix1 k)).toNat = s.val → (u (ix1 k) : EReal) ≤ c := by
  have hred : S16x32768.Reduces [1] S16 := by decide
  have hb : FloatOps.ofBits (F := Ideal) .f32 0xFF800000#32 = (⊥ : EReal) := by
    show Ideal.ofBits .f32 0xFF800000#32 = ⊥
    simp [Ideal.ofBits, Ideal.ieee]
  unfold maxes
  have e := (congrFun (hostReduce_maximumf_eq_multiReduction (masked ids u) 0xFF800000#32 reducesTo_S16x32768_S16_d1 h_S_ hred (.inl rfl) rfl) (ix1 s)).trans
    (Ideal.multiReduction_maximumf_single (masked ids u) 0xFF800000#32 hred (.inl rfl) rfl (ix1 s))
  refine (iff_of_eq (congrArg (fun z : EReal => z ≤ c) e)).trans ?_
  rw [Finset.fold_max_le, hb]
  have hl : ∀ k : Fin 32768, hred.lift (ix1 s) k = ix2 s k := fun k => funext fun a => Fin.ext (by
    match a with
    | ⟨0, _⟩ => rfl
    | ⟨1, _⟩ => rfl)
  have hm : ∀ k : Fin 32768, (masked ids u (hred.lift (ix1 s) k) : EReal) = if (ids (ix1 k)).toNat = s.val then (u (ix1 k) : EReal) else ⊥ :=
    fun k => (congrArg (masked ids u) (hl k)).trans (masked_at ids u hr s k)
  constructor
  · intro h k hk
    have h' : (masked ids u (hred.lift (ix1 s) k) : EReal) ≤ c := h.2 k (Finset.mem_univ _)
    rw [hm k, if_pos hk] at h'
    exact h'
  · intro h
    refine ⟨bot_le, fun (k : Fin 32768) _ => ?_⟩
    show (masked ids u (hred.lift (ix1 s) k) : EReal) ≤ c
    rw [hm k]
    split
    · next hk => exact h k hk
    · exact bot_le

/-- An item's exponential goes to its segment. -/
theorem lands (k : Fin 32768) (s : Fin 16) :
    scatter_S16_S32768x1_S32768_n_0_0_1.resultIdx? (ix1 k) (broadcastInDim S32768x1 ![0] bcast_S32768_S32768x1_0 ids) = some (ix1 s)
      ↔ (ids (ix1 k)).toNat = s.val := by
  have hi : broadcastInDim S32768x1 ![0] bcast_S32768_S32768x1_0 ids (ix2 k (0 : Fin 1)) = ids (ix1 k) := by
    pointwise
  have hst : scatter_S16_S32768x1_S32768_n_0_0_1.start (ix1 k) (broadcastInDim S32768x1 ![0] bcast_S32768_S32768x1_0 ids) 0
      = (ids (ix1 k)).toInt := by
    rw [← hi]
    have e : scatter_S16_S32768x1_S32768_n_0_0_1.siIdx (ix1 k) ⟨0, Nat.one_pos⟩ = ix2 k (0 : Fin 1) := funext fun a => Fin.ext (by
      match a with
      | ⟨0, _⟩ => rfl
      | ⟨1, _⟩ => rfl)
    rw [← e]
    rfl
  have hwi : scatter_S16_S32768x1_S32768_n_0_0_1.window (ix1 k) 0 = 0 := rfl
  have h := hr k
  have := BitVec.toInt_eq_toNat_cond (ids (ix1 k))
  refine (Routing.resultIdx?_ix1 _ _ _ s).trans ?_
  rw [hst, hwi]
  split at this <;> omega

theorem totals_at (e : FVec Ideal S32768 .f32) (s : Fin 16) :
    (totals ids e (ix1 s) : EReal) = ∑ k : Fin 32768, if (ids (ix1 k)).toNat = s.val then (e (ix1 k) : EReal) else 0 := by
  have hz : (broadcastInDim S16 ![] bcast_S_S16 (constant (F := Ideal) S_ .f32 0x00000000#32) (ix1 s) : EReal) = 0 := by
    pointwise
  unfold totals Host.scatterAdd
  rw [Ideal.hostScatterAdd_def]
  unfold Ideal.hostScatterAdd
  rw [hz, zero_add, Finset.sum_filter, sum_idx1]
  refine Finset.sum_congr rfl fun k _ => if_congr ?_ rfl rfl
  exact lands ids hr k s

end Cert.Proof.Ref

end
-- ==== Proof.SameVal.lean ====
module

public import proofs.«01_k».proof.Proof.Bounds
public import proofs.«01_k».proof.Proof.RefVal

@[expose] public section

/-! # The two results are one -/

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

attribute [local instance] stages

variable (x : FVec Ideal S32768x32 .f32) (ids : IVec S32768 32) (w : FVec Ideal S1x32 .f32)

/-- The utilities and the segments by position. -/
abbrev utilRow : ℕ → Ideal .f32 := posOf (n := 32768) (by decide) (fun i : S32768.Idx => utilAt x w (i 0))
abbrev segRow : ℕ → BitVec 32 := posOf (n := 32768) (by decide) ids

theorem uu_at (k : Fin 32768) : utilRow x w k.val = utilAt x w k := posOf_lt _ _ k
theorem ii_at (k : Fin 32768) : segRow ids k.val = ids (ix1 k) := posOf_lt _ _ k

theorem fin_sum (f : ℕ → EReal) (n : ℕ) : ∑ k : Fin n, f k.val = ∑ k ∈ Finset.range n, f k := Fin.sum_univ_eq_sum_range f n

theorem divf_at (a b : FVec Ideal S32768 .f32) (i : S32768.Idx) : (Host.divf a b i : EReal) = Ideal.div (a i) (b i) := rfl

theorem refutil_at (k : Fin 32768) : (Ref.util x w (ix1 k) : EReal) = utilRow x w k.val :=
  (Ref.util_at x w k).trans (uu_at x w k).symm

variable (h : Ordered (segRow ids) 32768)
include h

theorem small_of (k : Fin 32768) : (ids (ix1 k)).toNat < 16 := by
  rw [← ii_at ids k]
  exact h.lt _ k.isLt

theorem maxes_eq (s : Fin 16) : (Ref.maxes ids (Ref.util x w) (ix1 s) : EReal) = segMax (utilRow x w) (segRow ids) (lane s.val) := by
  refine eq_of_forall_ge_iff fun c => ?_
  rw [Ref.maxes_le ids _ (small_of ids h), segMax_le h, lane_of_lt s.isLt]
  constructor
  · intro hh k hk e
    have e' : (ids (ix1 ⟨k, hk⟩)).toNat = s.val := by rw [← ii_at ids ⟨k, hk⟩]; exact e
    have := hh ⟨k, hk⟩ e'
    rw [refutil_at] at this
    exact this
  · intro hh k e
    rw [refutil_at]
    exact hh k.val k.isLt (by rw [ii_at]; exact e)

theorem exps_eq (k : Fin 32768) : (Ref.exps ids (Ref.util x w) (ix1 k) : EReal) = expAt (segMax (utilRow x w) (segRow ids)) (utilRow x w) (segRow ids) k.val := by
  have e : (Host.gather Cert.ReferenceIdeal.gather_S16_S32768x1_S32768_n_0_n_n_0_1_1 (Ref.maxes ids (Ref.util x w)) (Ref.sel ids) (ix1 k) : EReal)
      = segMax (utilRow x w) (segRow ids) (lane (segRow ids k.val).toNat) := by
    rw [Ref.take_at ids (small_of ids h), maxes_eq x ids w h, ii_at]
  show Ideal.exp ((Ref.util x w (ix1 k) : EReal) - (Host.gather Cert.ReferenceIdeal.gather_S16_S32768x1_S32768_n_0_n_n_0_1_1 (Ref.maxes ids (Ref.util x w)) (Ref.sel ids) (ix1 k) : EReal)) = _
  rw [e, refutil_at]
  rfl

theorem totals_eq (s : Fin 16) : (Ref.totals ids (Ref.exps ids (Ref.util x w)) (ix1 s) : EReal) = segTotal (utilRow x w) (segRow ids) s.val := by
  rw [Ref.totals_at ids (small_of ids h)]
  unfold segTotal
  refine Eq.trans ?_ (fin_sum (fun k => if (segRow ids k).toNat = s.val then expAt (segMax (utilRow x w) (segRow ids)) (utilRow x w) (segRow ids) k else 0) 32768)
  refine Finset.sum_congr rfl fun k _ => ?_
  rw [exps_eq x ids w h, ii_at]

/-- The reference's quotient at row `k` is the kernel's. -/
theorem quotient_at (hU : Finite (utilRow x w)) (k : Fin 32768) :
    (Host.divf (Ref.exps ids (Ref.util x w)) (Host.gather Cert.ReferenceIdeal.gather_S16_S32768x1_S32768_n_0_n_n_0_1_1 (Ref.totals ids (Ref.exps ids (Ref.util x w))) (Ref.sel ids)) (ix1 k) : EReal)
      = outAll (F := Ideal) (utilRow x w) (segRow ids) k.val := by
  have e : (Host.gather Cert.ReferenceIdeal.gather_S16_S32768x1_S32768_n_0_n_n_0_1_1 (Ref.totals ids (Ref.exps ids (Ref.util x w))) (Ref.sel ids) (ix1 k) : EReal)
      = segTotal (utilRow x w) (segRow ids) (segRow ids k.val).toNat := by
    rw [Ref.take_at ids (small_of ids h), totals_eq x ids w h, ii_at]
  refine (divf_at _ _ _).trans ?_
  rw [e, exps_eq x ids w h]
  exact (outAll_eq h hU k.isLt).symm

/-- So the results are one. -/
theorem value_eq (hU : Finite (utilRow x w)) : Ref.value ids (Ref.exps ids (Ref.util x w))
    = broadcastInDim S32768x1 ![0] bcast_S32768_S32768x1_0 (fun i : S32768.Idx => outAll (F := Ideal) (utilRow x w) (segRow ids) (i 0).val) := by
  have e : (Host.divf (Ref.exps ids (Ref.util x w)) (Host.gather Cert.ReferenceIdeal.gather_S16_S32768x1_S32768_n_0_n_n_0_1_1 (Ref.totals ids (Ref.exps ids (Ref.util x w))) (Ref.sel ids)) : FVec Ideal S32768 .f32)
      = fun i : S32768.Idx => outAll (F := Ideal) (utilRow x w) (segRow ids) (i 0).val := funext fun i => by
    rw [← ix1_eta i]
    exact quotient_at x ids w h hU (i 0)
  unfold Ref.value
  rw [e]

end Cert.Proof.Sc

end
-- ==== Proof.Algebraic.lean ====
module

public import proofs.«01_k».proof.Proof.Frames
public import proofs.«01_k».proof.Proof.SameVal

@[expose] public section

/-! # The value -/

noncomputable section

namespace Cert.Proof

open Idealize.ShloMosaic Idealize.SL.Sem

/-- `Cert.quiescent_ReferenceIdeal_pre_finite_sorted_ids`: the reference's run again. -/
theorem frame_reference_pre : Cert.quiescent_ReferenceIdeal_pre_finite_sorted_ids := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal in
/-- The kernel's result is the reference's value of the kernel's arguments. -/
theorem result_eq (m : (ℓ : Loc nD τ sig) → Buf (Elt Ideal) ℓ) (hp : Cert.Pre_KernelIdeal m) (d : Dev nD) :
    Ref.value (m ((d.tc : Thread nD τ).loc main_arg1)) (Ref.exps (m ((d.tc : Thread nD τ).loc main_arg1))
        (Ref.util (m ((d.tc : Thread nD τ).loc main_arg0)) (m ((d.tc : Thread nD τ).loc main_arg2))))
      = Sc.result (F := Ideal) (fun d => Sc.posOf (n := 32768) (by decide) (Sc.utilBuf m d)) (fun d => Sc.posOf (n := 32768) (by decide) (m (Sc.iLoc d))) d := by
  have hf := hp d
  have ho := Sc.ordered_of (m ((d.tc : Thread nD τ).loc main_arg1)) (Pre.range _ _ _ hf.1) (Pre.sorted _ _ _ hf.2.1)
  have hU : Sc.Finite (Sc.utilRow (m ((d.tc : Thread nD τ).loc main_arg0)) (m ((d.tc : Thread nD τ).loc main_arg2))) := fun k hk => by
    have e := Sc.uu_at (m ((d.tc : Thread nD τ).loc main_arg0)) (m ((d.tc : Thread nD τ).loc main_arg2)) ⟨k, hk⟩
    obtain ⟨r, hr⟩ := Sc.utilAt_real (m ((d.tc : Thread nD τ).loc main_arg0)) (m ((d.tc : Thread nD τ).loc main_arg2))
      (fun i => Sc.real_of _ (Pre.finite_x _ _ _ hf.2.2.1 i)) (fun i => Sc.real_of _ (Pre.finite_w _ _ _ hf.2.2.2 i)) ⟨k, hk⟩
    exact ⟨r, e.trans hr⟩
  refine (Sc.value_eq _ _ _ ho hU).trans ?_
  unfold Sc.result
  dsimp only
  rw [Sc.utilBuf_eq m d]

/-- `Cert.algebraic_KernelIdeal_ReferenceIdeal`: from arguments in order and finite, the kernel's result is the reference's. -/
theorem algebraic : Cert.algebraic_KernelIdeal_ReferenceIdeal := fun m g m' g' hp hargs =>
  ⟨fun d => Sc.result (F := Ideal) (fun d => Sc.posOf (n := 32768) (by decide) (Sc.utilBuf m d)) (fun d => Sc.posOf (n := 32768) (by decide) (m (Sc.iLoc d))) d,
    (θ_run Cert.KernelIdeal.defs _ _).mono (fun _ h c => ⟨(h.1 c).2.2.2, (h.1 c).1, (h.1 c).2.1, (h.1 c).2.2.1⟩)
      (Sc.run_all (F := Ideal) m g fun d k => Pre.range _ _ _ (hp d).1 _),
    (θ_run Cert.ReferenceIdeal.defs _ _).mono (fun _ h c => ⟨(h c).1.trans (by
        refine (Ref.res_eq m' c).trans ?_
        rw [(hargs c).1, (hargs c).2.1, (hargs c).2.2]
        exact result_eq m hp c), (h c).2⟩)
      (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Pre.facts,
    frame_kernel, frame_ideal, frame_reference, frame_reference_pre, trivial, algebraic⟩

end Cert.Proof

end
